-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)) (v2 : (c : Dev Cert.KernelIdeal.nD) → Buf (Elt Ideal) ((c.tc : Thread Cert.KernelIdeal.nD Cert.KernelIdeal.τ).loc Cert.KernelIdeal.main_v30_2)) (v3 : (c : Dev Cert.KernelIdeal.nD) → Buf (Elt Ideal) ((c.tc : Thread Cert.KernelIdeal.nD Cert.KernelIdeal.τ).loc Cert.KernelIdeal.main_v30_3)) (v4 : (c : Dev Cert.KernelIdeal.nD) → Buf (Elt Ideal) ((c.tc : Thread Cert.KernelIdeal.nD Cert.KernelIdeal.τ).loc Cert.KernelIdeal.main_v30_4)) (v5 : (c : Dev Cert.KernelIdeal.nD) → Buf (Elt Ideal) ((c.tc : Thread Cert.KernelIdeal.nD Cert.KernelIdeal.τ).loc Cert.KernelIdeal.main_v30_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_v30_2) = v2 c
          ∧ r.2.mem ((c.tc : Thread Cert.KernelIdeal.nD Cert.KernelIdeal.τ).loc Cert.KernelIdeal.main_v30_3) = v3 c
          ∧ r.2.mem ((c.tc : Thread Cert.KernelIdeal.nD Cert.KernelIdeal.τ).loc Cert.KernelIdeal.main_v30_4) = v4 c
          ∧ r.2.mem ((c.tc : Thread Cert.KernelIdeal.nD Cert.KernelIdeal.τ).loc Cert.KernelIdeal.main_v30_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_v27) = v3 c
          ∧ r.2.mem ((c.tc : Thread Cert.ReferenceIdeal.nD Cert.ReferenceIdeal.τ).loc Cert.ReferenceIdeal.main_v31) = v4 c
          ∧ r.2.mem ((c.tc : Thread Cert.ReferenceIdeal.nD Cert.ReferenceIdeal.τ).loc Cert.ReferenceIdeal.main_v33) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v19)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  IdealRules.named_const.Statement Cert.Kernel3Ideal.κ "inv_head" .f32 0x3C2AAAAB#32 ((1 / 96 : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v94_0)) (v1 : (c : Dev Cert.Kernel3Ideal.nD) → Buf (Elt Ideal) ((c.tc : Thread Cert.Kernel3Ideal.nD Cert.Kernel3Ideal.τ).loc Cert.Kernel3Ideal.main_v94_1)) (v2 : (c : Dev Cert.Kernel3Ideal.nD) → Buf (Elt Ideal) ((c.tc : Thread Cert.Kernel3Ideal.nD Cert.Kernel3Ideal.τ).loc Cert.Kernel3Ideal.main_v94_2)) (v3 : (c : Dev Cert.Kernel3Ideal.nD) → Buf (Elt Ideal) ((c.tc : Thread Cert.Kernel3Ideal.nD Cert.Kernel3Ideal.τ).loc Cert.Kernel3Ideal.main_v94_3)) (v4 : (c : Dev Cert.Kernel3Ideal.nD) → Buf (Elt Ideal) ((c.tc : Thread Cert.Kernel3Ideal.nD Cert.Kernel3Ideal.τ).loc Cert.Kernel3Ideal.main_v94_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v94_0) = v0 c
          ∧ r.2.mem ((c.tc : Thread Cert.Kernel3Ideal.nD Cert.Kernel3Ideal.τ).loc Cert.Kernel3Ideal.main_v94_1) = v1 c
          ∧ r.2.mem ((c.tc : Thread Cert.Kernel3Ideal.nD Cert.Kernel3Ideal.τ).loc Cert.Kernel3Ideal.main_v94_2) = v2 c
          ∧ r.2.mem ((c.tc : Thread Cert.Kernel3Ideal.nD Cert.Kernel3Ideal.τ).loc Cert.Kernel3Ideal.main_v94_3) = v3 c
          ∧ r.2.mem ((c.tc : Thread Cert.Kernel3Ideal.nD Cert.Kernel3Ideal.τ).loc Cert.Kernel3Ideal.main_v94_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v203) = v0 c
          ∧ r.2.mem ((c.tc : Thread Cert.Reference3Ideal.nD Cert.Reference3Ideal.τ).loc Cert.Reference3Ideal.main_v204) = v1 c
          ∧ r.2.mem ((c.tc : Thread Cert.Reference3Ideal.nD Cert.Reference3Ideal.τ).loc Cert.Reference3Ideal.main_v208) = v2 c
          ∧ r.2.mem ((c.tc : Thread Cert.Reference3Ideal.nD Cert.Reference3Ideal.τ).loc Cert.Reference3Ideal.main_v212) = v3 c
          ∧ r.2.mem ((c.tc : Thread Cert.Reference3Ideal.nD Cert.Reference3Ideal.τ).loc Cert.Reference3Ideal.main_v216) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  IdealRules.named_const.Statement Cert.Kernel4Ideal.κ "inv_head" .f32 0x3C2AAAAB#32 ((1 / 96 : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v26_0)) (v1 : (c : Dev Cert.Kernel4Ideal.nD) → Buf (Elt Ideal) ((c.tc : Thread Cert.Kernel4Ideal.nD Cert.Kernel4Ideal.τ).loc Cert.Kernel4Ideal.main_v26_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v26_0) = v0 c
          ∧ r.2.mem ((c.tc : Thread Cert.Kernel4Ideal.nD Cert.Kernel4Ideal.τ).loc Cert.Kernel4Ideal.main_v26_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v73) = v0 c
          ∧ r.2.mem ((c.tc : Thread Cert.Reference4Ideal.nD Cert.Reference4Ideal.τ).loc Cert.Reference4Ideal.main_v77) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S4x4096x8x96 : Shape := ⟨4, ![4, 4096, 8, 96]⟩
abbrev S4x4096x8x64 : Shape := ⟨4, ![4, 4096, 8, 64]⟩
abbrev S4x256x8x96 : Shape := ⟨4, ![4, 256, 8, 96]⟩
abbrev S4x256x8x64 : Shape := ⟨4, ![4, 256, 8, 64]⟩
abbrev S1x512x1024 : Shape := ⟨3, ![1, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S_ : Shape := ⟨0, ![]⟩

class Facts : Prop where
  bcast_S_S4x4096x8x96 : S_.BroadcastsInDim S4x4096x8x96 (![] : Fin 0 → Fin S4x4096x8x96.rank)
  reducesTo_S4x4096x8x96_S_d0_1_2_3 : S4x4096x8x96.ReducesTo [0, 1, 2, 3] S_
  h_S_ : 0 < S_.numel
  bcast_S_S4x256x8x96 : S_.BroadcastsInDim S4x256x8x96 (![] : Fin 0 → Fin S4x256x8x96.rank)
  reducesTo_S4x256x8x96_S_d0_1_2_3 : S4x256x8x96.ReducesTo [0, 1, 2, 3] S_

variable [Facts]

def fn {F : FTy → Type} [FloatOps F] (main_arg0 : FVec F S4x4096x8x96 .f32) (main_arg1 : FVec F S4x4096x8x96 .f32) (main_arg2 : FVec F S4x4096x8x64 .f32) (main_arg3 : FVec F S4x256x8x96 .f32) (main_arg4 : FVec F S4x256x8x64 .f32) (main_arg5 : FVec F S1x512x1024 .f32) (main_arg6 : FVec F S1x512x1024 .f32) (main_arg7 : FVec F S1x1024x1024 .f32) (main_arg8 : FVec F S1x1024x4096 .f32) (main_arg9 : FVec F S1x4096x1024 .f32) : IVec S_ 1 :=
  let main_v0 : FVec F S4x4096x8x96 .f32 := Host.absf main_arg0
  let main_cst : FVec F S_ .f32 := constant S_ .f32 0x7F800000#32
  let main_v1 : FVec F S4x4096x8x96 .f32 := broadcastInDim S4x4096x8x96 ![] bcast_S_S4x4096x8x96 main_cst
  let main_v2 : IVec S4x4096x8x96 1 := cmpf .olt main_v0 main_v1
  let main_c : IVec S_ 1 := constantI S_ 1 1#1
  let main_v3 : IVec S_ 1 := (fun x v => Host.reduce IntOp.andi x v reducesTo_S4x4096x8x96_S_d0_1_2_3 h_S_) main_v2 main_c
  let main_v4 : FVec F S4x4096x8x96 .f32 := Host.absf main_arg1
  let main_cst_0 : FVec F S_ .f32 := constant S_ .f32 0x7F800000#32
  let main_v5 : FVec F S4x4096x8x96 .f32 := broadcastInDim S4x4096x8x96 ![] bcast_S_S4x4096x8x96 main_cst_0
  let main_v6 : IVec S4x4096x8x96 1 := cmpf .olt main_v4 main_v5
  let main_c_1 : IVec S_ 1 := constantI S_ 1 1#1
  let main_v7 : IVec S_ 1 := (fun x v => Host.reduce IntOp.andi x v reducesTo_S4x4096x8x96_S_d0_1_2_3 h_S_) main_v6 main_c_1
  let main_v8 : IVec S_ 1 := andi main_v3 main_v7
  let main_v9 : FVec F S4x256x8x96 .f32 := Host.absf main_arg3
  let main_cst_2 : FVec F S_ .f32 := constant S_ .f32 0x7F800000#32
  let main_v10 : FVec F S4x256x8x96 .f32 := broadcastInDim S4x256x8x96 ![] bcast_S_S4x256x8x96 main_cst_2
  let main_v11 : IVec S4x256x8x96 1 := cmpf .olt main_v9 main_v10
  let main_c_3 : IVec S_ 1 := constantI S_ 1 1#1
  let main_v12 : IVec S_ 1 := (fun x v => Host.reduce IntOp.andi x v reducesTo_S4x256x8x96_S_d0_1_2_3 h_S_) main_v11 main_c_3
  let main_v13 : IVec S_ 1 := andi main_v8 main_v12
  main_v13
-- ==== Kernel.lean ====
abbrev S4x4096x8x96 : Shape := ⟨4, ![4, 4096, 8, 96]⟩
abbrev S4x4096x8x64 : Shape := ⟨4, ![4, 4096, 8, 64]⟩
abbrev S4x256x8x96 : Shape := ⟨4, ![4, 256, 8, 96]⟩
abbrev S4x256x8x64 : Shape := ⟨4, ![4, 256, 8, 64]⟩
abbrev S1x512x1024 : Shape := ⟨3, ![1, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S_ : Shape := ⟨0, ![]⟩
abbrev S4x8x96x4096 : Shape := ⟨4, ![4, 8, 96, 4096]⟩
abbrev S4x8x32x4096 : Shape := ⟨4, ![4, 8, 32, 4096]⟩
abbrev S4x8x128x4096 : Shape := ⟨4, ![4, 8, 128, 4096]⟩
abbrev S4x8x4096x96 : Shape := ⟨4, ![4, 8, 4096, 96]⟩
abbrev S4x8x4096x32 : Shape := ⟨4, ![4, 8, 4096, 32]⟩
abbrev S4x8x4096x128 : Shape := ⟨4, ![4, 8, 4096, 128]⟩
abbrev S4x8x64x4096 : Shape := ⟨4, ![4, 8, 64, 4096]⟩
abbrev S4x8x16x4096 : Shape := ⟨4, ![4, 8, 16, 4096]⟩
abbrev S4x8x80x4096 : Shape := ⟨4, ![4, 8, 80, 4096]⟩
abbrev S4x8x256x96 : Shape := ⟨4, ![4, 8, 256, 96]⟩
abbrev S4x8x256x32 : Shape := ⟨4, ![4, 8, 256, 32]⟩
abbrev S4x8x256x128 : Shape := ⟨4, ![4, 8, 256, 128]⟩
abbrev S4x8x64x256 : Shape := ⟨4, ![4, 8, 64, 256]⟩
abbrev S4x8x16x256 : Shape := ⟨4, ![4, 8, 16, 256]⟩
abbrev S4x8x80x256 : Shape := ⟨4, ![4, 8, 80, 256]⟩
abbrev S512x1024 : Shape := ⟨2, ![512, 1024]⟩
abbrev S1024x1024 : Shape := ⟨2, ![1024, 1024]⟩
abbrev S1024x4096 : Shape := ⟨2, ![1024, 4096]⟩
abbrev S4096x1024 : Shape := ⟨2, ![4096, 1024]⟩
abbrev S4x512x4096 : Shape := ⟨3, ![4, 512, 4096]⟩
abbrev S4x1024x1024 : Shape := ⟨3, ![4, 1024, 1024]⟩
abbrev S1x1x128x4096 : Shape := ⟨4, ![1, 1, 128, 4096]⟩
abbrev S1x1x4096x128 : Shape := ⟨4, ![1, 1, 4096, 128]⟩
abbrev S1x1x80x4096 : Shape := ⟨4, ![1, 1, 80, 4096]⟩
abbrev S1x1x256x128 : Shape := ⟨4, ![1, 1, 256, 128]⟩
abbrev S1x1x80x256 : Shape := ⟨4, ![1, 1, 80, 256]⟩
abbrev S16x1024 : Shape := ⟨2, ![16, 1024]⟩
abbrev S32x1024 : Shape := ⟨2, ![32, 1024]⟩
abbrev S1024x128 : Shape := ⟨2, ![1024, 128]⟩
abbrev S128x1024 : Shape := ⟨2, ![128, 1024]⟩
abbrev S1x64x4096 : Shape := ⟨3, ![1, 64, 4096]⟩
abbrev S1x1024x128 : Shape := ⟨3, ![1, 1024, 128]⟩
abbrev S256x128 : Shape := ⟨2, ![256, 128]⟩
abbrev S1x1x128x512 : Shape := ⟨4, ![1, 1, 128, 512]⟩
abbrev S128x512 : Shape := ⟨2, ![128, 512]⟩
abbrev S256x512 : Shape := ⟨2, ![256, 512]⟩
abbrev S1x512 : Shape := ⟨2, ![1, 512]⟩
abbrev S80x512 : Shape := ⟨2, ![80, 512]⟩
abbrev S80x256 : Shape := ⟨2, ![80, 256]⟩
abbrev S32x8x512 : Shape := ⟨3, ![32, 8, 512]⟩
abbrev S8x512 : Shape := ⟨2, ![8, 512]⟩
abbrev S512 : Shape := ⟨1, ![512]⟩
abbrev S64x512 : Shape := ⟨2, ![64, 512]⟩
abbrev S1x64x512 : Shape := ⟨3, ![1, 64, 512]⟩

abbrev nBuf : Space → Nat
  | .hbm => 53
  | .vmem => 32
  | .smem => 0
  | _ => 0

abbrev bufTy : (tb : Table) → Fin (tcTables nBuf tb) → BufTy
  | .hbm, ⟨0, _⟩ => ⟨S4x4096x8x96, .f32⟩
  | .hbm, ⟨1, _⟩ => ⟨S4x4096x8x96, .f32⟩
  | .hbm, ⟨2, _⟩ => ⟨S4x4096x8x64, .f32⟩
  | .hbm, ⟨3, _⟩ => ⟨S4x256x8x96, .f32⟩
  | .hbm, ⟨4, _⟩ => ⟨S4x256x8x64, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024x4096, .f32⟩
  | .hbm, ⟨9, _⟩ => ⟨S1x4096x1024, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4x4096x8x96, .f32⟩
  | .hbm, ⟨16, _⟩ => ⟨S4x4096x8x96, .f32⟩
  | .hbm, ⟨17, _⟩ => ⟨S4x8x96x4096, .f32⟩
  | .hbm, ⟨18, _⟩ => ⟨S_, .f32⟩
  | .hbm, ⟨19, _⟩ => ⟨S4x8x32x4096, .f32⟩
  | .hbm, ⟨20, _⟩ => ⟨S4x8x128x4096, .f32⟩
  | .hbm, ⟨21, _⟩ => ⟨S4x8x128x4096, .bf16⟩
  | .hbm, ⟨22, _⟩ => ⟨S4x8x4096x96, .f32⟩
  | .hbm, ⟨23, _⟩ => ⟨S_, .f32⟩
  | .hbm, ⟨24, _⟩ => ⟨S4x8x4096x32, .f32⟩
  | .hbm, ⟨25, _⟩ => ⟨S4x8x4096x128, .f32⟩
  | .hbm, ⟨26, _⟩ => ⟨S4x8x4096x128, .bf16⟩
  | .hbm, ⟨27, _⟩ => ⟨S4x8x64x4096, .f32⟩
  | .hbm, ⟨28, _⟩ => ⟨S_, .f32⟩
  | .hbm, ⟨29, _⟩ => ⟨S4x8x16x4096, .f32⟩
  | .hbm, ⟨30, _⟩ => ⟨S4x8x80x4096, .f32⟩
  | .hbm, ⟨31, _⟩ => ⟨S4x8x80x4096, .bf16⟩
  | .hbm, ⟨32, _⟩ => ⟨S4x8x256x96, .f32⟩
  | .hbm, ⟨33, _⟩ => ⟨S_, .f32⟩
  | .hbm, ⟨34, _⟩ => ⟨S4x8x256x32, .f32⟩
  | .hbm, ⟨35, _⟩ => ⟨S4x8x256x128, .f32⟩
  | .hbm, ⟨36, _⟩ => ⟨S4x8x256x128, .bf16⟩
  | .hbm, ⟨37, _⟩ => ⟨S4x8x64x256, .f32⟩
  | .hbm, ⟨38, _⟩ => ⟨S_, .f32⟩
  | .hbm, ⟨39, _⟩ => ⟨S4x8x16x256, .f32⟩
  | .hbm, ⟨40, _⟩ => ⟨S4x8x80x256, .f32⟩
  | .hbm, ⟨41, _⟩ => ⟨S4x8x80x256, .bf16⟩
  | .hbm, ⟨42, _⟩ => ⟨S512x1024, .f32⟩
  | .hbm, ⟨43, _⟩ => ⟨S512x1024, .f32⟩
  | .hbm, ⟨44, _⟩ => ⟨S1024x1024, .f32⟩
  | .hbm, ⟨45, _⟩ => ⟨S1024x4096, .f32⟩
  | .hbm, ⟨46, _⟩ => ⟨S4096x1024, .f32⟩
  | .hbm, ⟨47, _⟩ => ⟨S4x512x4096, .bf16⟩
  | .hbm, ⟨48, _⟩ => ⟨S512x1024, .bf16⟩
  | .hbm, ⟨49, _⟩ => ⟨S512x1024, .bf16⟩
  | .hbm, ⟨50, _⟩ => ⟨S1024x1024, .bf16⟩
  | .hbm, ⟨51, _⟩ => ⟨S4x1024x1024, .bf16⟩
  | .hbm, ⟨52, _⟩ => ⟨S4096x1024, .bf16⟩
  | .local _ .vmem, ⟨0, _⟩ => ⟨S1x1x128x4096, .bf16⟩
  | .local _ .vmem, ⟨1, _⟩ => ⟨S1x1x128x4096, .bf16⟩
  | .local _ .vmem, ⟨2, _⟩ => ⟨S1x1x4096x128, .bf16⟩
  | .local _ .vmem, ⟨3, _⟩ => ⟨S1x1x4096x128, .bf16⟩
  | .local _ .vmem, ⟨4, _⟩ => ⟨S1x1x80x4096, .bf16⟩
  | .local _ .vmem, ⟨5, _⟩ => ⟨S1x1x80x4096, .bf16⟩
  | .local _ .vmem, ⟨6, _⟩ => ⟨S1x1x256x128, .bf16⟩
  | .local _ .vmem, ⟨7, _⟩ => ⟨S1x1x256x128, .bf16⟩
  | .local _ .vmem, ⟨8, _⟩ => ⟨S1x1x80x256, .bf16⟩
  | .local _ .vmem, ⟨9, _⟩ => ⟨S1x1x80x256, .bf16⟩
  | .local _ .vmem, ⟨10, _⟩ => ⟨S16x1024, .f32⟩
  | .local _ .vmem, ⟨11, _⟩ => ⟨S16x1024, .f32⟩
  | .local _ .vmem, ⟨12, _⟩ => ⟨S16x1024, .f32⟩
  | .local _ .vmem, ⟨13, _⟩ => ⟨S16x1024, .f32⟩
  | .local _ .vmem, ⟨14, _⟩ => ⟨S32x1024, .f32⟩
  | .local _ .vmem, ⟨15, _⟩ => ⟨S32x1024, .f32⟩
  | .local _ .vmem, ⟨16, _⟩ => ⟨S1024x128, .f32⟩
  | .local _ .vmem, ⟨17, _⟩ => ⟨S1024x128, .f32⟩
  | .local _ .vmem, ⟨18, _⟩ => ⟨S128x1024, .f32⟩
  | .local _ .vmem, ⟨19, _⟩ => ⟨S128x1024, .f32⟩
  | .local _ .vmem, ⟨20, _⟩ => ⟨S1x64x4096, .bf16⟩
  | .local _ .vmem, ⟨21, _⟩ => ⟨S1x64x4096, .bf16⟩
  | .local _ .vmem, ⟨22, _⟩ => ⟨S16x1024, .bf16⟩
  | .local _ .vmem, ⟨23, _⟩ => ⟨S16x1024, .bf16⟩
  | .local _ .vmem, ⟨24, _⟩ => ⟨S16x1024, .bf16⟩
  | .local _ .vmem, ⟨25, _⟩ => ⟨S16x1024, .bf16⟩
  | .local _ .vmem, ⟨26, _⟩ => ⟨S32x1024, .bf16⟩
  | .local _ .vmem, ⟨27, _⟩ => ⟨S32x1024, .bf16⟩
  | .local _ .vmem, ⟨28, _⟩ => ⟨S1x1024x128, .bf16⟩
  | .local _ .vmem, ⟨29, _⟩ => ⟨S1x1024x128, .bf16⟩
  | .local _ .vmem, ⟨30, _⟩ => ⟨S128x1024, .bf16⟩
  | .local _ .vmem, ⟨31, _⟩ => ⟨S128x1024, .bf16⟩
  | _, _ => ⟨S4x4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30_0 : Ref sig .tc := ⟨.hbm, 47, rfl⟩
abbrev main_v30_1 : Ref sig .tc := ⟨.hbm, 48, rfl⟩
abbrev main_v30_2 : Ref sig .tc := ⟨.hbm, 49, rfl⟩
abbrev main_v30_3 : Ref sig .tc := ⟨.hbm, 50, rfl⟩
abbrev main_v30_4 : Ref sig .tc := ⟨.hbm, 51, rfl⟩
abbrev main_v30_5 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c8_i32_0 : BitVec 32 := 8#32
  let v2 : BitVec 32 := Scalar.divsi v1 c8_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32_0 c0_i32_2
  let v9 : BitVec 32 := Scalar.extui v8
  let c0_i32_3 : BitVec 32 := 0#32
  let v10 : BitVec 1 := Scalar.cmpi .slt c8_i32_0 c0_i32_3
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let v19 : BitVec 32 := Scalar.muli arg0 c8_i32_5
  let v20 : BitVec 32 := Scalar.addi v19 arg1
  let c8_i32_6 : BitVec 32 := 8#32
  let c0_i32_7 : BitVec 32 := 0#32
  let v21 : BitVec 1 := Scalar.cmpi .eq c8_i32_6 c0_i32_7
  let c1_i32_8 : BitVec 32 := 1#32
  let v22 : BitVec 32 := Scalar.select v21 c1_i32_8 c8_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let c0_i32_13 : BitVec 32 := 0#32
  ![v18.toNat, c0_i32_12.toNat, v30.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x1x128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x80x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x80x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S16x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S128x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ReferenceIdeal.lean ====
abbrev S4x4096x8x96 : Shape := ⟨4, ![4, 4096, 8, 96]⟩
abbrev S4x4096x8x64 : Shape := ⟨4, ![4, 4096, 8, 64]⟩
abbrev S4x256x8x96 : Shape := ⟨4, ![4, 256, 8, 96]⟩
abbrev S4x256x8x64 : Shape := ⟨4, ![4, 256, 8, 64]⟩
abbrev S1x512x1024 : Shape := ⟨3, ![1, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S4x4352x8x96 : Shape := ⟨4, ![4, 4352, 8, 96]⟩
abbrev S4x4352x8x64 : Shape := ⟨4, ![4, 4352, 8, 64]⟩
abbrev S4x8x4096x4352 : Shape := ⟨4, ![4, 8, 4096, 4352]⟩
abbrev S_ : Shape := ⟨0, ![]⟩
abbrev S4x8x4096 : Shape := ⟨3, ![4, 8, 4096]⟩
abbrev S4x8x4096x1 : Shape := ⟨4, ![4, 8, 4096, 1]⟩
abbrev S4x8x64x4096 : Shape := ⟨4, ![4, 8, 64, 4096]⟩
abbrev S4x4096x512 : Shape := ⟨3, ![4, 4096, 512]⟩
abbrev S4x512x4096 : Shape := ⟨3, ![4, 512, 4096]⟩
abbrev S512x1024 : Shape := ⟨2, ![512, 1024]⟩
abbrev S1024x1024 : Shape := ⟨2, ![1024, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x1024 : Shape := ⟨2, ![4096, 1024]⟩

abbrev nBuf : Space → Nat
  | .hbm => 48
  | .vmem => 0
  | .smem => 0
  | _ => 0

abbrev bufTy : (tb : Table) → Fin (tcTables nBuf tb) → BufTy
  | .hbm, ⟨0, _⟩ => ⟨S4x4096x8x96, .f32⟩
  | .hbm, ⟨1, _⟩ => ⟨S4x4096x8x96, .f32⟩
  | .hbm, ⟨2, _⟩ => ⟨S4x4096x8x64, .f32⟩
  | .hbm, ⟨3, _⟩ => ⟨S4x256x8x96, .f32⟩
  | .hbm, ⟨4, _⟩ => ⟨S4x256x8x64, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024x4096, .f32⟩
  | .hbm, ⟨9, _⟩ => ⟨S1x4096x1024, .f32⟩
  | .hbm, ⟨10, _⟩ => ⟨S4x4352x8x96, .f32⟩
  | .hbm, ⟨11, _⟩ => ⟨S4x4352x8x64, .f32⟩
  | .hbm, ⟨12, _⟩ => ⟨S4x8x4096x4352, .f32⟩
  | .hbm, ⟨13, _⟩ => ⟨S_, .f32⟩
  | .hbm, ⟨14, _⟩ => ⟨S_, .f32⟩
  | .hbm, ⟨15, _⟩ => ⟨S4x8x4096x4352, .f32⟩
  | .hbm, ⟨16, _⟩ => ⟨S4x8x4096x4352, .f32⟩
  | .hbm, ⟨17, _⟩ => ⟨S_, .f32⟩
  | .hbm, ⟨18, _⟩ => ⟨S4x8x4096, .f32⟩
  | .hbm, ⟨19, _⟩ => ⟨S_, .f32⟩
  | .hbm, ⟨20, _⟩ => ⟨S4x8x4096, .f32⟩
  | .hbm, ⟨21, _⟩ => ⟨S4x8x4096, .f32⟩
  | .hbm, ⟨22, _⟩ => ⟨S4x8x4096x1, .f32⟩
  | .hbm, ⟨23, _⟩ => ⟨S4x8x4096x4352, .f32⟩
  | .hbm, ⟨24, _⟩ => ⟨S4x8x4096x4352, .f32⟩
  | .hbm, ⟨25, _⟩ => ⟨S4x8x4096x4352, .f32⟩
  | .hbm, ⟨26, _⟩ => ⟨S_, .f32⟩
  | .hbm, ⟨27, _⟩ => ⟨S4x8x4096, .f32⟩
  | .hbm, ⟨28, _⟩ => ⟨S4x8x4096x1, .f32⟩
  | .hbm, ⟨29, _⟩ => ⟨S4x8x4096x4352, .f32⟩
  | .hbm, ⟨30, _⟩ => ⟨S4x8x4096x4352, .f32⟩
  | .hbm, ⟨31, _⟩ => ⟨S4x8x64x4096, .f32⟩
  | .hbm, ⟨32, _⟩ => ⟨S4x4096x8x64, .f32⟩
  | .hbm, ⟨33, _⟩ => ⟨S4x4096x512, .f32⟩
  | .hbm, ⟨34, _⟩ => ⟨S4x512x4096, .f32⟩
  | .hbm, ⟨35, _⟩ => ⟨S4x512x4096, .bf16⟩
  | .hbm, ⟨36, _⟩ => ⟨S512x1024, .f32⟩
  | .hbm, ⟨37, _⟩ => ⟨S512x1024, .bf16⟩
  | .hbm, ⟨38, _⟩ => ⟨S512x1024, .f32⟩
  | .hbm, ⟨39, _⟩ => ⟨S512x1024, .bf16⟩
  | .hbm, ⟨40, _⟩ => ⟨S1024x1024, .f32⟩
  | .hbm, ⟨41, _⟩ => ⟨S1024x1024, .bf16⟩
  | .hbm, ⟨42, _⟩ => ⟨S1024x4096, .f32⟩
  | .hbm, ⟨43, _⟩ => ⟨S1024x4x1024, .f32⟩
  | .hbm, ⟨44, _⟩ => ⟨S4x1024x1024, .f32⟩
  | .hbm, ⟨45, _⟩ => ⟨S4x1024x1024, .bf16⟩
  | .hbm, ⟨46, _⟩ => ⟨S4096x1024, .f32⟩
  | .hbm, ⟨47, _⟩ => ⟨S4096x1024, .bf16⟩
  | _, _ => ⟨S4x4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Kernel2.lean ====
abbrev S4x4096x512 : Shape := ⟨3, ![4, 4096, 512]⟩
abbrev S4x4096x2048 : Shape := ⟨3, ![4, 4096, 2048]⟩
abbrev S4x4096x1024 : Shape := ⟨3, ![4, 4096, 1024]⟩
abbrev S8x6144 : Shape := ⟨2, ![8, 6144]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x1024 : Shape := ⟨2, ![4096, 1024]⟩
abbrev S4x512x4096 : Shape := ⟨3, ![4, 512, 4096]⟩
abbrev S512x1024 : Shape := ⟨2, ![512, 1024]⟩
abbrev S1024x1024 : Shape := ⟨2, ![1024, 1024]⟩
abbrev S1024 : Shape := ⟨1, ![1024]⟩
abbrev S1x512x512 : Shape := ⟨3, ![1, 512, 512]⟩
abbrev S1x512x2048 : Shape := ⟨3, ![1, 512, 2048]⟩
abbrev S1x6144 : Shape := ⟨2, ![1, 6144]⟩
abbrev S6x1024 : Shape := ⟨2, ![6, 1024]⟩
abbrev S1x256x512 : Shape := ⟨3, ![1, 256, 512]⟩
abbrev S256x512 : Shape := ⟨2, ![256, 512]⟩
abbrev S256x1024 : Shape := ⟨2, ![256, 1024]⟩
abbrev S1x512x256 : Shape := ⟨3, ![1, 512, 256]⟩
abbrev S512x256 : Shape := ⟨2, ![512, 256]⟩
abbrev S1x256x2048 : Shape := ⟨3, ![1, 256, 2048]⟩
abbrev S256x2048 : Shape := ⟨2, ![256, 2048]⟩
abbrev S1x256x1024 : Shape := ⟨3, ![1, 256, 1024]⟩
abbrev S2x1024 : Shape := ⟨2, ![2, 1024]⟩
abbrev S256 : Shape := ⟨1, ![256]⟩
abbrev S256x1 : Shape := ⟨2, ![256, 1]⟩

abbrev nBuf : Space → Nat
  | .hbm => 31
  | .vmem => 17
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x2048, .f32⟩
  | .hbm, ⟨3, _⟩ => ⟨S4x4096x1024, .f32⟩
  | .hbm, ⟨4, _⟩ => ⟨S8x6144, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x4096, .f32⟩
  | .hbm, ⟨10, _⟩ => ⟨S1x4096x1024, .f32⟩
  | .hbm, ⟨11, _⟩ => ⟨S1024x4096, .f32⟩
  | .hbm, ⟨12, _⟩ => ⟨S1024x4x1024, .f32⟩
  | .hbm, ⟨13, _⟩ => ⟨S4x1024x1024, .f32⟩
  | .hbm, ⟨14, _⟩ => ⟨S4x1024x1024, .bf16⟩
  | .hbm, ⟨15, _⟩ => ⟨S4096x1024, .f32⟩
  | .hbm, ⟨16, _⟩ => ⟨S4096x1024, .bf16⟩
  | .hbm, ⟨17, _⟩ => ⟨S4x1024x1024, .bf16⟩
  | .hbm, ⟨18, _⟩ => ⟨S4x4096x512, .bf16⟩
  | .hbm, ⟨19, _⟩ => ⟨S4x512x4096, .f32⟩
  | .hbm, ⟨20, _⟩ => ⟨S4x512x4096, .bf16⟩
  | .hbm, ⟨21, _⟩ => ⟨S4x4096x2048, .bf16⟩
  | .hbm, ⟨22, _⟩ => ⟨S512x1024, .f32⟩
  | .hbm, ⟨23, _⟩ => ⟨S512x1024, .bf16⟩
  | .hbm, ⟨24, _⟩ => ⟨S512x1024, .f32⟩
  | .hbm, ⟨25, _⟩ => ⟨S512x1024, .bf16⟩
  | .hbm, ⟨26, _⟩ => ⟨S1024x1024, .f32⟩
  | .hbm, ⟨27, _⟩ => ⟨S1024x1024, .bf16⟩
  | .hbm, ⟨28, _⟩ => ⟨S1024, .f32⟩
  | .hbm, ⟨29, _⟩ => ⟨S1x1024, .f32⟩
  | .hbm, ⟨30, _⟩ => ⟨S4x4096x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x512x1024, .f32⟩
  | .local _ .vmem, ⟨7, _⟩ => ⟨S1x512x1024, .f32⟩
  | .local _ .vmem, ⟨8, _⟩ => ⟨S8x6144, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S1x1024, .f32⟩
  | .local _ .vmem, ⟨13, _⟩ => ⟨S4x1024x1024, .bf16⟩
  | .local _ .vmem, ⟨14, _⟩ => ⟨S4x1024x1024, .bf16⟩
  | .local _ .vmem, ⟨15, _⟩ => ⟨S1x512x1024, .f32⟩
  | .local _ .vmem, ⟨16, _⟩ => ⟨S1x512x1024, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![4, 8], ![false, false]⟩

def k0_off1 (i : grid0.Coords) : Fin 2 → Nat :=
  let arg0 : BitVec 32 := BitVec.ofNat 32 (i 0).val
  let v0 : Index := Scalar.indexCast arg0
  let c0 : Index := 0#32
  ![v0.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S4x4096x512 : Shape := ⟨3, ![4, 4096, 512]⟩
abbrev S4x4096x2048 : Shape := ⟨3, ![4, 4096, 2048]⟩
abbrev S4x4096x1024 : Shape := ⟨3, ![4, 4096, 1024]⟩
abbrev S8x6144 : Shape := ⟨2, ![8, 6144]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S4x6144 : Shape := ⟨2, ![4, 6144]⟩
abbrev S4x1x6144 : Shape := ⟨3, ![4, 1, 6144]⟩
abbrev S4x1x1024 : Shape := ⟨3, ![4, 1, 1024]⟩
abbrev S512x1024 : Shape := ⟨2, ![512, 1024]⟩
abbrev S1024x1024 : Shape := ⟨2, ![1024, 1024]⟩
abbrev S_ : Shape := ⟨0, ![]⟩
abbrev S4x4096 : Shape := ⟨2, ![4, 4096]⟩
abbrev S4x4096x1 : Shape := ⟨3, ![4, 4096, 1]⟩
abbrev S1024 : Shape := ⟨1, ![1024]⟩
abbrev S1x1x1024 : Shape := ⟨3, ![1, 1, 1024]⟩
abbrev S1024x4096 : Shape := ⟨2, ![1024, 4096]⟩
abbrev S4x4096x4096 : Shape := ⟨3, ![4, 4096, 4096]⟩
abbrev S4096x1024 : Shape := ⟨2, ![4096, 1024]⟩

abbrev nBuf : Space → Nat
  | .hbm => 68
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x2048, .f32⟩
  | .hbm, ⟨3, _⟩ => ⟨S4x4096x1024, .f32⟩
  | .hbm, ⟨4, _⟩ => ⟨S8x6144, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x4096, .f32⟩
  | .hbm, ⟨10, _⟩ => ⟨S1x4096x1024, .f32⟩
  | .hbm, ⟨11, _⟩ => ⟨S4x6144, .f32⟩
  | .hbm, ⟨12, _⟩ => ⟨S4x1x6144, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S4x1x1024, .f32⟩
  | .hbm, ⟨19, _⟩ => ⟨S4x4096x1024, .f32⟩
  | .hbm, ⟨20, _⟩ => ⟨S512x1024, .f32⟩
  | .hbm, ⟨21, _⟩ => ⟨S4x4096x1024, .f32⟩
  | .hbm, ⟨22, _⟩ => ⟨S4x4096x1024, .f32⟩
  | .hbm, ⟨23, _⟩ => ⟨S4x4096x1024, .f32⟩
  | .hbm, ⟨24, _⟩ => ⟨S512x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S1024x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S_, .f32⟩
  | .hbm, ⟨35, _⟩ => ⟨S4x4096, .f32⟩
  | .hbm, ⟨36, _⟩ => ⟨S4x4096x1, .f32⟩
  | .hbm, ⟨37, _⟩ => ⟨S_, .f32⟩
  | .hbm, ⟨38, _⟩ => ⟨S4x4096x1, .f32⟩
  | .hbm, ⟨39, _⟩ => ⟨S4x4096x1, .f32⟩
  | .hbm, ⟨40, _⟩ => ⟨S_, .f32⟩
  | .hbm, ⟨41, _⟩ => ⟨S4x4096x1, .f32⟩
  | .hbm, ⟨42, _⟩ => ⟨S4x4096x1, .f32⟩
  | .hbm, ⟨43, _⟩ => ⟨S4x4096x1, .f32⟩
  | .hbm, ⟨44, _⟩ => ⟨S4x4096x1024, .f32⟩
  | .hbm, ⟨45, _⟩ => ⟨S4x4096x1024, .f32⟩
  | .hbm, ⟨46, _⟩ => ⟨S1024, .f32⟩
  | .hbm, ⟨47, _⟩ => ⟨S1x1x1024, .f32⟩
  | .hbm, ⟨48, _⟩ => ⟨S4x4096x1024, .f32⟩
  | .hbm, ⟨49, _⟩ => ⟨S4x4096x1024, .f32⟩
  | .hbm, ⟨50, _⟩ => ⟨S_, .f32⟩
  | .hbm, ⟨51, _⟩ => ⟨S4x1x1024, .f32⟩
  | .hbm, ⟨52, _⟩ => ⟨S4x1x1024, .f32⟩
  | .hbm, ⟨53, _⟩ => ⟨S4x4096x1024, .f32⟩
  | .hbm, ⟨54, _⟩ => ⟨S4x4096x1024, .f32⟩
  | .hbm, ⟨55, _⟩ => ⟨S4x4096x1024, .f32⟩
  | .hbm, ⟨56, _⟩ => ⟨S4x4096x1024, .f32⟩
  | .hbm, ⟨57, _⟩ => ⟨S1024x4096, .f32⟩
  | .hbm, ⟨58, _⟩ => ⟨S4x4096x4096, .f32⟩
  | .hbm, ⟨59, _⟩ => ⟨S_, .f32⟩
  | .hbm, ⟨60, _⟩ => ⟨S4x4096x4096, .f32⟩
  | .hbm, ⟨61, _⟩ => ⟨S4x4096x4096, .f32⟩
  | .hbm, ⟨62, _⟩ => ⟨S4x4096x4096, .f32⟩
  | .hbm, ⟨63, _⟩ => ⟨S4096x1024, .f32⟩
  | .hbm, ⟨64, _⟩ => ⟨S4x4096x1024, .f32⟩
  | .hbm, ⟨65, _⟩ => ⟨S4x4096x1024, .f32⟩
  | .hbm, ⟨66, _⟩ => ⟨S4x4096x1024, .f32⟩
  | .hbm, ⟨67, _⟩ => ⟨S4x4096x1024, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_cst_0 : Ref sig .tc := ⟨.hbm, 37, rfl⟩
abbrev main_v25 : Ref sig .tc := ⟨.hbm, 38, rfl⟩
abbrev main_v26 : Ref sig .tc := ⟨.hbm, 39, rfl⟩
abbrev main_cst_1 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_2 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_3 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== Kernel3.lean ====
abbrev S4x4096x1024 : Shape := ⟨3, ![4, 4096, 1024]⟩
abbrev S8x6144 : Shape := ⟨2, ![8, 6144]⟩
abbrev S1x1024 : Shape := ⟨2, ![1, 1024]⟩
abbrev S1x1024x2976 : Shape := ⟨3, ![1, 1024, 2976]⟩
abbrev S1x2048 : Shape := ⟨2, ![1, 2048]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S1x96 : Shape := ⟨2, ![1, 96]⟩
abbrev S1024x2976 : Shape := ⟨2, ![1024, 2976]⟩
abbrev S1024x512 : Shape := ⟨2, ![1024, 512]⟩
abbrev S1024x256 : Shape := ⟨2, ![1024, 256]⟩
abbrev S1024x2048 : Shape := ⟨2, ![1024, 2048]⟩
abbrev S1024x8x256 : Shape := ⟨3, ![1024, 8, 256]⟩
abbrev S8x1024x256 : Shape := ⟨3, ![8, 1024, 256]⟩
abbrev S128x1024 : Shape := ⟨2, ![128, 1024]⟩
abbrev S1024x128 : Shape := ⟨2, ![1024, 128]⟩
abbrev S8x128x128 : Shape := ⟨3, ![8, 128, 128]⟩
abbrev S8x64x128 : Shape := ⟨3, ![8, 64, 128]⟩
abbrev S512x128 : Shape := ⟨2, ![512, 128]⟩
abbrev S96 : Shape := ⟨1, ![96]⟩
abbrev S_ : Shape := ⟨0, ![]⟩
abbrev S96x1 : Shape := ⟨2, ![96, 1]⟩
abbrev S96x128 : Shape := ⟨2, ![96, 128]⟩
abbrev S64 : Shape := ⟨1, ![64]⟩
abbrev S64x1 : Shape := ⟨2, ![64, 1]⟩
abbrev S64x128 : Shape := ⟨2, ![64, 128]⟩
abbrev S32 : Shape := ⟨1, ![32]⟩
abbrev S32x1 : Shape := ⟨2, ![32, 1]⟩
abbrev S32x128 : Shape := ⟨2, ![32, 128]⟩
abbrev S1x64 : Shape := ⟨2, ![1, 64]⟩
abbrev S64x64 : Shape := ⟨2, ![64, 64]⟩
abbrev S4096 : Shape := ⟨1, ![4096]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x32 : Shape := ⟨2, ![4096, 32]⟩
abbrev S32x4096 : Shape := ⟨2, ![32, 4096]⟩
abbrev S128 : Shape := ⟨1, ![128]⟩
abbrev S128x1 : Shape := ⟨2, ![128, 1]⟩
abbrev S128x128 : Shape := ⟨2, ![128, 128]⟩
abbrev S128x256 : Shape := ⟨2, ![128, 256]⟩
abbrev S1024 : Shape := ⟨1, ![1024]⟩
abbrev S2048 : Shape := ⟨1, ![2048]⟩
abbrev S256 : Shape := ⟨1, ![256]⟩
abbrev S256x768 : Shape := ⟨2, ![256, 768]⟩
abbrev S768x256 : Shape := ⟨2, ![768, 256]⟩
abbrev S4x2x4096x512 : Shape := ⟨4, ![4, 2, 4096, 512]⟩
abbrev S4x4096x2048 : Shape := ⟨3, ![4, 4096, 2048]⟩
abbrev S4x8x128x4096 : Shape := ⟨4, ![4, 8, 128, 4096]⟩
abbrev S4x8x4096x128 : Shape := ⟨4, ![4, 8, 4096, 128]⟩
abbrev S4x8x80x4096 : Shape := ⟨4, ![4, 8, 80, 4096]⟩
abbrev S1x1024x1024 : Shape := ⟨3, ![1, 1024, 1024]⟩
abbrev S32x1024 : Shape := ⟨2, ![32, 1024]⟩
abbrev S1x2x1024x512 : Shape := ⟨4, ![1, 2, 1024, 512]⟩
abbrev S1x1024x2048 : Shape := ⟨3, ![1, 1024, 2048]⟩
abbrev S1x8x128x1024 : Shape := ⟨4, ![1, 8, 128, 1024]⟩
abbrev S1x8x1024x128 : Shape := ⟨4, ![1, 8, 1024, 128]⟩
abbrev S1x8x80x1024 : Shape := ⟨4, ![1, 8, 80, 1024]⟩
abbrev S1x6144 : Shape := ⟨2, ![1, 6144]⟩
abbrev S6x1024 : Shape := ⟨2, ![6, 1024]⟩
abbrev S1x256x1024 : Shape := ⟨3, ![1, 256, 1024]⟩
abbrev S256x1024 : Shape := ⟨2, ![256, 1024]⟩
abbrev S256x1 : Shape := ⟨2, ![256, 1]⟩
abbrev S256x256 : Shape := ⟨2, ![256, 256]⟩
abbrev S256x512 : Shape := ⟨2, ![256, 512]⟩
abbrev S256x128 : Shape := ⟨2, ![256, 128]⟩
abbrev S32x256 : Shape := ⟨2, ![32, 256]⟩
abbrev S1x1024x256 : Shape := ⟨3, ![1, 1024, 256]⟩
abbrev S1x256x256 : Shape := ⟨3, ![1, 256, 256]⟩
abbrev S512x256 : Shape := ⟨2, ![512, 256]⟩
abbrev S96x256 : Shape := ⟨2, ![96, 256]⟩
abbrev S8x256 : Shape := ⟨2, ![8, 256]⟩
abbrev S64x256 : Shape := ⟨2, ![64, 256]⟩
abbrev S1x1x128x256 : Shape := ⟨4, ![1, 1, 128, 256]⟩
abbrev S16x256 : Shape := ⟨2, ![16, 256]⟩
abbrev S1x1x256x128 : Shape := ⟨4, ![1, 1, 256, 128]⟩
abbrev S80x256 : Shape := ⟨2, ![80, 256]⟩
abbrev S1x1x80x256 : Shape := ⟨4, ![1, 1, 80, 256]⟩

abbrev nBuf : Space → Nat
  | .hbm => 117
  | .vmem => 32
  | .smem => 0
  | _ => 0

abbrev bufTy : (tb : Table) → Fin (tcTables nBuf tb) → BufTy
  | .hbm, ⟨0, _⟩ => ⟨S4x4096x1024, .f32⟩
  | .hbm, ⟨1, _⟩ => ⟨S8x6144, .f32⟩
  | .hbm, ⟨2, _⟩ => ⟨S1x1024, .f32⟩
  | .hbm, ⟨3, _⟩ => ⟨S1x1024x2976, .f32⟩
  | .hbm, ⟨4, _⟩ => ⟨S1x2048, .f32⟩
  | .hbm, ⟨5, _⟩ => ⟨S1x256, .f32⟩
  | .hbm, ⟨6, _⟩ => ⟨S1x256x768, .f32⟩
  | .hbm, ⟨7, _⟩ => ⟨S1x128, .f32⟩
  | .hbm, ⟨8, _⟩ => ⟨S1x128x1024, .f32⟩
  | .hbm, ⟨9, _⟩ => ⟨S1x96, .f32⟩
  | .hbm, ⟨10, _⟩ => ⟨S1x96, .f32⟩
  | .hbm, ⟨11, _⟩ => ⟨S1024x2976, .f32⟩
  | .hbm, ⟨12, _⟩ => ⟨S1024x512, .f32⟩
  | .hbm, ⟨13, _⟩ => ⟨S1024x512, .bf16⟩
  | .hbm, ⟨14, _⟩ => ⟨S1024x256, .f32⟩
  | .hbm, ⟨15, _⟩ => ⟨S1024x256, .bf16⟩
  | .hbm, ⟨16, _⟩ => ⟨S1024x256, .f32⟩
  | .hbm, ⟨17, _⟩ => ⟨S1024x256, .bf16⟩
  | .hbm, ⟨18, _⟩ => ⟨S1024x2048, .f32⟩
  | .hbm, ⟨19, _⟩ => ⟨S1024x8x256, .f32⟩
  | .hbm, ⟨20, _⟩ => ⟨S8x1024x256, .f32⟩
  | .hbm, ⟨21, _⟩ => ⟨S8x1024x256, .bf16⟩
  | .hbm, ⟨22, _⟩ => ⟨S128x1024, .f32⟩
  | .hbm, ⟨23, _⟩ => ⟨S1024x128, .f32⟩
  | .hbm, ⟨24, _⟩ => ⟨S8x128x128, .f32⟩
  | .hbm, ⟨25, _⟩ => ⟨S8x64x128, .f32⟩
  | .hbm, ⟨26, _⟩ => ⟨S512x128, .f32⟩
  | .hbm, ⟨27, _⟩ => ⟨S512x128, .bf16⟩
  | .hbm, ⟨28, _⟩ => ⟨S8x64x128, .f32⟩
  | .hbm, ⟨29, _⟩ => ⟨S512x128, .f32⟩
  | .hbm, ⟨30, _⟩ => ⟨S512x128, .bf16⟩
  | .hbm, ⟨31, _⟩ => ⟨S96, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S96, .f32⟩
  | .hbm, ⟨38, _⟩ => ⟨S96, .f32⟩
  | .hbm, ⟨39, _⟩ => ⟨S96x1, .f32⟩
  | .hbm, ⟨40, _⟩ => ⟨S96x128, .f32⟩
  | .hbm, ⟨41, _⟩ => ⟨S96, .f32⟩
  | .hbm, ⟨42, _⟩ => ⟨S64, .f32⟩
  | .hbm, ⟨43, _⟩ => ⟨S64x1, .f32⟩
  | .hbm, ⟨44, _⟩ => ⟨S64x128, .f32⟩
  | .hbm, ⟨45, _⟩ => ⟨S96, .f32⟩
  | .hbm, ⟨46, _⟩ => ⟨S32, .f32⟩
  | .hbm, ⟨47, _⟩ => ⟨S32x1, .f32⟩
  | .hbm, ⟨48, _⟩ => ⟨S32x128, .f32⟩
  | .hbm, ⟨49, _⟩ => ⟨S64, .f32⟩
  | .hbm, ⟨50, _⟩ => ⟨S64x1, .f32⟩
  | .hbm, ⟨51, _⟩ => ⟨S64, .f32⟩
  | .hbm, ⟨52, _⟩ => ⟨S1x64, .f32⟩
  | .hbm, ⟨53, _⟩ => ⟨S64x64, .f32⟩
  | .hbm, ⟨54, _⟩ => ⟨S4096, .f32⟩
  | .hbm, ⟨55, _⟩ => ⟨S64x64, .f32⟩
  | .hbm, ⟨56, _⟩ => ⟨S4096, .f32⟩
  | .hbm, ⟨57, _⟩ => ⟨S8, .f32⟩
  | .hbm, ⟨58, _⟩ => ⟨S8, .f32⟩
  | .hbm, ⟨59, _⟩ => ⟨S_, .f32⟩
  | .hbm, ⟨60, _⟩ => ⟨S8, .f32⟩
  | .hbm, ⟨61, _⟩ => ⟨S8, .f32⟩
  | .hbm, ⟨62, _⟩ => ⟨S_, .f32⟩
  | .hbm, ⟨63, _⟩ => ⟨S8, .f32⟩
  | .hbm, ⟨64, _⟩ => ⟨S8, .f32⟩
  | .hbm, ⟨65, _⟩ => ⟨S4096x1, .f32⟩
  | .hbm, ⟨66, _⟩ => ⟨S1x8, .f32⟩
  | .hbm, ⟨67, _⟩ => ⟨S4096x8, .f32⟩
  | .hbm, ⟨68, _⟩ => ⟨S4096x8, .f32⟩
  | .hbm, ⟨69, _⟩ => ⟨S4096x8, .f32⟩
  | .hbm, ⟨70, _⟩ => ⟨S4096x1, .f32⟩
  | .hbm, ⟨71, _⟩ => ⟨S1x8, .f32⟩
  | .hbm, ⟨72, _⟩ => ⟨S4096x8, .f32⟩
  | .hbm, ⟨73, _⟩ => ⟨S4096x8, .f32⟩
  | .hbm, ⟨74, _⟩ => ⟨S4096x8, .f32⟩
  | .hbm, ⟨75, _⟩ => ⟨S4096x32, .f32⟩
  | .hbm, ⟨76, _⟩ => ⟨S32x4096, .f32⟩
  | .hbm, ⟨77, _⟩ => ⟨S128, .f32⟩
  | .hbm, ⟨78, _⟩ => ⟨S128x1, .f32⟩
  | .hbm, ⟨79, _⟩ => ⟨S1x128, .f32⟩
  | .hbm, ⟨80, _⟩ => ⟨S128x128, .f32⟩
  | .hbm, ⟨81, _⟩ => ⟨S128x128, .f32⟩
  | .hbm, ⟨82, _⟩ => ⟨S128x128, .f32⟩
  | .hbm, ⟨83, _⟩ => ⟨S_, .f32⟩
  | .hbm, ⟨84, _⟩ => ⟨S128x128, .f32⟩
  | .hbm, ⟨85, _⟩ => ⟨S128x128, .f32⟩
  | .hbm, ⟨86, _⟩ => ⟨S128x128, .f32⟩
  | .hbm, ⟨87, _⟩ => ⟨S_, .f32⟩
  | .hbm, ⟨88, _⟩ => ⟨S_, .f32⟩
  | .hbm, ⟨89, _⟩ => ⟨S128x128, .f32⟩
  | .hbm, ⟨90, _⟩ => ⟨S128x128, .f32⟩
  | .hbm, ⟨91, _⟩ => ⟨S128x128, .f32⟩
  | .hbm, ⟨92, _⟩ => ⟨S128x128, .f32⟩
  | .hbm, ⟨93, _⟩ => ⟨S_, .f32⟩
  | .hbm, ⟨94, _⟩ => ⟨S_, .f32⟩
  | .hbm, ⟨95, _⟩ => ⟨S128x128, .f32⟩
  | .hbm, ⟨96, _⟩ => ⟨S128x128, .f32⟩
  | .hbm, ⟨97, _⟩ => ⟨S128x256, .f32⟩
  | .hbm, ⟨98, _⟩ => ⟨S128x256, .bf16⟩
  | .hbm, ⟨99, _⟩ => ⟨S1024, .f32⟩
  | .hbm, ⟨100, _⟩ => ⟨S1x1024, .f32⟩
  | .hbm, ⟨101, _⟩ => ⟨S2048, .f32⟩
  | .hbm, ⟨102, _⟩ => ⟨S1x2048, .f32⟩
  | .hbm, ⟨103, _⟩ => ⟨S256, .f32⟩
  | .hbm, ⟨104, _⟩ => ⟨S1x256, .f32⟩
  | .hbm, ⟨105, _⟩ => ⟨S256x768, .f32⟩
  | .hbm, ⟨106, _⟩ => ⟨S768x256, .f32⟩
  | .hbm, ⟨107, _⟩ => ⟨S768x256, .bf16⟩
  | .hbm, ⟨108, _⟩ => ⟨S128, .f32⟩
  | .hbm, ⟨109, _⟩ => ⟨S1x128, .f32⟩
  | .hbm, ⟨110, _⟩ => ⟨S32x4096, .f32⟩
  | .hbm, ⟨111, _⟩ => ⟨S32x4096, .f32⟩
  | .hbm, ⟨112, _⟩ => ⟨S4x2x4096x512, .bf16⟩
  | .hbm, ⟨113, _⟩ => ⟨S4x4096x2048, .bf16⟩
  | .hbm, ⟨114, _⟩ => ⟨S4x8x128x4096, .bf16⟩
  | .hbm, ⟨115, _⟩ => ⟨S4x8x4096x128, .bf16⟩
  | .hbm, ⟨116, _⟩ => ⟨S4x8x80x4096, .bf16⟩
  | .local _ .vmem, ⟨0, _⟩ => ⟨S1x1024x1024, .f32⟩
  | .local _ .vmem, ⟨1, _⟩ => ⟨S1x1024x1024, .f32⟩
  | .local _ .vmem, ⟨2, _⟩ => ⟨S8x6144, .f32⟩
  | .local _ .vmem, ⟨3, _⟩ => ⟨S1x1024, .f32⟩
  | .local _ .vmem, ⟨4, _⟩ => ⟨S1024x512, .bf16⟩
  | .local _ .vmem, ⟨5, _⟩ => ⟨S128x256, .bf16⟩
  | .local _ .vmem, ⟨6, _⟩ => ⟨S8x1024x256, .bf16⟩
  | .local _ .vmem, ⟨7, _⟩ => ⟨S1x2048, .f32⟩
  | .local _ .vmem, ⟨8, _⟩ => ⟨S1024x256, .bf16⟩
  | .local _ .vmem, ⟨9, _⟩ => ⟨S1x256, .f32⟩
  | .local _ .vmem, ⟨10, _⟩ => ⟨S768x256, .bf16⟩
  | .local _ .vmem, ⟨11, _⟩ => ⟨S96x128, .f32⟩
  | .local _ .vmem, ⟨12, _⟩ => ⟨S1024x256, .bf16⟩
  | .local _ .vmem, ⟨13, _⟩ => ⟨S1x128, .f32⟩
  | .local _ .vmem, ⟨14, _⟩ => ⟨S512x128, .bf16⟩
  | .local _ .vmem, ⟨15, _⟩ => ⟨S512x128, .bf16⟩
  | .local _ .vmem, ⟨16, _⟩ => ⟨S64x128, .f32⟩
  | .local _ .vmem, ⟨17, _⟩ => ⟨S32x128, .f32⟩
  | .local _ .vmem, ⟨18, _⟩ => ⟨S32x1024, .f32⟩
  | .local _ .vmem, ⟨19, _⟩ => ⟨S32x1024, .f32⟩
  | .local _ .vmem, ⟨20, _⟩ => ⟨S32x1024, .f32⟩
  | .local _ .vmem, ⟨21, _⟩ => ⟨S32x1024, .f32⟩
  | .local _ .vmem, ⟨22, _⟩ => ⟨S1x2x1024x512, .bf16⟩
  | .local _ .vmem, ⟨23, _⟩ => ⟨S1x2x1024x512, .bf16⟩
  | .local _ .vmem, ⟨24, _⟩ => ⟨S1x1024x2048, .bf16⟩
  | .local _ .vmem, ⟨25, _⟩ => ⟨S1x1024x2048, .bf16⟩
  | .local _ .vmem, ⟨26, _⟩ => ⟨S1x8x128x1024, .bf16⟩
  | .local _ .vmem, ⟨27, _⟩ => ⟨S1x8x128x1024, .bf16⟩
  | .local _ .vmem, ⟨28, _⟩ => ⟨S1x8x1024x128, .bf16⟩
  | .local _ .vmem, ⟨29, _⟩ => ⟨S1x8x1024x128, .bf16⟩
  | .local _ .vmem, ⟨30, _⟩ => ⟨S1x8x80x1024, .bf16⟩
  | .local _ .vmem, ⟨31, _⟩ => ⟨S1x8x80x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_1 : Ref sig .tc := ⟨.hbm, 59, rfl⟩
abbrev main_v46 : Ref sig .tc := ⟨.hbm, 60, rfl⟩
abbrev main_v47 : Ref sig .tc := ⟨.hbm, 61, rfl⟩
abbrev main_cst_2 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_3 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_4 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_5 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94_0 : Ref sig .tc := ⟨.hbm, 112, rfl⟩
abbrev main_v94_1 : Ref sig .tc := ⟨.hbm, 113, rfl⟩
abbrev main_v94_2 : Ref sig .tc := ⟨.hbm, 114, rfl⟩
abbrev main_v94_3 : Ref sig .tc := ⟨.hbm, 115, rfl⟩
abbrev main_v94_4 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg21_1 : Ref sig .tc := ⟨.vmem, 27, rfl⟩
abbrev cc0_stg22_0 : Ref sig .tc := ⟨.vmem, 28, rfl⟩
abbrev cc0_stg22_1 : Ref sig .tc := ⟨.vmem, 29, rfl⟩
abbrev cc0_stg23_0 : Ref sig .tc := ⟨.vmem, 30, rfl⟩
abbrev cc0_stg23_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19
abbrev cc0_sem18_0 : DmaSem sig := 20
abbrev cc0_sem18_1 : DmaSem sig := 21
abbrev cc0_sem19_0 : DmaSem sig := 22
abbrev cc0_sem19_1 : DmaSem sig := 23
abbrev cc0_sem20_0 : DmaSem sig := 24
abbrev cc0_sem20_1 : DmaSem sig := 25
abbrev cc0_sem21_0 : DmaSem sig := 26
abbrev cc0_sem21_1 : DmaSem sig := 27
abbrev cc0_sem22_0 : DmaSem sig := 28
abbrev cc0_sem22_1 : DmaSem sig := 29
abbrev cc0_sem23_0 : DmaSem sig := 30
abbrev cc0_sem23_1 : DmaSem sig := 31

abbrev nD : Nat := 1
abbrev τ : Topo := Topo.v7x

variable {F : FTy → Type} [FloatOps F]

abbrev grid0 : Pipeline.Grid := ⟨2, ![4, 4], ![false, false]⟩

def k0_off1 (i : grid0.Coords) : Fin 2 → Nat :=
  let arg0 : BitVec 32 := BitVec.ofNat 32 (i 0).val
  let v0 : Index := Scalar.indexCast arg0
  let c0 : Index := 0#32
  ![v0.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_22 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_23 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S768x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S96x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S512x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S64x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S32x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S32x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 2 → Memref sig .tc .vmem S32x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![false, true]

abbrev stage0_19 : Fin 2 → Memref sig .tc .vmem S1x2x1024x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1024x2048 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x8x128x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x8x1024x128 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x8x80x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== Kernel3Ideal.lean ====
variable {F : FTy → Type} [FloatOps F] [Named F]
def κ : String → Option EReal := fun
  | "inv_head" => some ((1 / 96 : ℝ) : EReal)
  | _ => none
-- ==== Reference3Ideal.lean ====
abbrev S4x4096x1024 : Shape := ⟨3, ![4, 4096, 1024]⟩
abbrev S8x6144 : Shape := ⟨2, ![8, 6144]⟩
abbrev S1x1024 : Shape := ⟨2, ![1, 1024]⟩
abbrev S1x1024x2976 : Shape := ⟨3, ![1, 1024, 2976]⟩
abbrev S1x2048 : Shape := ⟨2, ![1, 2048]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S1x96 : Shape := ⟨2, ![1, 96]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S4096 : Shape := ⟨1, ![4096]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x32 : Shape := ⟨2, ![4096, 32]⟩
abbrev S1x4096x1x32 : Shape := ⟨4, ![1, 4096, 1, 32]⟩
abbrev S128 : Shape := ⟨1, ![128]⟩
abbrev S128x1 : Shape := ⟨2, ![128, 1]⟩
abbrev S128x128 : Shape := ⟨2, ![128, 128]⟩
abbrev S4x6144 : Shape := ⟨2, ![4, 6144]⟩
abbrev S4x1x6144 : Shape := ⟨3, ![4, 1, 6144]⟩
abbrev S4x1x1024 : Shape := ⟨3, ![4, 1, 1024]⟩
abbrev S1024 : Shape := ⟨1, ![1024]⟩
abbrev S4x4096 : Shape := ⟨2, ![4, 4096]⟩
abbrev S4x4096x1 : Shape := ⟨3, ![4, 4096, 1]⟩
abbrev S1x1x1024 : Shape := ⟨3, ![1, 1, 1024]⟩
abbrev S1024x2976 : Shape := ⟨2, ![1024, 2976]⟩
abbrev S4x4096x2976 : Shape := ⟨3, ![4, 4096, 2976]⟩
abbrev S4x4096x512 : Shape := ⟨3, ![4, 4096, 512]⟩
abbrev S4x4096x4x128 : Shape := ⟨4, ![4, 4096, 4, 128]⟩
abbrev S4x1x4096x512 : Shape := ⟨4, ![4, 1, 4096, 512]⟩
abbrev S4x2x4096x512 : Shape := ⟨4, ![4, 2, 4096, 512]⟩
abbrev S4x4096x2048 : Shape := ⟨3, ![4, 4096, 2048]⟩
abbrev S2048 : Shape := ⟨1, ![2048]⟩
abbrev S1x1x2048 : Shape := ⟨3, ![1, 1, 2048]⟩
abbrev S4x4096x256 : Shape := ⟨3, ![4, 4096, 256]⟩
abbrev S256 : Shape := ⟨1, ![256]⟩
abbrev S1x1x256 : Shape := ⟨3, ![1, 1, 256]⟩
abbrev S256x768 : Shape := ⟨2, ![256, 768]⟩
abbrev S4x4096x768 : Shape := ⟨3, ![4, 4096, 768]⟩
abbrev S4x4096x8x96 : Shape := ⟨4, ![4, 4096, 8, 96]⟩
abbrev S96 : Shape := ⟨1, ![96]⟩
abbrev S4x4096x8 : Shape := ⟨3, ![4, 4096, 8]⟩
abbrev S4x4096x8x1 : Shape := ⟨4, ![4, 4096, 8, 1]⟩
abbrev S1x1x1x96 : Shape := ⟨4, ![1, 1, 1, 96]⟩
abbrev S4x4096x8x32 : Shape := ⟨4, ![4, 4096, 8, 32]⟩
abbrev S4x4096x8x8 : Shape := ⟨4, ![4, 4096, 8, 8]⟩
abbrev S4x4096x8x64 : Shape := ⟨4, ![4, 4096, 8, 64]⟩
abbrev S4x4096x128 : Shape := ⟨3, ![4, 4096, 128]⟩
abbrev S1x1x128 : Shape := ⟨3, ![1, 1, 128]⟩
abbrev S128x1024 : Shape := ⟨2, ![128, 1024]⟩
abbrev S4x4096x8x128 : Shape := ⟨4, ![4, 4096, 8, 128]⟩
abbrev S4x4096x32 : Shape := ⟨3, ![4, 4096, 32]⟩
abbrev S4x4096x1x32 : Shape := ⟨4, ![4, 4096, 1, 32]⟩
abbrev S4x8x96x4096 : Shape := ⟨4, ![4, 8, 96, 4096]⟩
abbrev S4x8x32x4096 : Shape := ⟨4, ![4, 8, 32, 4096]⟩
abbrev S4x8x128x4096 : Shape := ⟨4, ![4, 8, 128, 4096]⟩
abbrev S4x8x4096x96 : Shape := ⟨4, ![4, 8, 4096, 96]⟩
abbrev S4x8x4096x32 : Shape := ⟨4, ![4, 8, 4096, 32]⟩
abbrev S4x8x4096x128 : Shape := ⟨4, ![4, 8, 4096, 128]⟩
abbrev S4x8x64x4096 : Shape := ⟨4, ![4, 8, 64, 4096]⟩
abbrev S4x8x16x4096 : Shape := ⟨4, ![4, 8, 16, 4096]⟩
abbrev S4x8x80x4096 : Shape := ⟨4, ![4, 8, 80, 4096]⟩

abbrev nBuf : Space → Nat
  | .hbm => 255
  | .vmem => 0
  | .smem => 0
  | _ => 0

abbrev hbmTy0_0 (i : Nat) : BufTy := match i % 128 with
  | 0 => ⟨S4x4096x1024, .f32⟩
  | 1 => ⟨S8x6144, .f32⟩
  | 2 => ⟨S1x1024, .f32⟩
  | 3 => ⟨S1x1024x2976, .f32⟩
  | 4 => ⟨S1x2048, .f32⟩
  | 5 => ⟨S1x256, .f32⟩
  | 6 => ⟨S1x256x768, .f32⟩
  | 7 => ⟨S1x128, .f32⟩
  | 8 => ⟨S1x128x1024, .f32⟩
  | 9 => ⟨S1x96, .f32⟩
  | 10 => ⟨S1x96, .f32⟩
  | 11 => ⟨S64, .f32⟩
  | 12 => ⟨S64x1, .f32⟩
  | 13 => ⟨S64, .f32⟩
  | 14 => ⟨S1x64, .f32⟩
  | 15 => ⟨S64x64, .f32⟩
  | 16 => ⟨S4096, .f32⟩
  | 17 => ⟨S64x64, .f32⟩
  | 18 => ⟨S4096, .f32⟩
  | 19 => ⟨S8, .f32⟩
  | 20 => ⟨S8, .f32⟩
  | 21 => ⟨S_, .f32⟩
  | 22 => ⟨S8, .f32⟩
  | 23 => ⟨S8, .f32⟩
  | 24 => ⟨S_, .f32⟩
  | 25 => ⟨S8, .f32⟩
  | 26 => ⟨S8, .f32⟩
  | 27 => ⟨S4096x1, .f32⟩
  | 28 => ⟨S1x8, .f32⟩
  | 29 => ⟨S4096x8, .f32⟩
  | 30 => ⟨S4096x8, .f32⟩
  | 31 => ⟨S4096x8, .f32⟩
  | 32 => ⟨S4096x1, .f32⟩
  | 33 => ⟨S1x8, .f32⟩
  | 34 => ⟨S4096x8, .f32⟩
  | 35 => ⟨S4096x8, .f32⟩
  | 36 => ⟨S4096x8, .f32⟩
  | 37 => ⟨S4096x32, .f32⟩
  | 38 => ⟨S1x4096x1x32, .f32⟩
  | 39 => ⟨S128, .f32⟩
  | 40 => ⟨S128x1, .f32⟩
  | 41 => ⟨S1x128, .f32⟩
  | 42 => ⟨S128x128, .f32⟩
  | 43 => ⟨S128x128, .f32⟩
  | 44 => ⟨S128x128, .f32⟩
  | 45 => ⟨S_, .f32⟩
  | 46 => ⟨S128x128, .f32⟩
  | 47 => ⟨S128x128, .f32⟩
  | 48 => ⟨S_, .f32⟩
  | 49 => ⟨S_, .f32⟩
  | 50 => ⟨S4x6144, .f32⟩
  | 51 => ⟨S4x1x6144, .f32⟩
  | 52 => ⟨S4x1x1024, .f32⟩
  | 53 => ⟨S4x1x1024, .f32⟩
  | 54 => ⟨S4x1x1024, .f32⟩
  | 55 => ⟨S4x1x1024, .f32⟩
  | 56 => ⟨S4x1x1024, .f32⟩
  | 57 => ⟨S4x1x1024, .f32⟩
  | 58 => ⟨S1024, .f32⟩
  | 59 => ⟨S4x4096x1024, .f32⟩
  | 60 => ⟨S_, .f32⟩
  | 61 => ⟨S4x4096, .f32⟩
  | 62 => ⟨S4x4096x1, .f32⟩
  | 63 => ⟨S_, .f32⟩
  | 64 => ⟨S4x4096x1, .f32⟩
  | 65 => ⟨S4x4096x1, .f32⟩
  | 66 => ⟨S_, .f32⟩
  | 67 => ⟨S4x4096x1, .f32⟩
  | 68 => ⟨S4x4096x1, .f32⟩
  | 69 => ⟨S4x4096x1, .f32⟩
  | 70 => ⟨S4x4096x1024, .f32⟩
  | 71 => ⟨S4x4096x1024, .f32⟩
  | 72 => ⟨S1x1x1024, .f32⟩
  | 73 => ⟨S4x4096x1024, .f32⟩
  | 74 => ⟨S4x4096x1024, .f32⟩
  | 75 => ⟨S_, .f32⟩
  | 76 => ⟨S4x1x1024, .f32⟩
  | 77 => ⟨S4x1x1024, .f32⟩
  | 78 => ⟨S4x4096x1024, .f32⟩
  | 79 => ⟨S4x4096x1024, .f32⟩
  | 80 => ⟨S4x4096x1024, .f32⟩
  | 81 => ⟨S4x4096x1024, .f32⟩
  | 82 => ⟨S1024x2976, .f32⟩
  | 83 => ⟨S4x4096x2976, .f32⟩
  | 84 => ⟨S4x4096x512, .f32⟩
  | 85 => ⟨S4x4096x4x128, .f32⟩
  | 86 => ⟨S128x128, .f32⟩
  | 87 => ⟨S128x128, .f32⟩
  | 88 => ⟨S128x128, .f32⟩
  | 89 => ⟨S4x4096x4x128, .f32⟩
  | 90 => ⟨S4x4096x512, .f32⟩
  | 91 => ⟨S128x128, .f32⟩
  | 92 => ⟨S128x128, .f32⟩
  | 93 => ⟨S128x128, .f32⟩
  | 94 => ⟨S128x128, .f32⟩
  | 95 => ⟨S4x4096x4x128, .f32⟩
  | 96 => ⟨S4x4096x512, .f32⟩
  | 97 => ⟨S4x1x4096x512, .f32⟩
  | 98 => ⟨S4x1x4096x512, .f32⟩
  | 99 => ⟨S4x2x4096x512, .f32⟩
  | 100 => ⟨S4x4096x2048, .f32⟩
  | 101 => ⟨S2048, .f32⟩
  | 102 => ⟨S1x1x2048, .f32⟩
  | 103 => ⟨S4x4096x2048, .f32⟩
  | 104 => ⟨S4x4096x2048, .f32⟩
  | 105 => ⟨S4x4096x2048, .f32⟩
  | 106 => ⟨S4x4096x2048, .f32⟩
  | 107 => ⟨S_, .f32⟩
  | 108 => ⟨S4x4096x2048, .f32⟩
  | 109 => ⟨S4x4096x2048, .f32⟩
  | 110 => ⟨S_, .f32⟩
  | 111 => ⟨S4x4096x2048, .f32⟩
  | 112 => ⟨S4x4096x2048, .f32⟩
  | 113 => ⟨S4x4096x256, .f32⟩
  | 114 => ⟨S256, .f32⟩
  | 115 => ⟨S4x4096x256, .f32⟩
  | 116 => ⟨S_, .f32⟩
  | 117 => ⟨S4x4096, .f32⟩
  | 118 => ⟨S4x4096x1, .f32⟩
  | 119 => ⟨S_, .f32⟩
  | 120 => ⟨S4x4096x1, .f32⟩
  | 121 => ⟨S4x4096x1, .f32⟩
  | 122 => ⟨S_, .f32⟩
  | 123 => ⟨S4x4096x1, .f32⟩
  | 124 => ⟨S4x4096x1, .f32⟩
  | 125 => ⟨S4x4096x1, .f32⟩
  | 126 => ⟨S4x4096x256, .f32⟩
  | 127 => ⟨S4x4096x256, .f32⟩
  | _ => ⟨S4x4096x1024, .f32⟩

abbrev hbmTy0_1 (i : Nat) : BufTy := match i % 128 with
  | 0 => ⟨S1x1x256, .f32⟩
  | 1 => ⟨S4x4096x256, .f32⟩
  | 2 => ⟨S4x4096x256, .f32⟩
  | 3 => ⟨S256x768, .f32⟩
  | 4 => ⟨S4x4096x768, .f32⟩
  | 5 => ⟨S4x4096x8x96, .f32⟩
  | 6 => ⟨S96, .f32⟩
  | 7 => ⟨S4x4096x8x96, .f32⟩
  | 8 => ⟨S_, .f32⟩
  | 9 => ⟨S4x4096x8, .f32⟩
  | 10 => ⟨S4x4096x8x1, .f32⟩
  | 11 => ⟨S_, .f32⟩
  | 12 => ⟨S4x4096x8x1, .f32⟩
  | 13 => ⟨S4x4096x8x1, .f32⟩
  | 14 => ⟨S_, .f32⟩
  | 15 => ⟨S4x4096x8x1, .f32⟩
  | 16 => ⟨S4x4096x8x1, .f32⟩
  | 17 => ⟨S4x4096x8x1, .f32⟩
  | 18 => ⟨S4x4096x8x96, .f32⟩
  | 19 => ⟨S4x4096x8x96, .f32⟩
  | 20 => ⟨S1x1x1x96, .f32⟩
  | 21 => ⟨S4x4096x8x96, .f32⟩
  | 22 => ⟨S4x4096x8x96, .f32⟩
  | 23 => ⟨S4x4096x8x32, .f32⟩
  | 24 => ⟨S4x4096x8x8, .f32⟩
  | 25 => ⟨S4x4096x8x8, .f32⟩
  | 26 => ⟨S4x4096x8x8, .f32⟩
  | 27 => ⟨S4x4096x8x8, .f32⟩
  | 28 => ⟨S4x4096x8x8, .f32⟩
  | 29 => ⟨S4x4096x8x8, .f32⟩
  | 30 => ⟨S4x4096x8x32, .f32⟩
  | 31 => ⟨S4x4096x8x64, .f32⟩
  | 32 => ⟨S4x4096x8x32, .f32⟩
  | 33 => ⟨S1x4096x1x32, .f32⟩
  | 34 => ⟨S4x4096x8x32, .f32⟩
  | 35 => ⟨S4x4096x8x32, .f32⟩
  | 36 => ⟨S1x4096x1x32, .f32⟩
  | 37 => ⟨S4x4096x8x32, .f32⟩
  | 38 => ⟨S4x4096x8x32, .f32⟩
  | 39 => ⟨S4x4096x8x32, .f32⟩
  | 40 => ⟨S4x4096x8x96, .f32⟩
  | 41 => ⟨S_, .f32⟩
  | 42 => ⟨S_, .f32⟩
  | 43 => ⟨S_, .f32⟩
  | 44 => ⟨S_, .f32⟩
  | 45 => ⟨S_, .f32⟩
  | 46 => ⟨S4x4096x8x96, .f32⟩
  | 47 => ⟨S4x4096x8x96, .f32⟩
  | 48 => ⟨S4x4096x128, .f32⟩
  | 49 => ⟨S128, .f32⟩
  | 50 => ⟨S4x4096x128, .f32⟩
  | 51 => ⟨S_, .f32⟩
  | 52 => ⟨S4x4096, .f32⟩
  | 53 => ⟨S4x4096x1, .f32⟩
  | 54 => ⟨S_, .f32⟩
  | 55 => ⟨S4x4096x1, .f32⟩
  | 56 => ⟨S4x4096x1, .f32⟩
  | 57 => ⟨S_, .f32⟩
  | 58 => ⟨S4x4096x1, .f32⟩
  | 59 => ⟨S4x4096x1, .f32⟩
  | 60 => ⟨S4x4096x1, .f32⟩
  | 61 => ⟨S4x4096x128, .f32⟩
  | 62 => ⟨S4x4096x128, .f32⟩
  | 63 => ⟨S1x1x128, .f32⟩
  | 64 => ⟨S4x4096x128, .f32⟩
  | 65 => ⟨S4x4096x128, .f32⟩
  | 66 => ⟨S128x1024, .f32⟩
  | 67 => ⟨S4x4096x1024, .f32⟩
  | 68 => ⟨S4x4096x8x128, .f32⟩
  | 69 => ⟨S4x4096x32, .f32⟩
  | 70 => ⟨S4x4096x1x32, .f32⟩
  | 71 => ⟨S4x4096x8x32, .f32⟩
  | 72 => ⟨S4x4096x8x64, .f32⟩
  | 73 => ⟨S4x4096x8x96, .f32⟩
  | 74 => ⟨S96, .f32⟩
  | 75 => ⟨S4x4096x8x96, .f32⟩
  | 76 => ⟨S_, .f32⟩
  | 77 => ⟨S4x4096x8, .f32⟩
  | 78 => ⟨S4x4096x8x1, .f32⟩
  | 79 => ⟨S_, .f32⟩
  | 80 => ⟨S4x4096x8x1, .f32⟩
  | 81 => ⟨S4x4096x8x1, .f32⟩
  | 82 => ⟨S_, .f32⟩
  | 83 => ⟨S4x4096x8x1, .f32⟩
  | 84 => ⟨S4x4096x8x1, .f32⟩
  | 85 => ⟨S4x4096x8x1, .f32⟩
  | 86 => ⟨S4x4096x8x96, .f32⟩
  | 87 => ⟨S4x4096x8x96, .f32⟩
  | 88 => ⟨S1x1x1x96, .f32⟩
  | 89 => ⟨S4x4096x8x96, .f32⟩
  | 90 => ⟨S4x4096x8x96, .f32⟩
  | 91 => ⟨S4x4096x8x32, .f32⟩
  | 92 => ⟨S4x4096x8x8, .f32⟩
  | 93 => ⟨S4x4096x8x8, .f32⟩
  | 94 => ⟨S4x4096x8x8, .f32⟩
  | 95 => ⟨S4x4096x8x8, .f32⟩
  | 96 => ⟨S4x4096x8x8, .f32⟩
  | 97 => ⟨S4x4096x8x8, .f32⟩
  | 98 => ⟨S4x4096x8x32, .f32⟩
  | 99 => ⟨S4x4096x8x64, .f32⟩
  | 100 => ⟨S4x4096x8x32, .f32⟩
  | 101 => ⟨S1x4096x1x32, .f32⟩
  | 102 => ⟨S4x4096x8x32, .f32⟩
  | 103 => ⟨S4x4096x8x32, .f32⟩
  | 104 => ⟨S1x4096x1x32, .f32⟩
  | 105 => ⟨S4x4096x8x32, .f32⟩
  | 106 => ⟨S4x4096x8x32, .f32⟩
  | 107 => ⟨S4x4096x8x32, .f32⟩
  | 108 => ⟨S4x4096x8x96, .f32⟩
  | 109 => ⟨S4x4096x8x64, .f32⟩
  | 110 => ⟨S4x2x4096x512, .bf16⟩
  | 111 => ⟨S4x4096x2048, .bf16⟩
  | 112 => ⟨S4x8x96x4096, .f32⟩
  | 113 => ⟨S_, .f32⟩
  | 114 => ⟨S4x8x32x4096, .f32⟩
  | 115 => ⟨S4x8x128x4096, .f32⟩
  | 116 => ⟨S4x8x128x4096, .bf16⟩
  | 117 => ⟨S4x8x4096x96, .f32⟩
  | 118 => ⟨S_, .f32⟩
  | 119 => ⟨S4x8x4096x32, .f32⟩
  | 120 => ⟨S4x8x4096x128, .f32⟩
  | 121 => ⟨S4x8x4096x128, .bf16⟩
  | 122 => ⟨S4x8x64x4096, .f32⟩
  | 123 => ⟨S_, .f32⟩
  | 124 => ⟨S4x8x16x4096, .f32⟩
  | 125 => ⟨S4x8x80x4096, .f32⟩
  | 126 => ⟨S4x8x80x4096, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_1 : Ref sig .tc := ⟨.hbm, 45, rfl⟩
abbrev main_v32 : Ref sig .tc := ⟨.hbm, 46, rfl⟩
abbrev main_v33 : Ref sig .tc := ⟨.hbm, 47, rfl⟩
abbrev main_cst_2 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_3 : Ref sig .tc := ⟨.hbm, 60, rfl⟩
abbrev main_v45 : Ref sig .tc := ⟨.hbm, 61, rfl⟩
abbrev main_v46 : Ref sig .tc := ⟨.hbm, 62, rfl⟩
abbrev main_cst_4 : Ref sig .tc := ⟨.hbm, 63, rfl⟩
abbrev main_v47 : Ref sig .tc := ⟨.hbm, 64, rfl⟩
abbrev main_v48 : Ref sig .tc := ⟨.hbm, 65, rfl⟩
abbrev main_cst_5 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_6 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_7 : Ref sig .tc := ⟨.hbm, 107, rfl⟩
abbrev main_v88 : Ref sig .tc := ⟨.hbm, 108, rfl⟩
abbrev main_v89 : Ref sig .tc := ⟨.hbm, 109, rfl⟩
abbrev main_cst_8 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_cst_9 : Ref sig .tc := ⟨.hbm, 116, rfl⟩
abbrev main_v95 : Ref sig .tc := ⟨.hbm, 117, rfl⟩
abbrev main_v96 : Ref sig .tc := ⟨.hbm, 118, rfl⟩
abbrev main_cst_10 : Ref sig .tc := ⟨.hbm, 119, rfl⟩
abbrev main_v97 : Ref sig .tc := ⟨.hbm, 120, rfl⟩
abbrev main_v98 : Ref sig .tc := ⟨.hbm, 121, rfl⟩
abbrev main_cst_11 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_cst_12 : Ref sig .tc := ⟨.hbm, 136, rfl⟩
abbrev main_v112 : Ref sig .tc := ⟨.hbm, 137, rfl⟩
abbrev main_v113 : Ref sig .tc := ⟨.hbm, 138, rfl⟩
abbrev main_cst_13 : Ref sig .tc := ⟨.hbm, 139, rfl⟩
abbrev main_v114 : Ref sig .tc := ⟨.hbm, 140, rfl⟩
abbrev main_v115 : Ref sig .tc := ⟨.hbm, 141, rfl⟩
abbrev main_cst_14 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_cst_15 : Ref sig .tc := ⟨.hbm, 169, rfl⟩
abbrev main_v142 : Ref sig .tc := ⟨.hbm, 170, rfl⟩
abbrev main_cst_16 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_cst_17 : Ref sig .tc := ⟨.hbm, 179, rfl⟩
abbrev main_v150 : Ref sig .tc := ⟨.hbm, 180, rfl⟩
abbrev main_v151 : Ref sig .tc := ⟨.hbm, 181, rfl⟩
abbrev main_cst_18 : Ref sig .tc := ⟨.hbm, 182, rfl⟩
abbrev main_v152 : Ref sig .tc := ⟨.hbm, 183, rfl⟩
abbrev main_v153 : Ref sig .tc := ⟨.hbm, 184, rfl⟩
abbrev main_cst_19 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_cst_20 : Ref sig .tc := ⟨.hbm, 204, rfl⟩
abbrev main_v172 : Ref sig .tc := ⟨.hbm, 205, rfl⟩
abbrev main_v173 : Ref sig .tc := ⟨.hbm, 206, rfl⟩
abbrev main_cst_21 : Ref sig .tc := ⟨.hbm, 207, rfl⟩
abbrev main_v174 : Ref sig .tc := ⟨.hbm, 208, rfl⟩
abbrev main_v175 : Ref sig .tc := ⟨.hbm, 209, rfl⟩
abbrev main_cst_22 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩
abbrev main_v195 : Ref sig .tc := ⟨.hbm, 230, rfl⟩
abbrev main_v196 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_v202 : Ref sig .tc := ⟨.hbm, 237, rfl⟩
abbrev main_v203 : Ref sig .tc := ⟨.hbm, 238, rfl⟩
abbrev main_v204 : Ref sig .tc := ⟨.hbm, 239, rfl⟩
abbrev main_v205 : Ref sig .tc := ⟨.hbm, 240, rfl⟩
abbrev main_cst_23 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_cst_24 : Ref sig .tc := ⟨.hbm, 246, rfl⟩
abbrev main_v210 : Ref sig .tc := ⟨.hbm, 247, rfl⟩
abbrev main_v211 : Ref sig .tc := ⟨.hbm, 248, rfl⟩
abbrev main_v212 : Ref sig .tc := ⟨.hbm, 249, rfl⟩
abbrev main_v213 : Ref sig .tc := ⟨.hbm, 250, rfl⟩
abbrev main_cst_25 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩

abbrev nD : Nat := 1
abbrev τ : Topo := Topo.v7x

variable {F : FTy → Type} [FloatOps F]
-- ==== Kernel4.lean ====
abbrev S4x256x1024 : Shape := ⟨3, ![4, 256, 1024]⟩
abbrev S8x6144 : Shape := ⟨2, ![8, 6144]⟩
abbrev S1x1024 : Shape := ⟨2, ![1, 1024]⟩
abbrev S1x1024x2976 : Shape := ⟨3, ![1, 1024, 2976]⟩
abbrev S1x128 : Shape := ⟨2, ![1, 128]⟩
abbrev S1x128x1024 : Shape := ⟨3, ![1, 128, 1024]⟩
abbrev S1x96 : Shape := ⟨2, ![1, 96]⟩
abbrev S1024x2976 : Shape := ⟨2, ![1024, 2976]⟩
abbrev S1024x256 : Shape := ⟨2, ![1024, 256]⟩
abbrev S128x1024 : Shape := ⟨2, ![128, 1024]⟩
abbrev S1024x128 : Shape := ⟨2, ![1024, 128]⟩
abbrev S8x128x128 : Shape := ⟨3, ![8, 128, 128]⟩
abbrev S8x64x128 : Shape := ⟨3, ![8, 64, 128]⟩
abbrev S512x128 : Shape := ⟨2, ![512, 128]⟩
abbrev S96 : Shape := ⟨1, ![96]⟩
abbrev S64 : Shape := ⟨1, ![64]⟩
abbrev S64x1 : Shape := ⟨2, ![64, 1]⟩
abbrev S64x128 : Shape := ⟨2, ![64, 128]⟩
abbrev S32 : Shape := ⟨1, ![32]⟩
abbrev S32x1 : Shape := ⟨2, ![32, 1]⟩
abbrev S32x128 : Shape := ⟨2, ![32, 128]⟩
abbrev S1024 : Shape := ⟨1, ![1024]⟩
abbrev S128 : Shape := ⟨1, ![128]⟩
abbrev S_ : Shape := ⟨0, ![]⟩
abbrev S32x256 : Shape := ⟨2, ![32, 256]⟩
abbrev S4x8x256x128 : Shape := ⟨4, ![4, 8, 256, 128]⟩
abbrev S4x8x80x256 : Shape := ⟨4, ![4, 8, 80, 256]⟩
abbrev S1x256x1024 : Shape := ⟨3, ![1, 256, 1024]⟩
abbrev S1x8x256x128 : Shape := ⟨4, ![1, 8, 256, 128]⟩
abbrev S1x8x80x256 : Shape := ⟨4, ![1, 8, 80, 256]⟩
abbrev S256x1024 : Shape := ⟨2, ![256, 1024]⟩
abbrev S1x6144 : Shape := ⟨2, ![1, 6144]⟩
abbrev S6x1024 : Shape := ⟨2, ![6, 1024]⟩
abbrev S256 : Shape := ⟨1, ![256]⟩
abbrev S256x1 : Shape := ⟨2, ![256, 1]⟩
abbrev S256x256 : Shape := ⟨2, ![256, 256]⟩
abbrev S256x128 : Shape := ⟨2, ![256, 128]⟩
abbrev S128x256 : Shape := ⟨2, ![128, 256]⟩
abbrev S512x256 : Shape := ⟨2, ![512, 256]⟩
abbrev S1x256 : Shape := ⟨2, ![1, 256]⟩
abbrev S8x256 : Shape := ⟨2, ![8, 256]⟩
abbrev S64x256 : Shape := ⟨2, ![64, 256]⟩
abbrev S16x256 : Shape := ⟨2, ![16, 256]⟩
abbrev S1x1x256x128 : Shape := ⟨4, ![1, 1, 256, 128]⟩
abbrev S80x256 : Shape := ⟨2, ![80, 256]⟩
abbrev S1x1x80x256 : Shape := ⟨4, ![1, 1, 80, 256]⟩

abbrev nBuf : Space → Nat
  | .hbm => 37
  | .vmem => 16
  | .smem => 0
  | _ => 0

abbrev bufTy : (tb : Table) → Fin (tcTables nBuf tb) → BufTy
  | .hbm, ⟨0, _⟩ => ⟨S4x256x1024, .f32⟩
  | .hbm, ⟨1, _⟩ => ⟨S8x6144, .f32⟩
  | .hbm, ⟨2, _⟩ => ⟨S1x1024, .f32⟩
  | .hbm, ⟨3, _⟩ => ⟨S1x1024x2976, .f32⟩
  | .hbm, ⟨4, _⟩ => ⟨S1x128, .f32⟩
  | .hbm, ⟨5, _⟩ => ⟨S1x128x1024, .f32⟩
  | .hbm, ⟨6, _⟩ => ⟨S1x96, .f32⟩
  | .hbm, ⟨7, _⟩ => ⟨S1024x2976, .f32⟩
  | .hbm, ⟨8, _⟩ => ⟨S1024x256, .f32⟩
  | .hbm, ⟨9, _⟩ => ⟨S1024x256, .bf16⟩
  | .hbm, ⟨10, _⟩ => ⟨S128x1024, .f32⟩
  | .hbm, ⟨11, _⟩ => ⟨S1024x128, .f32⟩
  | .hbm, ⟨12, _⟩ => ⟨S8x128x128, .f32⟩
  | .hbm, ⟨13, _⟩ => ⟨S8x64x128, .f32⟩
  | .hbm, ⟨14, _⟩ => ⟨S512x128, .f32⟩
  | .hbm, ⟨15, _⟩ => ⟨S512x128, .bf16⟩
  | .hbm, ⟨16, _⟩ => ⟨S8x64x128, .f32⟩
  | .hbm, ⟨17, _⟩ => ⟨S512x128, .f32⟩
  | .hbm, ⟨18, _⟩ => ⟨S512x128, .bf16⟩
  | .hbm, ⟨19, _⟩ => ⟨S96, .f32⟩
  | .hbm, ⟨20, _⟩ => ⟨S64, .f32⟩
  | .hbm, ⟨21, _⟩ => ⟨S64x1, .f32⟩
  | .hbm, ⟨22, _⟩ => ⟨S64x128, .f32⟩
  | .hbm, ⟨23, _⟩ => ⟨S96, .f32⟩
  | .hbm, ⟨24, _⟩ => ⟨S32, .f32⟩
  | .hbm, ⟨25, _⟩ => ⟨S32x1, .f32⟩
  | .hbm, ⟨26, _⟩ => ⟨S32x128, .f32⟩
  | .hbm, ⟨27, _⟩ => ⟨S1024, .f32⟩
  | .hbm, ⟨28, _⟩ => ⟨S1x1024, .f32⟩
  | .hbm, ⟨29, _⟩ => ⟨S128, .f32⟩
  | .hbm, ⟨30, _⟩ => ⟨S1x128, .f32⟩
  | .hbm, ⟨31, _⟩ => ⟨S_, .f32⟩
  | .hbm, ⟨32, _⟩ => ⟨S32x256, .f32⟩
  | .hbm, ⟨33, _⟩ => ⟨S_, .f32⟩
  | .hbm, ⟨34, _⟩ => ⟨S32x256, .f32⟩
  | .hbm, ⟨35, _⟩ => ⟨S4x8x256x128, .bf16⟩
  | .hbm, ⟨36, _⟩ => ⟨S4x8x80x256, .bf16⟩
  | .local _ .vmem, ⟨0, _⟩ => ⟨S1x256x1024, .f32⟩
  | .local _ .vmem, ⟨1, _⟩ => ⟨S1x256x1024, .f32⟩
  | .local _ .vmem, ⟨2, _⟩ => ⟨S8x6144, .f32⟩
  | .local _ .vmem, ⟨3, _⟩ => ⟨S1x1024, .f32⟩
  | .local _ .vmem, ⟨4, _⟩ => ⟨S1024x256, .bf16⟩
  | .local _ .vmem, ⟨5, _⟩ => ⟨S1x128, .f32⟩
  | .local _ .vmem, ⟨6, _⟩ => ⟨S512x128, .bf16⟩
  | .local _ .vmem, ⟨7, _⟩ => ⟨S512x128, .bf16⟩
  | .local _ .vmem, ⟨8, _⟩ => ⟨S64x128, .f32⟩
  | .local _ .vmem, ⟨9, _⟩ => ⟨S32x128, .f32⟩
  | .local _ .vmem, ⟨10, _⟩ => ⟨S32x256, .f32⟩
  | .local _ .vmem, ⟨11, _⟩ => ⟨S32x256, .f32⟩
  | .local _ .vmem, ⟨12, _⟩ => ⟨S1x8x256x128, .bf16⟩
  | .local _ .vmem, ⟨13, _⟩ => ⟨S1x8x256x128, .bf16⟩
  | .local _ .vmem, ⟨14, _⟩ => ⟨S1x8x80x256, .bf16⟩
  | .local _ .vmem, ⟨15, _⟩ => ⟨S1x8x80x256, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_v26_0 : Ref sig .tc := ⟨.hbm, 35, rfl⟩
abbrev main_v26_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x8x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x80x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel4Ideal.lean ====
variable {F : FTy → Type} [FloatOps F] [Named F]
def κ : String → Option EReal := fun
  | "inv_head" => some ((1 / 96 : ℝ) : EReal)
  | _ => none
-- ==== Reference4Ideal.lean ====
abbrev S4x256x1024 : Shape := ⟨3, ![4, 256, 1024]⟩
abbrev S8x6144 : Shape := ⟨2, ![8, 6144]⟩
abbrev S1x1024 : Shape := ⟨2, ![1, 1024]⟩
abbrev S1x1024x2976 : Shape := ⟨3, ![1, 1024, 2976]⟩
abbrev S1x128 : Shape := ⟨2, ![1, 128]⟩
abbrev S1x128x1024 : Shape := ⟨3, ![1, 128, 1024]⟩
abbrev S1x96 : Shape := ⟨2, ![1, 96]⟩
abbrev S1x6144 : Shape := ⟨2, ![1, 6144]⟩
abbrev S6144 : Shape := ⟨1, ![6144]⟩
abbrev S1024 : Shape := ⟨1, ![1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S1024x2976 : Shape := ⟨2, ![1024, 2976]⟩
abbrev S4x256x2976 : Shape := ⟨3, ![4, 256, 2976]⟩
abbrev S4x256x128 : Shape := ⟨3, ![4, 256, 128]⟩
abbrev S128 : Shape := ⟨1, ![128]⟩
abbrev S1x1x128 : Shape := ⟨3, ![1, 1, 128]⟩
abbrev S128x1024 : Shape := ⟨2, ![128, 1024]⟩
abbrev S4x256x8x128 : Shape := ⟨4, ![4, 256, 8, 128]⟩
abbrev S4x256x32 : Shape := ⟨3, ![4, 256, 32]⟩
abbrev S4x256x1x32 : Shape := ⟨4, ![4, 256, 1, 32]⟩
abbrev S4x256x8x32 : Shape := ⟨4, ![4, 256, 8, 32]⟩
abbrev S4x256x8x64 : Shape := ⟨4, ![4, 256, 8, 64]⟩
abbrev S4x256x8x96 : Shape := ⟨4, ![4, 256, 8, 96]⟩
abbrev S96 : Shape := ⟨1, ![96]⟩
abbrev S4x256x8 : Shape := ⟨3, ![4, 256, 8]⟩
abbrev S4x256x8x1 : Shape := ⟨4, ![4, 256, 8, 1]⟩
abbrev S1x1x1x96 : Shape := ⟨4, ![1, 1, 1, 96]⟩
abbrev S4x8x256x96 : Shape := ⟨4, ![4, 8, 256, 96]⟩
abbrev S4x8x256x32 : Shape := ⟨4, ![4, 8, 256, 32]⟩
abbrev S4x8x256x128 : Shape := ⟨4, ![4, 8, 256, 128]⟩
abbrev S4x8x64x256 : Shape := ⟨4, ![4, 8, 64, 256]⟩
abbrev S4x8x16x256 : Shape := ⟨4, ![4, 8, 16, 256]⟩
abbrev S4x8x80x256 : Shape := ⟨4, ![4, 8, 80, 256]⟩

abbrev nBuf : Space → Nat
  | .hbm => 97
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S8x6144, .f32⟩
  | .hbm, ⟨2, _⟩ => ⟨S1x1024, .f32⟩
  | .hbm, ⟨3, _⟩ => ⟨S1x1024x2976, .f32⟩
  | .hbm, ⟨4, _⟩ => ⟨S1x128, .f32⟩
  | .hbm, ⟨5, _⟩ => ⟨S1x128x1024, .f32⟩
  | .hbm, ⟨6, _⟩ => ⟨S1x96, .f32⟩
  | .hbm, ⟨7, _⟩ => ⟨S1x6144, .f32⟩
  | .hbm, ⟨8, _⟩ => ⟨S6144, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S4x256x1024, .f32⟩
  | .hbm, ⟨17, _⟩ => ⟨S_, .f32⟩
  | .hbm, ⟨18, _⟩ => ⟨S4x256, .f32⟩
  | .hbm, ⟨19, _⟩ => ⟨S4x256x1, .f32⟩
  | .hbm, ⟨20, _⟩ => ⟨S_, .f32⟩
  | .hbm, ⟨21, _⟩ => ⟨S4x256x1, .f32⟩
  | .hbm, ⟨22, _⟩ => ⟨S4x256x1, .f32⟩
  | .hbm, ⟨23, _⟩ => ⟨S_, .f32⟩
  | .hbm, ⟨24, _⟩ => ⟨S4x256x1, .f32⟩
  | .hbm, ⟨25, _⟩ => ⟨S4x256x1, .f32⟩
  | .hbm, ⟨26, _⟩ => ⟨S4x256x1, .f32⟩
  | .hbm, ⟨27, _⟩ => ⟨S4x256x1024, .f32⟩
  | .hbm, ⟨28, _⟩ => ⟨S4x256x1024, .f32⟩
  | .hbm, ⟨29, _⟩ => ⟨S1x1x1024, .f32⟩
  | .hbm, ⟨30, _⟩ => ⟨S4x256x1024, .f32⟩
  | .hbm, ⟨31, _⟩ => ⟨S4x256x1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S1x1x1024, .f32⟩
  | .hbm, ⟨36, _⟩ => ⟨S4x256x1024, .f32⟩
  | .hbm, ⟨37, _⟩ => ⟨S4x256x1024, .f32⟩
  | .hbm, ⟨38, _⟩ => ⟨S1x1x1024, .f32⟩
  | .hbm, ⟨39, _⟩ => ⟨S4x256x1024, .f32⟩
  | .hbm, ⟨40, _⟩ => ⟨S4x256x1024, .f32⟩
  | .hbm, ⟨41, _⟩ => ⟨S1024x2976, .f32⟩
  | .hbm, ⟨42, _⟩ => ⟨S4x256x2976, .f32⟩
  | .hbm, ⟨43, _⟩ => ⟨S4x256x128, .f32⟩
  | .hbm, ⟨44, _⟩ => ⟨S128, .f32⟩
  | .hbm, ⟨45, _⟩ => ⟨S4x256x128, .f32⟩
  | .hbm, ⟨46, _⟩ => ⟨S_, .f32⟩
  | .hbm, ⟨47, _⟩ => ⟨S4x256, .f32⟩
  | .hbm, ⟨48, _⟩ => ⟨S4x256x1, .f32⟩
  | .hbm, ⟨49, _⟩ => ⟨S_, .f32⟩
  | .hbm, ⟨50, _⟩ => ⟨S4x256x1, .f32⟩
  | .hbm, ⟨51, _⟩ => ⟨S4x256x1, .f32⟩
  | .hbm, ⟨52, _⟩ => ⟨S_, .f32⟩
  | .hbm, ⟨53, _⟩ => ⟨S4x256x1, .f32⟩
  | .hbm, ⟨54, _⟩ => ⟨S4x256x1, .f32⟩
  | .hbm, ⟨55, _⟩ => ⟨S4x256x1, .f32⟩
  | .hbm, ⟨56, _⟩ => ⟨S4x256x128, .f32⟩
  | .hbm, ⟨57, _⟩ => ⟨S4x256x128, .f32⟩
  | .hbm, ⟨58, _⟩ => ⟨S1x1x128, .f32⟩
  | .hbm, ⟨59, _⟩ => ⟨S4x256x128, .f32⟩
  | .hbm, ⟨60, _⟩ => ⟨S4x256x128, .f32⟩
  | .hbm, ⟨61, _⟩ => ⟨S128x1024, .f32⟩
  | .hbm, ⟨62, _⟩ => ⟨S4x256x1024, .f32⟩
  | .hbm, ⟨63, _⟩ => ⟨S4x256x8x128, .f32⟩
  | .hbm, ⟨64, _⟩ => ⟨S4x256x32, .f32⟩
  | .hbm, ⟨65, _⟩ => ⟨S4x256x1x32, .f32⟩
  | .hbm, ⟨66, _⟩ => ⟨S4x256x8x32, .f32⟩
  | .hbm, ⟨67, _⟩ => ⟨S4x256x8x64, .f32⟩
  | .hbm, ⟨68, _⟩ => ⟨S4x256x8x96, .f32⟩
  | .hbm, ⟨69, _⟩ => ⟨S96, .f32⟩
  | .hbm, ⟨70, _⟩ => ⟨S4x256x8x96, .f32⟩
  | .hbm, ⟨71, _⟩ => ⟨S_, .f32⟩
  | .hbm, ⟨72, _⟩ => ⟨S4x256x8, .f32⟩
  | .hbm, ⟨73, _⟩ => ⟨S4x256x8x1, .f32⟩
  | .hbm, ⟨74, _⟩ => ⟨S_, .f32⟩
  | .hbm, ⟨75, _⟩ => ⟨S4x256x8x1, .f32⟩
  | .hbm, ⟨76, _⟩ => ⟨S4x256x8x1, .f32⟩
  | .hbm, ⟨77, _⟩ => ⟨S_, .f32⟩
  | .hbm, ⟨78, _⟩ => ⟨S4x256x8x1, .f32⟩
  | .hbm, ⟨79, _⟩ => ⟨S4x256x8x1, .f32⟩
  | .hbm, ⟨80, _⟩ => ⟨S4x256x8x1, .f32⟩
  | .hbm, ⟨81, _⟩ => ⟨S4x256x8x96, .f32⟩
  | .hbm, ⟨82, _⟩ => ⟨S4x256x8x96, .f32⟩
  | .hbm, ⟨83, _⟩ => ⟨S1x1x1x96, .f32⟩
  | .hbm, ⟨84, _⟩ => ⟨S4x256x8x96, .f32⟩
  | .hbm, ⟨85, _⟩ => ⟨S4x256x8x96, .f32⟩
  | .hbm, ⟨86, _⟩ => ⟨S4x256x8x64, .f32⟩
  | .hbm, ⟨87, _⟩ => ⟨S4x8x256x96, .f32⟩
  | .hbm, ⟨88, _⟩ => ⟨S_, .f32⟩
  | .hbm, ⟨89, _⟩ => ⟨S4x8x256x32, .f32⟩
  | .hbm, ⟨90, _⟩ => ⟨S4x8x256x128, .f32⟩
  | .hbm, ⟨91, _⟩ => ⟨S4x8x256x128, .bf16⟩
  | .hbm, ⟨92, _⟩ => ⟨S4x8x64x256, .f32⟩
  | .hbm, ⟨93, _⟩ => ⟨S_, .f32⟩
  | .hbm, ⟨94, _⟩ => ⟨S4x8x16x256, .f32⟩
  | .hbm, ⟨95, _⟩ => ⟨S4x8x80x256, .f32⟩
  | .hbm, ⟨96, _⟩ => ⟨S4x8x80x256, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_6 : Ref sig .tc := ⟨.hbm, 71, rfl⟩
abbrev main_v57 : Ref sig .tc := ⟨.hbm, 72, rfl⟩
abbrev main_v58 : Ref sig .tc := ⟨.hbm, 73, rfl⟩
abbrev main_cst_7 : Ref sig .tc := ⟨.hbm, 74, rfl⟩
abbrev main_v59 : Ref sig .tc := ⟨.hbm, 75, rfl⟩
abbrev main_v60 : Ref sig .tc := ⟨.hbm, 76, rfl⟩
abbrev main_cst_8 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_9 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_10 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩

abbrev nD : Nat := 1
abbrev τ : Topo := Topo.v7x

variable {F : FTy → Type} [FloatOps F]
-- ==== Proof.Att.Fold.lean ====
/- What one grid point of the attention call leaves in its block, written as one regular recursion over the
   key blocks: for each of the eight blocks of 512 queries, seventeen steps of the online softmax (sixteen
   blocks of 256 latent keys, then the 256 context keys), and the quotient at the end. -/
module

public import proofs.«01_k».proof.Proof.Gen.KernelIdeal.Frame

@[expose] public section

set_option maxRecDepth 16384

noncomputable section

namespace Att

open Cert.KernelIdeal Cert.KernelIdeal.Gen Idealize.ShloMosaic Idealize.ShloMosaic.TcCoe Idealize.SL.Sem
open Cert.KernelIdeal.Facts

variable {F : FTy → Type} [FloatOps F]

/-- The rows of key block `i` in the latent keys. -/
abbrev keyRect (i : ℕ) (h : i < 16) : Rect S1x1x4096x128 :=
  Rect.unit (s := S1x1x4096x128) ![0, 0, 256 * i, 0] S1x1x256x128.size (by
    intro a; fin_cases a
    · show 0 + 1 ≤ 1; omega
    · show 0 + 1 ≤ 1; omega
    · show 256 * i + 256 ≤ 4096; omega
    · show 0 + 128 ≤ 128; omega)

/-- The columns of key block `i` in the transposed latent values. -/
abbrev valRect (i : ℕ) (h : i < 16) : Rect S1x1x80x4096 :=
  Rect.unit (s := S1x1x80x4096) ![0, 0, 0, 256 * i] S1x1x80x256.size (by
    intro a; fin_cases a
    · show 0 + 1 ≤ 1; omega
    · show 0 + 1 ≤ 1; omega
    · show 0 + 80 ≤ 80; omega
    · show 256 * i + 256 ≤ 4096; omega)

/-- The columns of query block `b` in the transposed queries. -/
abbrev qryRect (b : ℕ) (h : b < 8) : Rect S1x1x128x4096 :=
  Rect.unit (s := S1x1x128x4096) ![0, 0, 0, 512 * b] S1x1x128x512.size (by
    intro a; fin_cases a
    · show 0 + 1 ≤ 1; omega
    · show 0 + 1 ≤ 1; omega
    · show 0 + 128 ≤ 128; omega
    · show 512 * b + 512 ≤ 4096; omega)

/-- The columns of query block `b` in the transposed result. -/
abbrev outRect (b : ℕ) (h : b < 8) : Rect S1x64x4096 :=
  Rect.unit (s := S1x64x4096) ![0, 0, 512 * b] S1x64x512.size (by
    intro a; fin_cases a
    · show 0 + 1 ≤ 1; omega
    · show 0 + 64 ≤ 64; omega
    · show 512 * b + 512 ≤ 4096; omega)

/-- The key block of step `i`: latent for `i < 16`, the context after them. -/
def keys (x1 : Vec F S1x1x4096x128 .bf16) (x3 : Vec F S1x1x256x128 .bf16) (i : ℕ) : FVec F S256x128 .bf16 :=
  if h : i < 16 then shapeCast S256x128 (View.ld x1 (keyRect i h)) shapeCasts_S1x1x256x128_S256x128
  else shapeCast S256x128 (View.ld x3 r0_36) shapeCasts_S1x1x256x128_S256x128

/-- The transposed value block of step `i`. -/
def vals (x2 : Vec F S1x1x80x4096 .bf16) (x4 : Vec F S1x1x80x256 .bf16) (i : ℕ) : FVec F S80x256 .bf16 :=
  if h : i < 16 then shapeCast S80x256 (View.ld x2 (valRect i h)) shapeCasts_S1x1x80x256_S80x256
  else shapeCast S80x256 (View.ld x4 r0_40) shapeCasts_S1x1x80x256_S80x256

/-- Query block `b`. -/
def qry (x0 : Vec F S1x1x128x4096 .bf16) (b : ℕ) (h : b < 8) : FVec F S128x512 .bf16 :=
  shapeCast S128x512 (View.ld x0 (qryRect b h)) shapeCasts_S1x1x128x512_S128x512

/-- A block of scores: keys times queries. -/
def score (k : FVec F S256x128 .bf16) (q : FVec F S128x512 .bf16) : FVec F S256x512 .f32 :=
  matmul dot_S256x128_S128x512_S256x512_1_0_0_1_n_n none k q (constant S256x512 .f32 0x00000000#32)

/-- The running maximum after a block of scores. -/
def stepM (m : FVec F S1x512 .f32) (s : FVec F S256x512 .f32) : FVec F S1x512 .f32 :=
  maximumf m (shapeCast S1x512 (multiReduction .maximumf [0] S512
    (multiReduction .maximumf [0] S8x512 (shapeCast S32x8x512 s shapeCasts_S256x512_S32x8x512)
      0xFF800000#32 reduces_S32x8x512_S8x512 (.inl rfl) rfl) 0xFF800000#32 reduces_S8x512_S512 (.inl rfl) rfl)
    shapeCasts_S512_S1x512)

/-- The running weighted sum after a block, `m'` being the new maximum. -/
def stepA (m m' : FVec F S1x512 .f32) (a : FVec F S80x512 .f32) (s : FVec F S256x512 .f32)
    (v : FVec F S80x256 .bf16) : FVec F S80x512 .f32 :=
  addf (mulf (broadcastTo S80x512 (exp2 (subf m m')) broadcasts_S1x512_S80x512) a)
    (matmul dot_S80x256_S256x512_S80x512_1_0_0_1_n_n none v
      (truncf .bf16 (exp2 (subf s (broadcastTo S256x512 m' broadcasts_S1x512_S256x512))) bitsLt_bf16_f32)
      (constant S80x512 .f32 0x00000000#32))

/-- Maximum and weighted sum after `n` steps. -/
def fold (s : ℕ → FVec F S256x512 .f32) (v : ℕ → FVec F S80x256 .bf16) :
    ℕ → FVec F S1x512 .f32 × FVec F S80x512 .f32
  | 0 => (broadcast S1x512 (Scalar.ofBits .f32 0xFF800000#32), broadcast S80x512 (Scalar.ofBits .f32 0x00000000#32))
  | n + 1 => (stepM (fold s v n).1 (s n), stepA (fold s v n).1 (stepM (fold s v n).1 (s n)) (fold s v n).2 (s n) (v n))

/-- The first 64 rows over row 64. -/
def quot (a : FVec F S80x512 .f32) : FVec F S1x64x512 .bf16 :=
  shapeCast S1x64x512 (truncf .bf16 (divf (extractStridedSlice S64x512 ![0, 0] a slices_S80x512_o0_0_S64x512)
    (broadcastTo S64x512 (extractStridedSlice S1x512 ![64, 0] a slices_S80x512_o64_0_S1x512) broadcasts_S1x512_S64x512))
    bitsLt_bf16_f32) shapeCasts_S64x512_S1x64x512

/-- What query block `b` gets. -/
def blk (x0 : Vec F S1x1x128x4096 .bf16) (x1 : Vec F S1x1x4096x128 .bf16) (x2 : Vec F S1x1x80x4096 .bf16)
    (x3 : Vec F S1x1x256x128 .bf16) (x4 : Vec F S1x1x80x256 .bf16) (b : ℕ) (h : b < 8) : FVec F S1x64x512 .bf16 :=
  quot (fold (fun i => score (keys x1 x3 i) (qry x0 b h)) (vals x2 x4) 17).2

set_option maxHeartbeats 4000000 in
/-- The stores of the body are the eight query blocks of the recursion. -/
theorem out_eq (x0 : Vec F S1x1x128x4096 .bf16) (x1 : Vec F S1x1x4096x128 .bf16) (x2 : Vec F S1x1x80x4096 .bf16)
    (x3 : Vec F S1x1x256x128 .bf16) (x4 : Vec F S1x1x80x256 .bf16) (x5 : Vec F S16x1024 .f32) (x6 : Vec F S16x1024 .f32)
    (x7 : Vec F S32x1024 .f32) (x8 : Vec F S1024x128 .f32) (x9 : Vec F S128x1024 .f32) :
    out0_10 x0 x1 x2 x3 x4 x5 x6 x7 x8 x9 = View.canon [⟨r0_54, blk x0 x1 x2 x3 x4 7 (by omega)⟩,
      ⟨r0_53, blk x0 x1 x2 x3 x4 6 (by omega)⟩, ⟨r0_51, blk x0 x1 x2 x3 x4 5 (by omega)⟩,
      ⟨r0_49, blk x0 x1 x2 x3 x4 4 (by omega)⟩, ⟨r0_47, blk x0 x1 x2 x3 x4 3 (by omega)⟩,
      ⟨r0_45, blk x0 x1 x2 x3 x4 2 (by omega)⟩, ⟨r0_43, blk x0 x1 x2 x3 x4 1 (by omega)⟩,
      ⟨r0_41, blk x0 x1 x2 x3 x4 0 (by omega)⟩] := rfl

end Att

end
-- ==== Proof.Att.Entry.lean ====
/- The pieces of the recursion read at an index, over the extended reals. -/
module

public import proofs.«01_k».proof.Proof.Att.Fold
public import Idealize.ShloMosaic.Lib.Pointwise

@[expose] public section

set_option maxRecDepth 16384

noncomputable section

namespace Att

open Cert.KernelIdeal Cert.KernelIdeal.Gen Idealize.ShloMosaic Idealize.ShloMosaic.TcCoe Idealize.SL.Sem
open Cert.KernelIdeal.Facts

/-- A block of keys without its unit axes. -/
theorem cast_k (w : Vec Ideal S1x1x256x128 .bf16) (r : Fin 256) (c : Fin 128) :
    shapeCast S256x128 w shapeCasts_S1x1x256x128_S256x128 (ix2 r c) = w (ix4 0 0 r c) := by
  pointwise

/-- A block of values without its unit axes. -/
theorem cast_v (w : Vec Ideal S1x1x80x256 .bf16) (d : Fin 80) (r : Fin 256) :
    shapeCast S80x256 w shapeCasts_S1x1x80x256_S80x256 (ix2 d r) = w (ix4 0 0 d r) := by
  pointwise

/-- A block of queries without its unit axes. -/
theorem cast_q (w : Vec Ideal S1x1x128x512 .bf16) (c : Fin 128) (j : Fin 512) :
    shapeCast S128x512 w shapeCasts_S1x1x128x512_S128x512 (ix2 c j) = w (ix4 0 0 c j) := by
  pointwise

theorem keys_lt (x1 : Vec Ideal S1x1x4096x128 .bf16) (x3 : Vec Ideal S1x1x256x128 .bf16) (i : ℕ) (h : i < 16)
    (r : Fin 256) (c : Fin 128) : keys x1 x3 i (ix2 r c) = x1 (ix4 0 0 ⟨256 * i + r.val, by omega⟩ c) := by
  unfold keys
  rw [dif_pos h, cast_k]
  refine congrArg x1 (funext fun a => Fin.ext ?_)
  fin_cases a
  · rfl
  · rfl
  · show 256 * i + 1 * r.val = 256 * i + r.val
    omega
  · show 0 + 1 * c.val = c.val
    omega

theorem keys_ge (x1 : Vec Ideal S1x1x4096x128 .bf16) (x3 : Vec Ideal S1x1x256x128 .bf16) (i : ℕ) (h : ¬ i < 16)
    (r : Fin 256) (c : Fin 128) : keys x1 x3 i (ix2 r c) = x3 (ix4 0 0 r c) := by
  unfold keys
  rw [dif_neg h, cast_k]
  refine congrArg x3 (funext fun a => Fin.ext ?_)
  fin_cases a
  · rfl
  · rfl
  · show 0 + 1 * r.val = r.val
    omega
  · show 0 + 1 * c.val = c.val
    omega

theorem vals_lt (x2 : Vec Ideal S1x1x80x4096 .bf16) (x4 : Vec Ideal S1x1x80x256 .bf16) (i : ℕ) (h : i < 16)
    (d : Fin 80) (r : Fin 256) : vals x2 x4 i (ix2 d r) = x2 (ix4 0 0 d ⟨256 * i + r.val, by omega⟩) := by
  unfold vals
  rw [dif_pos h, cast_v]
  refine congrArg x2 (funext fun a => Fin.ext ?_)
  fin_cases a
  · rfl
  · rfl
  · show 0 + 1 * d.val = d.val
    omega
  · show 256 * i + 1 * r.val = 256 * i + r.val
    omega

theorem vals_ge (x2 : Vec Ideal S1x1x80x4096 .bf16) (x4 : Vec Ideal S1x1x80x256 .bf16) (i : ℕ) (h : ¬ i < 16)
    (d : Fin 80) (r : Fin 256) : vals x2 x4 i (ix2 d r) = x4 (ix4 0 0 d r) := by
  unfold vals
  rw [dif_neg h, cast_v]
  refine congrArg x4 (funext fun a => Fin.ext ?_)
  fin_cases a
  · rfl
  · rfl
  · show 0 + 1 * d.val = d.val
    omega
  · show 0 + 1 * r.val = r.val
    omega

theorem qry_at (x0 : Vec Ideal S1x1x128x4096 .bf16) (b : ℕ) (h : b < 8) (c : Fin 128) (j : Fin 512) :
    qry x0 b h (ix2 c j) = x0 (ix4 0 0 c ⟨512 * b + j.val, by omega⟩) := by
  unfold qry
  rw [cast_q]
  refine congrArg x0 (funext fun a => Fin.ext ?_)
  fin_cases a
  · rfl
  · rfl
  · show 0 + 1 * c.val = c.val
    omega
  · show 512 * b + 1 * j.val = 512 * b + j.val
    omega

theorem score_at (k : FVec Ideal S256x128 .bf16) (q : FVec Ideal S128x512 .bf16) (r : Fin 256) (j : Fin 512) :
    score k q (ix2 r j) = ∑ c : Fin 128, k (ix2 r c) * q (ix2 c j) := by
  pointwise [score]

theorem stepM_at (m : FVec Ideal S1x512 .f32) (s : FVec Ideal S256x512 .f32) (j : Fin 512) :
    stepM m s (ix2 0 j) = max (m (ix2 0 j)) (Finset.univ.fold max ⊥ fun x : Fin 8 =>
      Finset.univ.fold max ⊥ fun y : Fin 32 => s (ix2 ⟨y.val * 8 + x.val, by omega⟩ j)) := by
  have e : Ideal.ofBits FTy.f32 4286578688#32 = ⊥ := by simp [Ideal.ofBits, Ideal.ieee]
  pointwise [stepM]
  rw [e]

theorem stepA_at (m m' : FVec Ideal S1x512 .f32) (a : FVec Ideal S80x512 .f32) (s : FVec Ideal S256x512 .f32)
    (v : FVec Ideal S80x256 .bf16) (d : Fin 80) (j : Fin 512) :
    stepA m m' a s v (ix2 d j) = Ideal.exp2 (m (ix2 0 j) - m' (ix2 0 j)) * a (ix2 d j) +
      ∑ x : Fin 256, v (ix2 d x) * Ideal.exp2 (s (ix2 x j) - m' (ix2 0 j)) := by
  pointwise [stepA]
  rfl

theorem quot_at (a : FVec Ideal S80x512 .f32) (d : Fin 64) (j : Fin 512) :
    quot a (ix3 0 d j) = Ideal.div (a (ix2 ⟨d.val, by omega⟩ j)) (a (ix2 64 j)) := by
  pointwise [quot]

theorem fold_zero_m (s : ℕ → FVec Ideal S256x512 .f32) (v : ℕ → FVec Ideal S80x256 .bf16) (j : Fin 512) :
    (fold s v 0).1 (ix2 0 j) = ⊥ := by
  have e : Ideal.ofBits FTy.f32 4286578688#32 = ⊥ := by simp [Ideal.ofBits, Ideal.ieee]
  exact e

theorem fold_zero_a (s : ℕ → FVec Ideal S256x512 .f32) (v : ℕ → FVec Ideal S80x256 .bf16) (d : Fin 80) (j : Fin 512) :
    (fold s v 0).2 (ix2 d j) = 0 := by
  have e : Ideal.ofBits FTy.f32 0x00000000#32 = 0 := by simp [Ideal.ofBits, Ideal.ieee]
  exact e

end Att

end
-- ==== Proof.Att.Softmax.lean ====
/- Pure facts on the extended reals: the online softmax over blocks of real scores is the softmax. -/
module

public import Idealize.ShloMosaic.PureOps.Ideal

@[expose] public section

noncomputable section

namespace Att

open Idealize.ShloMosaic

/-- A nonnegative real factor goes into a finite sum, whatever the summands. -/
theorem coe_mul_sum {ι : Type} (c : ℝ) (hc : 0 ≤ c) (s : Finset ι) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- A sum of reals, taken in the extended reals. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of `⊥` and some reals is `⊥` or real; with one real at least it is real. -/
theorem fold_max_coe {ι : Type} (s : Finset ι) (f : ι → EReal) (hf : ∀ i ∈ s, ∃ r : ℝ, f i = r) (hs : s.Nonempty) :
    ∃ M : ℝ, s.fold max ⊥ f = M := by
  classical
  induction s using Finset.induction_on with
  | empty => exact absurd hs (by simp)
  | insert a s ha ih =>
    rw [Finset.fold_insert ha]
    obtain ⟨r, hr⟩ := hf a (Finset.mem_insert_self a s)
    by_cases h : s.Nonempty
    · obtain ⟨M, hM⟩ := ih (fun i hi => hf i (Finset.mem_insert_of_mem hi)) h
      exact ⟨max r M, by rw [hM, hr]; exact (EReal.coe_strictMono.monotone.map_max).symm⟩
    · rw [Finset.not_nonempty_iff_eq_empty.1 h]
      exact ⟨r, by simp [hr]⟩

theorem exp2_coe (r : ℝ) : Ideal.exp2 ((r : ℝ) : EReal) = ((2 : ℝ) ^ r : ℝ) := rfl

theorem exp_coe (r : ℝ) : Ideal.exp ((r : ℝ) : EReal) = (Real.exp r : ℝ) := rfl

/-- Division by a nonzero real. -/
theorem div_coe' (x : EReal) (y : ℝ) (hy : y ≠ 0) : Ideal.div x y = x * ((y⁻¹ : ℝ) : EReal) := by
  unfold Ideal.div
  rw [if_neg (by exact_mod_cast hy), EReal.coe_inv]

/-- THE ONLINE SOFTMAX: maxima `m` and weighted sums `a` by blocks of real scores `s` (rows `R`), the value rows `v`.
    After at least one step the maximum is a real `M` and the sum is the sum so far of `v · 2 ^ (s - M)`. -/
theorem online {R : Type} [Fintype R] (s : ℕ → R → ℝ) (v : ℕ → R → EReal) (m a : ℕ → EReal)
    (hm0 : m 0 = ⊥) (ha0 : a 0 = 0)
    (N : ℕ) (hm : ∀ n < N, ∃ M : ℝ, m (n + 1) = max (m n) M)
    (ha : ∀ n < N, a (n + 1) = Ideal.exp2 (m n - m (n + 1)) * a n + ∑ r, v n r * Ideal.exp2 ((s n r : EReal) - m (n + 1)))
    (n : ℕ) (hn : n < N) :
    ∃ M : ℝ, m (n + 1) = M ∧ a (n + 1) = ∑ i ∈ Finset.range (n + 1), ∑ r, v i r * (((2 : ℝ) ^ (s i r - M) : ℝ) : EReal) := by
  induction n with
  | zero =>
    obtain ⟨M, hM⟩ := hm 0 hn
    rw [hm0, max_eq_right bot_le] at hM
    refine ⟨M, hM, ?_⟩
    rw [ha 0 hn, hM, ha0, mul_zero, zero_add, Finset.sum_range_one]
    rfl
  | succ n ih =>
    obtain ⟨M, hM, hA⟩ := ih (by omega)
    obtain ⟨B, hB⟩ := hm (n + 1) hn
    have hm' : m (n + 1 + 1) = ((max M B : ℝ) : EReal) := by
      rw [hB, hM]; exact (EReal.coe_strictMono.monotone.map_max).symm
    refine ⟨max M B, hm', ?_⟩
    rw [ha (n + 1) hn, hA, hM, hm', Finset.sum_range_succ _ (n + 1), ← EReal.coe_sub, exp2_coe]
    congr 1
    rw [coe_mul_sum _ (Real.rpow_nonneg (by norm_num) _)]
    refine Finset.sum_congr rfl fun i _ => ?_
    rw [coe_mul_sum _ (Real.rpow_nonneg (by norm_num) _)]
    refine Finset.sum_congr rfl fun r _ => ?_
    rw [mul_comm, mul_assoc, ← EReal.coe_mul, ← Real.rpow_add (by norm_num)]
    congr 3
    ring

/-- The quotient of the weighted sum by the sum of the weights is the softmax's, the maximum gone. -/
theorem online_quot {K : Type} [Fintype K] [Nonempty K] (s : K → ℝ) (v : K → EReal) (M : ℝ) :
    Ideal.div (∑ k, v k * (((2 : ℝ) ^ (s k - M) : ℝ) : EReal)) (∑ k, (1 : EReal) * (((2 : ℝ) ^ (s k - M) : ℝ) : EReal))
      = ∑ k, v k * ((Real.exp (s k * Real.log 2) / ∑ k', Real.exp (s k' * Real.log 2) : ℝ) : EReal) := by
  have h2 : ∀ x : ℝ, (2 : ℝ) ^ x = Real.exp (x * Real.log 2) := fun x => by
    rw [Real.rpow_def_of_pos (by norm_num), mul_comm]
  have hpos : 0 < ∑ k, (2 : ℝ) ^ (s k - M) :=
    Finset.sum_pos (fun k _ => Real.rpow_pos_of_pos (by norm_num) _) Finset.univ_nonempty
  have hD : (∑ k, (1 : EReal) * (((2 : ℝ) ^ (s k - M) : ℝ) : EReal)) = ((∑ k, (2 : ℝ) ^ (s k - M) : ℝ) : EReal) := by
    rw [← sum_coe]; simp
  rw [hD, div_coe' _ _ hpos.ne', mul_comm, coe_mul_sum _ (inv_nonneg.2 hpos.le)]
  refine Finset.sum_congr rfl fun k _ => ?_
  rw [mul_comm, mul_assoc, ← EReal.coe_mul]
  congr 2
  have hf : ∀ k, (2 : ℝ) ^ (s k - M) = Real.exp (s k * Real.log 2) * (2 : ℝ) ^ (-M) := fun k => by
    rw [sub_eq_add_neg, Real.rpow_add (by norm_num), h2 (s k)]
  have hM : (2 : ℝ) ^ (-M) ≠ 0 := (Real.rpow_pos_of_pos (by norm_num) _).ne'
  simp only [hf, ← Finset.sum_mul]
  rw [← div_eq_mul_inv, mul_div_mul_right _ _ hM]

/-- The softmax with its maximum taken off, as a reference writes it, is the softmax. -/
theorem soft_ref {K : Type} [Fintype K] [Nonempty K] (t : K → ℝ) (M : ℝ) (k : K) :
    Ideal.div (Ideal.exp ((t k : EReal) - M)) (∑ k', Ideal.exp ((t k' : EReal) - M))
      = ((Real.exp (t k) / ∑ k', Real.exp (t k') : ℝ) : EReal) := by
  have e : ∀ k, Ideal.exp ((t k : EReal) - M) = ((Real.exp (t k - M) : ℝ) : EReal) := fun k => by
    rw [← EReal.coe_sub, exp_coe]
  simp only [e]
  have hpos : 0 < ∑ k, Real.exp (t k - M) := Finset.sum_pos (fun k _ => Real.exp_pos _) Finset.univ_nonempty
  rw [sum_coe, div_coe' _ _ hpos.ne', ← EReal.coe_mul]
  congr 1
  have hf : ∀ k, Real.exp (t k - M) = Real.exp (t k) * Real.exp (-M) := fun k => by
    rw [sub_eq_add_neg, Real.exp_add]
  simp only [hf, ← Finset.sum_mul]
  rw [← div_eq_mul_inv, mul_div_mul_right _ _ (Real.exp_pos _).ne']

/-- Seventeen blocks of 256 keys are the 4352 keys in order. -/
theorem sum_keys (f : ℕ → EReal) :
    ∑ i ∈ Finset.range 17, ∑ r : Fin 256, f (256 * i + r.val) = ∑ k : Fin 4352, f k.val := by
  rw [Finset.sum_range, ← Fintype.sum_prod_type' (fun (i : Fin 17) (r : Fin 256) => f (256 * i.val + r.val))]
  exact Fintype.sum_equiv finProdFinEquiv _ _ fun x => by
    congr 1
    show 256 * x.1.val + x.2.val = x.2.val + 256 * x.1.val
    omega

/-- The weighted mean of `v` with the softmax of `T` as weights. -/
def soft (T : Fin 4352 → ℝ) (v : Fin 4352 → EReal) : EReal :=
  ∑ k, v k * ((Real.exp (T k) / ∑ k', Real.exp (T k') : ℝ) : EReal)

end Att

end
-- ==== Proof.Att.Block.lean ====
/- One query block of the recursion at an index: the softmax of its real scores against the value rows. -/
module

public import proofs.«01_k».proof.Proof.Att.Entry
public import proofs.«01_k».proof.Proof.Att.Softmax

@[expose] public section

set_option maxRecDepth 16384

noncomputable section

namespace Att

open Cert.KernelIdeal Cert.KernelIdeal.Gen Idealize.ShloMosaic Idealize.ShloMosaic.TcCoe Idealize.SL.Sem
open Cert.KernelIdeal.Facts

/-- With real scores the recursion's maximum grows by a real at each step. -/
theorem stepM_real (m : FVec Ideal S1x512 .f32) (s : FVec Ideal S256x512 .f32) (j : Fin 512)
    (hs : ∀ r : Fin 256, ∃ x : ℝ, s (ix2 r j) = x) : ∃ M : ℝ, stepM m s (ix2 0 j) = max (m (ix2 0 j)) M := by
  obtain ⟨M, hM⟩ := fold_max_coe (Finset.univ : Finset (Fin 8)) (fun x : Fin 8 =>
    Finset.univ.fold max ⊥ fun y : Fin 32 => s (ix2 ⟨y.val * 8 + x.val, by omega⟩ j))
    (fun x _ => fold_max_coe _ _ (fun y _ => hs _) Finset.univ_nonempty) Finset.univ_nonempty
  exact ⟨M, by rw [stepM_at, hM]⟩

/-- Seventeen steps over real scores `S` (by key) at one query and one value row: the sum of `v · 2 ^ (S - M)`. -/
theorem fold_at (s : ℕ → FVec Ideal S256x512 .f32) (w : ℕ → FVec Ideal S80x256 .bf16) (j : Fin 512) (S : ℕ → ℝ)
    (hs : ∀ i < 17, ∀ r : Fin 256, s i (ix2 r j) = (S (256 * i + r.val) : ℝ)) :
    ∃ M : ℝ, ∀ (d : Fin 80) (v : ℕ → EReal), (∀ i < 17, ∀ r : Fin 256, w i (ix2 d r) = v (256 * i + r.val)) →
      (fold s w 17).2 (ix2 d j) = ∑ k : Fin 4352, v k.val * (((2 : ℝ) ^ (S k.val - M) : ℝ) : EReal) := by
  have hm : ∀ n < 17, ∃ M : ℝ, (fold s w (n + 1)).1 (ix2 0 j) = max ((fold s w n).1 (ix2 0 j)) M := fun n hn =>
    stepM_real _ _ j fun r => ⟨_, hs n hn r⟩
  have key := fun (d : Fin 80) (v : ℕ → EReal) (hv : ∀ i < 17, ∀ r : Fin 256, w i (ix2 d r) = v (256 * i + r.val)) =>
    online (fun i (r : Fin 256) => S (256 * i + r.val)) (fun i (r : Fin 256) => v (256 * i + r.val))
      (fun n => (fold s w n).1 (ix2 0 j)) (fun n => (fold s w n).2 (ix2 d j)) (fold_zero_m s w j) (fold_zero_a s w d j) 17 hm
      (fun n hn => by
        show stepA _ _ _ _ _ (ix2 d j) = _
        rw [stepA_at]
        congr 1
        exact Finset.sum_congr rfl fun r _ => by rw [hv n hn r, hs n hn r]; rfl) 16 (by omega)
  obtain ⟨M, hM, -⟩ := key 0 (fun k => if h : k < 4352 then w (k / 256) (ix2 0 ⟨k % 256, by omega⟩) else 0) (fun i hi r => by
    have hr := r.isLt
    have e1 : (256 * i + r.val) / 256 = i := by omega
    have e2 : (256 * i + r.val) % 256 = r.val := by omega
    simp only [e1, e2]
    rw [dif_pos (by omega)])
  refine ⟨M, fun d v hv => ?_⟩
  obtain ⟨M', hM', hA⟩ := key d v hv
  have : M' = M := EReal.coe_injective (hM'.symm.trans hM)
  subst this
  exact hA.trans (sum_keys fun k => v k * (((2 : ℝ) ^ (S k - M') : ℝ) : EReal))

/-- ONE QUERY BLOCK: with real scores `S` and a row 64 of ones, column `j` of row `d` is the softmax's mean. -/
theorem blk_at (x0 : Vec Ideal S1x1x128x4096 .bf16) (x1 : Vec Ideal S1x1x4096x128 .bf16) (x2 : Vec Ideal S1x1x80x4096 .bf16)
    (x3 : Vec Ideal S1x1x256x128 .bf16) (x4 : Vec Ideal S1x1x80x256 .bf16) (b : ℕ) (h : b < 8) (d : Fin 64) (j : Fin 512)
    (S : ℕ → ℝ) (v : ℕ → EReal)
    (hs : ∀ i < 17, ∀ r : Fin 256, ∑ c : Fin 128, keys x1 x3 i (ix2 r c) * qry x0 b h (ix2 c j) = (S (256 * i + r.val) : ℝ))
    (hv : ∀ i < 17, ∀ r : Fin 256, vals x2 x4 i (ix2 ⟨d.val, by omega⟩ r) = v (256 * i + r.val))
    (h1 : ∀ i < 17, ∀ r : Fin 256, vals x2 x4 i (ix2 64 r) = 1) :
    blk x0 x1 x2 x3 x4 b h (ix3 0 d j) = soft (fun k => S k.val * Real.log 2) (fun k => v k.val) := by
  obtain ⟨M, hM⟩ := fold_at (fun i => score (keys x1 x3 i) (qry x0 b h)) (vals x2 x4) j S (fun i hi r => by
    rw [score_at, hs i hi r])
  unfold blk
  rw [quot_at, hM _ v hv, hM _ (fun _ => 1) h1]
  exact online_quot (fun k : Fin 4352 => S k.val) (fun k => v k.val) M

end Att

end
-- ==== Proof.Att.Host.lean ====
/- The arrays the attention call is handed, read at an index: padded, transposed copies of the arguments. -/
module

public import proofs.«01_k».proof.Proof.Gen.KernelIdeal.Frame
public import Idealize.ShloMosaic.Lib.Claim
public import Idealize.ShloMosaic.Lib.Pointwise
public import Idealize.ShloMosaic.Lib.IdealHost

@[expose] public section

set_option maxRecDepth 16384

noncomputable section

namespace Att

open Cert.KernelIdeal Cert.KernelIdeal.Gen Idealize.ShloMosaic Idealize.ShloMosaic.TcCoe Idealize.SL.Sem
open Cert.KernelIdeal.Facts

variable (m : (ℓ : Loc nD τ sig) → Buf (Elt Ideal) ℓ) (d : Dev nD)

/-- The queries, keys, values, and the context's keys and values on device `d`. -/
abbrev aq : FVec Ideal S4x4096x8x96 .f32 := m ((d.tc : Thread nD τ).loc main_arg0)
abbrev ak : FVec Ideal S4x4096x8x96 .f32 := m ((d.tc : Thread nD τ).loc main_arg1)
abbrev av : FVec Ideal S4x4096x8x64 .f32 := m ((d.tc : Thread nD τ).loc main_arg2)
abbrev akc : FVec Ideal S4x256x8x96 .f32 := m ((d.tc : Thread nD τ).loc main_arg3)
abbrev avc : FVec Ideal S4x256x8x64 .f32 := m ((d.tc : Thread nD τ).loc main_arg4)

/-- What the queries are divided by. -/
def scale : EReal := Ideal.sqrt (Ideal.ofBits .f32 0x42C00000#32) * Ideal.log (Ideal.ofBits .f32 0x40000000#32)

theorem V_q (b : Fin 4) (h : Fin 8) (c : Fin 128) (s : Fin 4096) : V m d main_v8 (ix4 b h c s) =
    if g : c.val < 96 then Ideal.div (aq m d (ix4 b s h ⟨c.val, g⟩)) scale else (0 : EReal) := by
  entry_read
  pointwise [scale, aq]

theorem V_k (b : Fin 4) (h : Fin 8) (n : Fin 4096) (c : Fin 128) : V m d main_v12 (ix4 b h n c) =
    if g : c.val < 96 then ak m d (ix4 b n h ⟨c.val, g⟩) else (0 : EReal) := by
  entry_read
  pointwise [ak]

theorem V_v (b : Fin 4) (h : Fin 8) (c : Fin 80) (n : Fin 4096) : V m d main_v16 (ix4 b h c n) =
    if g : c.val < 64 then av m d (ix4 b n h ⟨c.val, g⟩) else (1 : EReal) := by
  entry_read
  pointwise [av, Ideal.ofBits_one_f32]

theorem V_kc (b : Fin 4) (h : Fin 8) (n : Fin 256) (c : Fin 128) : V m d main_v20 (ix4 b h n c) =
    if g : c.val < 96 then akc m d (ix4 b n h ⟨c.val, g⟩) else (0 : EReal) := by
  entry_read
  pointwise [akc]

theorem V_vc (b : Fin 4) (h : Fin 8) (c : Fin 80) (n : Fin 256) : V m d main_v24 (ix4 b h c n) =
    if g : c.val < 64 then avc m d (ix4 b n h ⟨c.val, g⟩) else (1 : EReal) := by
  entry_read
  pointwise [avc, Ideal.ofBits_one_f32]

end Att

end
-- ==== Proof.Att.Blocks.lean ====
/- The blocks at grid point `t`: batch `t / 8`, head `t % 8`. -/
module

public import proofs.«01_k».proof.Proof.Att.Host
public import Idealize.ShloMosaic.Lib.Pipeline.ValueKit.Geometry

@[expose] public section

set_option maxRecDepth 16384

noncomputable section

namespace Att

open Cert.KernelIdeal Cert.KernelIdeal.Gen Idealize.ShloMosaic Idealize.ShloMosaic.TcCoe Idealize.SL.Sem
open Cert.KernelIdeal.Facts

variable (m : (ℓ : Loc nD τ sig) → Buf (Elt Ideal) ℓ) (d : Dev nD)

/-- The batch and the head of a grid point. -/
def tb (t : Fin cfg0.N) : Fin 4 := ⟨t.val / 8, by have h := t.isLt; have : cfg0.N = 32 := N_0; omega⟩
def th (t : Fin cfg0.N) : Fin 8 := ⟨t.val % 8, by omega⟩

theorem i0 : ∀ t : Fin cfg0.N, win0_0.index t = ![t.val / 8, t.val % 8, 0, 0] :=
  (by decide +kernel : ∀ t : Fin grid0.N, win0_0.index t = ![t.val / 8, t.val % 8, 0, 0])
theorem i1 : ∀ t : Fin cfg0.N, win0_1.index t = ![t.val / 8, t.val % 8, 0, 0] :=
  (by decide +kernel : ∀ t : Fin grid0.N, win0_1.index t = ![t.val / 8, t.val % 8, 0, 0])
theorem i2 : ∀ t : Fin cfg0.N, win0_2.index t = ![t.val / 8, t.val % 8, 0, 0] :=
  (by decide +kernel : ∀ t : Fin grid0.N, win0_2.index t = ![t.val / 8, t.val % 8, 0, 0])
theorem i3 : ∀ t : Fin cfg0.N, win0_3.index t = ![t.val / 8, t.val % 8, 0, 0] :=
  (by decide +kernel : ∀ t : Fin grid0.N, win0_3.index t = ![t.val / 8, t.val % 8, 0, 0])
theorem i4 : ∀ t : Fin cfg0.N, win0_4.index t = ![t.val / 8, t.val % 8, 0, 0] :=
  (by decide +kernel : ∀ t : Fin grid0.N, win0_4.index t = ![t.val / 8, t.val % 8, 0, 0])
theorem i10 : ∀ t : Fin cfg0.N, win0_10.index t = ![t.val / 8, t.val % 8, 0] :=
  (by decide +kernel : ∀ t : Fin grid0.N, win0_10.index t = ![t.val / 8, t.val % 8, 0])

theorem blk_q (t : Fin cfg0.N) (c : Fin 128) (j : Fin 4096) :
    iblk m d 0 t (ix4 0 0 c j) = V m d main_v8 (ix4 (tb t) (th t) c j) := by
  blk_simp [iblk]
  refine congrArg (V m d main_v8) ?_
  funext a
  refine Fin.ext ?_
  fin_cases a <;> blk_simp [i0] <;> simp [tb, th]

theorem blk_k (t : Fin cfg0.N) (n : Fin 4096) (c : Fin 128) :
    iblk m d 1 t (ix4 0 0 n c) = V m d main_v12 (ix4 (tb t) (th t) n c) := by
  blk_simp [iblk]
  refine congrArg (V m d main_v12) ?_
  funext a
  refine Fin.ext ?_
  fin_cases a <;> blk_simp [i1] <;> simp [tb, th]

theorem blk_v (t : Fin cfg0.N) (c : Fin 80) (n : Fin 4096) :
    iblk m d 2 t (ix4 0 0 c n) = V m d main_v16 (ix4 (tb t) (th t) c n) := by
  blk_simp [iblk]
  refine congrArg (V m d main_v16) ?_
  funext a
  refine Fin.ext ?_
  fin_cases a <;> blk_simp [i2] <;> simp [tb, th]

theorem blk_kc (t : Fin cfg0.N) (n : Fin 256) (c : Fin 128) :
    iblk m d 3 t (ix4 0 0 n c) = V m d main_v20 (ix4 (tb t) (th t) n c) := by
  blk_simp [iblk]
  refine congrArg (V m d main_v20) ?_
  funext a
  refine Fin.ext ?_
  fin_cases a <;> blk_simp [i3] <;> simp [tb, th]

theorem blk_vc (t : Fin cfg0.N) (c : Fin 80) (n : Fin 256) :
    iblk m d 4 t (ix4 0 0 c n) = V m d main_v24 (ix4 (tb t) (th t) c n) := by
  blk_simp [iblk]
  refine congrArg (V m d main_v24) ?_
  funext a
  refine Fin.ext ?_
  fin_cases a <;> blk_simp [i4] <;> simp [tb, th]

end Att

end
-- ==== Proof.Att.Ref.lean ====
/- The reference's attention read at an index: the softmax of the scaled scores against the values. -/
module

public import proofs.«01_k».proof.Proof.Gen.ReferenceIdeal.Run
public import proofs.«01_k».proof.Proof.Att.Softmax
public import Idealize.ShloMosaic.Lib.Pointwise

@[expose] public section

set_option maxRecDepth 16384

noncomputable section

namespace Att.Ref

open Cert.ReferenceIdeal Cert.ReferenceIdeal.Gen Idealize.ShloMosaic Idealize.ShloMosaic.TcCoe Idealize.SL.Sem
open Cert.ReferenceIdeal.Facts

/-- Latent keys, then context keys. -/
def catK (k : FVec Ideal S4x4096x8x96 .f32) (kc : FVec Ideal S4x256x8x96 .f32) : FVec Ideal S4x4352x8x96 .f32 :=
  concatenate S4x4352x8x96 1 [⟨S4x4096x8x96, k⟩, ⟨S4x256x8x96, kc⟩] concatenates_S4x4096x8x96_S4x256x8x96_S4x4352x8x96_d1

/-- Latent values, then context values. -/
def catV (v : FVec Ideal S4x4096x8x64 .f32) (vc : FVec Ideal S4x256x8x64 .f32) : FVec Ideal S4x4352x8x64 .f32 :=
  concatenate S4x4352x8x64 1 [⟨S4x4096x8x64, v⟩, ⟨S4x256x8x64, vc⟩] concatenates_S4x4096x8x64_S4x256x8x64_S4x4352x8x64_d1

/-- The scaled scores. -/
def scores (q : FVec Ideal S4x4096x8x96 .f32) (K : FVec Ideal S4x4352x8x96 .f32) : FVec Ideal S4x8x4096x4352 .f32 :=
  Host.divf (Host.dotGeneral dot_S4x4096x8x96_S4x4352x8x96_S4x8x4096x4352_3_3_1_1_02_02 none q K)
    (broadcastInDim S4x8x4096x4352 ![] bcast_S_S4x8x4096x4352 (Host.sqrt (constant S_ .f32 0x42C00000#32)))

/-- The greatest score of each row. -/
def rowMax (s : FVec Ideal S4x8x4096x4352 .f32) : FVec Ideal S4x8x4096 .f32 :=
  Host.reduce FloatOps.maximumf s (constant S_ .f32 0xFF800000#32) reducesTo_S4x8x4096x4352_S4x8x4096_d3 h_S_

/-- Scores less their row's entry of `m`, exponentiated. -/
def expoOf (s : FVec Ideal S4x8x4096x4352 .f32) (m : FVec Ideal S4x8x4096 .f32) : FVec Ideal S4x8x4096x4352 .f32 :=
  Host.exp (subf s (broadcastInDim S4x8x4096x4352 ![0, 1, 2, 3] bcast_S4x8x4096x1_S4x8x4096x4352_0_1_2_3
    (broadcastInDim S4x8x4096x1 ![0, 1, 2] bcast_S4x8x4096_S4x8x4096x1_0_1_2
      (maximumf (broadcastInDim S4x8x4096 ![] bcast_S_S4x8x4096 (constant S_ .f32 0xFF800000#32)) m))))

/-- The scores less their row's maximum, exponentiated. -/
def expo (s : FVec Ideal S4x8x4096x4352 .f32) : FVec Ideal S4x8x4096x4352 .f32 := expoOf s (rowMax s)

/-- The weights: each over its row's sum. -/
def prob (e : FVec Ideal S4x8x4096x4352 .f32) : FVec Ideal S4x8x4096x4352 .f32 :=
  Host.divf e (broadcastInDim S4x8x4096x4352 ![0, 1, 2, 3] bcast_S4x8x4096x1_S4x8x4096x4352_0_1_2_3
    (broadcastInDim S4x8x4096x1 ![0, 1, 2] bcast_S4x8x4096_S4x8x4096x1_0_1_2
      (Host.reduceAdd e (constant S_ .f32 0x00000000#32) reducesTo_S4x8x4096x4352_S4x8x4096_d3 h_S_)))

/-- The weighted values, laid out heads by dims by tokens. -/
def outp (V : FVec Ideal S4x4352x8x64 .f32) (p : FVec Ideal S4x8x4096x4352 .f32) : FVec Ideal S4x512x4096 .bf16 :=
  truncf .bf16 (transpose S4x512x4096 [0, 2, 1] (shapeCast S4x4096x512 (transpose S4x4096x8x64 [0, 3, 1, 2]
    (Host.dotGeneral dot_S4x4352x8x64_S4x8x4096x4352_S4x8x64x4096_1_3_3_2_02_01 none V p)
    transposes_S4x8x64x4096_S4x4096x8x64_0_3_1_2) shapeCasts_S4x4096x8x64_S4x4096x512) transposes_S4x4096x512_S4x512x4096_0_2_1)
    bitsLt_bf16_f32

/-- The reference's first result. -/
def att (q k : FVec Ideal S4x4096x8x96 .f32) (v : FVec Ideal S4x4096x8x64 .f32) (kc : FVec Ideal S4x256x8x96 .f32)
    (vc : FVec Ideal S4x256x8x64 .f32) : FVec Ideal S4x512x4096 .bf16 :=
  outp (catV v vc) (prob (expo (scores q (catK k kc))))

theorem catK_at (k : FVec Ideal S4x4096x8x96 .f32) (kc : FVec Ideal S4x256x8x96 .f32) (b : Fin 4) (n : Fin 4352) (h : Fin 8)
    (c : Fin 96) : catK k kc (ix4 b n h c) =
      if g : n.val < 4096 then k (ix4 b ⟨n.val, g⟩ h c) else kc (ix4 b ⟨n.val - 4096, by omega⟩ h c) := by
  pointwise [catK]

theorem catV_at (v : FVec Ideal S4x4096x8x64 .f32) (vc : FVec Ideal S4x256x8x64 .f32) (b : Fin 4) (n : Fin 4352) (h : Fin 8)
    (c : Fin 64) : catV v vc (ix4 b n h c) =
      if g : n.val < 4096 then v (ix4 b ⟨n.val, g⟩ h c) else vc (ix4 b ⟨n.val - 4096, by omega⟩ h c) := by
  pointwise [catV]

theorem scores_at (q : FVec Ideal S4x4096x8x96 .f32) (K : FVec Ideal S4x4352x8x96 .f32) (b : Fin 4) (h : Fin 8)
    (s : Fin 4096) (n : Fin 4352) : scores q K (ix4 b h s n) =
      Ideal.div (∑ c : Fin 96, q (ix4 b s h c) * K (ix4 b n h c)) (Ideal.sqrt (Ideal.ofBits .f32 0x42C00000#32)) := by
  pointwise [scores]

theorem expoOf_at (S : FVec Ideal S4x8x4096x4352 .f32) (m : FVec Ideal S4x8x4096 .f32) (b : Fin 4) (h : Fin 8) (s : Fin 4096)
    (n : Fin 4352) : expoOf S m (ix4 b h s n) = Ideal.exp (S (ix4 b h s n) - m (ix3 b h s)) := by
  have e : Ideal.ofBits FTy.f32 4286578688#32 = ⊥ := by simp [Ideal.ofBits, Ideal.ieee]
  pointwise [expoOf]
  rw [e, max_eq_right bot_le]

/-- Rows of real scores have a real maximum. -/
theorem rowMax_real (S : FVec Ideal S4x8x4096x4352 .f32) (hS : ∀ i, ∃ r : ℝ, S i = r) (j : S4x8x4096.Idx) :
    ∃ M : ℝ, rowMax S j = M := by
  have e : Ideal.ofBits FTy.f32 4286578688#32 = ⊥ := by simp [Ideal.ofBits, Ideal.ieee]
  have e' : rowMax S j = (Finset.univ.filter fun i => reducesTo_S4x8x4096x4352_S4x8x4096_d3.drop i = j).fold max ⊥ S := by
    rw [← e]
    exact Host.reduce_eq_fold (max : EReal → EReal → EReal) S _ reducesTo_S4x8x4096x4352_S4x8x4096_d3 h_S_ j
  rw [e', Shape.ReducesTo.fold_fiber_r4_a3]
  exact fold_max_coe _ _ (fun n _ => hS _) Finset.univ_nonempty

theorem prob_at (E : FVec Ideal S4x8x4096x4352 .f32) (b : Fin 4) (h : Fin 8) (s : Fin 4096) (n : Fin 4352) :
    prob E (ix4 b h s n) = Ideal.div (E (ix4 b h s n)) (∑ m : Fin 4352, E (ix4 b h s m)) := by
  pointwise [prob]

theorem outp_at (V : FVec Ideal S4x4352x8x64 .f32) (p : FVec Ideal S4x8x4096x4352 .f32) (b : Fin 4) (r : Fin 512)
    (s : Fin 4096) : outp V p (ix3 b r s) =
      ∑ n : Fin 4352, V (ix4 b n ⟨r.val / 64, by omega⟩ ⟨r.val % 64, by omega⟩) * p (ix4 b ⟨r.val / 64, by omega⟩ s n) := by
  pointwise [outp]

end Att.Ref

end
-- ==== Proof.Att.RefVal.lean ====
/- The reference's attention over finite queries and keys: the softmax's mean of the values. -/
module

public import proofs.«01_k».proof.Proof.Att.Ref

@[expose] public section

set_option maxRecDepth 16384

noncomputable section

namespace Att.Ref

open Cert.ReferenceIdeal Cert.ReferenceIdeal.Gen Idealize.ShloMosaic Idealize.ShloMosaic.TcCoe Idealize.SL.Sem
open Cert.ReferenceIdeal.Facts

theorem sqrt_96 : Ideal.sqrt (Ideal.ofBits .f32 0x42C00000#32) = ((Real.sqrt 96 : ℝ) : EReal) := by
  have e : Ideal.ofBits .f32 0x42C00000#32 = ((96 : ℝ) : EReal) := by
    simp [Ideal.ofBits, Ideal.ieee]
    rw [← EReal.coe_mul]
    norm_num
  rw [e]
  show (if (96 : ℝ) < 0 then ⊥ else ((Real.sqrt 96 : ℝ) : EReal)) = _
  rw [if_neg (by norm_num)]

/-- With finite queries and keys the scores are real. -/
theorem scores_real (q : FVec Ideal S4x4096x8x96 .f32) (K : FVec Ideal S4x4352x8x96 .f32) (q' : S4x4096x8x96.Idx → ℝ)
    (K' : S4x4352x8x96.Idx → ℝ) (hq : ∀ i, q i = (q' i : EReal)) (hK : ∀ i, K i = (K' i : EReal)) (b : Fin 4) (h : Fin 8)
    (s : Fin 4096) (n : Fin 4352) : scores q K (ix4 b h s n) =
      (((∑ c : Fin 96, q' (ix4 b s h c) * K' (ix4 b n h c)) / Real.sqrt 96 : ℝ) : EReal) := by
  rw [scores_at, sqrt_96, div_coe' _ _ (by positivity)]
  simp only [hq, hK, ← EReal.coe_mul, sum_coe]
  rw [div_eq_mul_inv]

/-- THE REFERENCE at an index. -/
theorem att_at (q k : FVec Ideal S4x4096x8x96 .f32) (v : FVec Ideal S4x4096x8x64 .f32) (kc : FVec Ideal S4x256x8x96 .f32)
    (vc : FVec Ideal S4x256x8x64 .f32) (q' : S4x4096x8x96.Idx → ℝ) (K' : S4x4352x8x96.Idx → ℝ)
    (hq : ∀ i, q i = (q' i : EReal)) (hK : ∀ i, catK k kc i = (K' i : EReal)) (b : Fin 4) (r : Fin 512) (s : Fin 4096) :
    att q k v kc vc (ix3 b r s) =
      soft (fun n => (∑ c : Fin 96, q' (ix4 b s ⟨r.val / 64, by omega⟩ c) * K' (ix4 b n ⟨r.val / 64, by omega⟩ c)) / Real.sqrt 96)
        (fun n => catV v vc (ix4 b n ⟨r.val / 64, by omega⟩ ⟨r.val % 64, by omega⟩)) := by
  have hS := scores_real q (catK k kc) q' K' hq hK
  obtain ⟨M, hM⟩ := rowMax_real (scores q (catK k kc)) (fun i => by
    obtain ⟨b, h, s, n, rfl⟩ : ∃ b h s n, i = ix4 b h s n := ⟨i 0, i 1, i 2, i 3, by
      funext a
      fin_cases a <;> rfl⟩
    exact ⟨_, hS b h s n⟩) (ix3 b ⟨r.val / 64, by omega⟩ s)
  unfold att soft
  rw [outp_at]
  refine Finset.sum_congr rfl fun n _ => ?_
  refine congrArg (_ * ·) ?_
  have hE : ∀ n, expo (scores q (catK k kc)) (ix4 b ⟨r.val / 64, by omega⟩ s n) = Ideal.exp
      ((((∑ c : Fin 96, q' (ix4 b s ⟨r.val / 64, by omega⟩ c) * K' (ix4 b n ⟨r.val / 64, by omega⟩ c)) / Real.sqrt 96 : ℝ) : EReal) - M) :=
    fun n => by rw [expo, expoOf_at, hM, hS]
  rw [prob_at, hE, Finset.sum_congr rfl fun n _ => hE n]
  exact soft_ref (fun n => (∑ c : Fin 96, q' (ix4 b s ⟨r.val / 64, by omega⟩ c) * K' (ix4 b n ⟨r.val / 64, by omega⟩ c)) / Real.sqrt 96) M n

end Att.Ref

end
-- ==== Proof.Att.Out.lean ====
/- The attention call's first result: at every index the reference's attention. -/
module

public import proofs.«01_k».proof.Proof.Att.Block
public import proofs.«01_k».proof.Proof.Att.Blocks
public import proofs.«01_k».proof.Proof.Att.RefVal
public import Idealize.ShloMosaic.Lib.Pipeline.ValueKit.Tiles

@[expose] public section

set_option maxRecDepth 16384

noncomputable section

namespace Att

open Cert.KernelIdeal Cert.KernelIdeal.Gen Idealize.ShloMosaic Idealize.ShloMosaic.TcCoe Idealize.SL.Sem
open Cert.KernelIdeal.Facts

variable (m : (ℓ : Loc nD τ sig) → Buf (Elt Ideal) ℓ) (d : Dev nD)

/-- All keys and all values of device `d`. -/
abbrev catK : FVec Ideal Cert.ReferenceIdeal.S4x4352x8x96 .f32 := Ref.catK (ak m d) (akc m d)
abbrev catV : FVec Ideal Cert.ReferenceIdeal.S4x4352x8x64 .f32 := Ref.catV (av m d) (avc m d)

theorem scale_real : scale = ((Real.sqrt 96 * Real.log 2 : ℝ) : EReal) := by
  have e : Ideal.ofBits .f32 0x40000000#32 = ((2 : ℝ) : EReal) := by
    simp [Ideal.ofBits, Ideal.ieee]
    rw [← EReal.coe_mul]
    norm_num
  have e' : Ideal.log ((2 : ℝ) : EReal) = ((Real.log 2 : ℝ) : EReal) := by
    show (if (2 : ℝ) ≤ 0 then ⊥ else ((Real.log 2 : ℝ) : EReal)) = _
    rw [if_neg (by norm_num)]
  rw [scale, Ref.sqrt_96, e, e', EReal.coe_mul]

/-- The seventeen key blocks are the rows of all keys, their columns past 96 zero. -/
theorem keys_cat (t : Fin cfg0.N) (i : ℕ) (hi : i < 17) (r : Fin 256) (c : Fin 128) :
    keys (iblk m d 1 t) (iblk m d 3 t) i (ix2 r c) =
      if g : c.val < 96 then catK m d (ix4 (tb t) ⟨256 * i + r.val, by omega⟩ (th t) ⟨c.val, g⟩) else (0 : EReal) := by
  by_cases h : i < 16
  · rw [keys_lt _ _ i h, blk_k, V_k]
    refine dite_congr rfl (fun g => ?_) (fun _ => rfl)
    refine Eq.trans ?_ (Ref.catK_at (ak m d) (akc m d) _ _ _ _).symm
    rw [dif_pos (show 256 * i + r.val < 4096 by omega)]
  · rw [keys_ge _ _ i h, blk_kc, V_kc]
    refine dite_congr rfl (fun g => ?_) (fun _ => rfl)
    refine Eq.trans ?_ (Ref.catK_at (ak m d) (akc m d) _ _ _ _).symm
    rw [dif_neg (show ¬ 256 * i + r.val < 4096 by omega)]
    refine congrArg (fun n => akc m d (ix4 (tb t) n (th t) ⟨c.val, g⟩)) (Fin.ext ?_)
    show r.val = 256 * i + r.val - 4096
    omega

/-- The seventeen value blocks are the columns of all values, their rows past 64 one. -/
theorem vals_cat (t : Fin cfg0.N) (i : ℕ) (hi : i < 17) (c : Fin 80) (r : Fin 256) :
    vals (iblk m d 2 t) (iblk m d 4 t) i (ix2 c r) =
      if g : c.val < 64 then catV m d (ix4 (tb t) ⟨256 * i + r.val, by omega⟩ (th t) ⟨c.val, g⟩) else (1 : EReal) := by
  by_cases h : i < 16
  · rw [vals_lt _ _ i h, blk_v, V_v]
    refine dite_congr rfl (fun g => ?_) (fun _ => rfl)
    refine Eq.trans ?_ (Ref.catV_at (av m d) (avc m d) _ _ _ _).symm
    rw [dif_pos (show 256 * i + r.val < 4096 by omega)]
  · rw [vals_ge _ _ i h, blk_vc, V_vc]
    refine dite_congr rfl (fun g => ?_) (fun _ => rfl)
    refine Eq.trans ?_ (Ref.catV_at (av m d) (avc m d) _ _ _ _).symm
    rw [dif_neg (show ¬ 256 * i + r.val < 4096 by omega)]
    refine congrArg (fun n => avc m d (ix4 (tb t) n (th t) ⟨c.val, g⟩)) (Fin.ext ?_)
    show r.val = 256 * i + r.val - 4096
    omega

/-- A sum over 128 columns of which those past 96 are zero. -/
theorem sum_pad (f : Fin 96 → EReal) : ∑ c : Fin 128, (if g : c.val < 96 then f ⟨c.val, g⟩ else (0 : EReal)) = ∑ c, f c := by
  rw [show (128 : ℕ) = 96 + 32 from rfl, Fin.sum_univ_add]
  simp

variable (q' : S4x4096x8x96.Idx → ℝ) (K' : Cert.ReferenceIdeal.S4x4352x8x96.Idx → ℝ)

/-- A query's scaled scores against all keys. -/
def sc (b : Fin 4) (h : Fin 8) (s : Fin 4096) (n : Fin 4352) : ℝ :=
  (∑ c : Fin 96, q' (ix4 b s h c) * K' (ix4 b n h c)) / Real.sqrt 96

variable (hq : ∀ i, aq m d i = (q' i : EReal)) (hK : ∀ i, catK m d i = (K' i : EReal))

include hq hK in
/-- ONE QUERY BLOCK of a grid point. -/
theorem block_at (t : Fin cfg0.N) (b : ℕ) (h : b < 8) (e : Fin 64) (j : Fin 512) (s : Fin 4096) (hs : s.val = 512 * b + j.val) :
    blk (iblk m d 0 t) (iblk m d 1 t) (iblk m d 2 t) (iblk m d 3 t) (iblk m d 4 t) b h (ix3 0 e j) =
      soft (sc q' K' (tb t) (th t) s) (fun n => catV m d (ix4 (tb t) n (th t) e)) := by
  have hl : Real.log 2 ≠ 0 := (Real.log_pos (by norm_num)).ne'
  rw [blk_at _ _ _ _ _ b h e j
    (fun n => if g : n < 4352 then sc q' K' (tb t) (th t) s ⟨n, g⟩ / Real.log 2 else 0)
    (fun n => if g : n < 4352 then catV m d (ix4 (tb t) ⟨n, g⟩ (th t) e) else 0)
    (fun i hi r => ?_) (fun i hi r => ?_) (fun i hi r => ?_)]
  · congr 1
    · funext n
      rw [dif_pos n.isLt]
      exact div_mul_cancel₀ _ hl
    · funext n
      rw [dif_pos n.isLt]
  · have hr := r.isLt
    have hn : 256 * i + r.val < 4352 := by omega
    rw [dif_pos hn]
    have e1 : ∀ c : Fin 128, keys (iblk m d 1 t) (iblk m d 3 t) i (ix2 r c) * qry (iblk m d 0 t) b h (ix2 c j) =
        if g : c.val < 96 then (((K' (ix4 (tb t) ⟨256 * i + r.val, hn⟩ (th t) ⟨c.val, g⟩) *
          (q' (ix4 (tb t) s (th t) ⟨c.val, g⟩) * (Real.sqrt 96 * Real.log 2)⁻¹) : ℝ)) : EReal) else (0 : EReal) := fun c => by
      rw [keys_cat m d t i hi, qry_at _ b h, blk_q, V_q]
      by_cases g : c.val < 96
      · rw [dif_pos g, dif_pos g, dif_pos g, hK, scale_real, div_coe' _ _ (by positivity)]
        rw [show (⟨512 * b + j.val, by omega⟩ : Fin 4096) = s from Fin.ext hs.symm, hq]
        rw [EReal.coe_mul, EReal.coe_mul]
      · rw [dif_neg g, dif_neg g, dif_neg g, zero_mul]
    rw [Finset.sum_congr rfl fun c _ => e1 c, sum_pad (fun c => (((K' (ix4 (tb t) ⟨256 * i + r.val, hn⟩ (th t) c) *
          (q' (ix4 (tb t) s (th t) c) * (Real.sqrt 96 * Real.log 2)⁻¹) : ℝ)) : EReal)), sum_coe]
    refine congrArg _ ?_
    rw [sc, div_div, div_eq_mul_inv, Finset.sum_mul]
    exact Finset.sum_congr rfl fun c _ => by ring
  · have hr := r.isLt
    have hn : 256 * i + r.val < 4352 := by omega
    rw [vals_cat m d t i hi, dif_pos hn, dif_pos (show (⟨e.val, by omega⟩ : Fin 80).val < 64 from e.isLt)]
  · rw [vals_cat m d t i hi, dif_neg (by decide)]

include hq hK in
/-- THE BLOCK a grid point leaves. -/
theorem out_at (t : Fin cfg0.N) (e : Fin 64) (s : Fin 4096) :
    out0_10 (iblk m d 0 t) (iblk m d 1 t) (iblk m d 2 t) (iblk m d 3 t) (iblk m d 4 t) (iblk m d 5 t) (iblk m d 6 t)
      (iblk m d 7 t) (iblk m d 8 t) (iblk m d 9 t) (ix3 0 e s) =
      soft (sc q' K' (tb t) (th t) s) (fun n => catV m d (ix4 (tb t) n (th t) e)) := by
  have key : ∀ (b : ℕ) (h : b < 8) (x : S1x64x512.Idx) (h1 : e.val = (x 1).val) (h2 : s.val = 512 * b + (x 2).val),
      blk (iblk m d 0 t) (iblk m d 1 t) (iblk m d 2 t) (iblk m d 3 t) (iblk m d 4 t) b h x =
        soft (sc q' K' (tb t) (th t) s) (fun n => catV m d (ix4 (tb t) n (th t) e)) := fun b h x h1 h2 => by
    have hx : x = ix3 0 e (x 2) := by
      funext a
      refine Fin.ext ?_
      fin_cases a
      · have := (x 0).isLt
        have : (x 0).val < 1 := this
        show (x 0).val = 0
        omega
      · exact h1.symm
      · rfl
    rw [hx]
    exact block_at m d q' K' hq hK t b h e (x 2) s h2
  rw [out_eq]
  canon_tiles x h using cover0_10 ..
  all_goals refine key _ _ x ?_ ?_ <;> simp_all
  done

end Att

end
-- ==== Proof.Att.Final.lean ====
/- The attention call's first result as an array, and the precondition read at an index. -/
module

public import proofs.«01_k».proof.Proof.Att.Out
public import proofs.«01_k».proof.Proof.Gen.Pre_finite
public import Idealize.ShloMosaic.Lib.ReduceAll

@[expose] public section

set_option maxRecDepth 16384

noncomputable section

namespace Att

open Cert.KernelIdeal Cert.KernelIdeal.Gen Idealize.ShloMosaic Idealize.ShloMosaic.TcCoe Idealize.SL.Sem
open Cert.KernelIdeal.Facts

/-- A number whose absolute value is below infinity is real. -/
theorem real_of_abs (x : EReal) (h : FloatOps.cmpf (F := Ideal) (φ := .f32) .olt (FloatOps.hostAbsf (F := Ideal) (φ := .f32) x)
    (Ideal.ofBits .f32 0x7F800000#32) = 1#1) : ∃ r : ℝ, x = r := by
  have e : Ideal.ofBits .f32 0x7F800000#32 = ⊤ := by simp [Ideal.ofBits, Ideal.ieee]
  rw [e] at h
  have h : BitVec.ofBool (decide (max x (-x) < ⊤)) = 1#1 := h
  have h' : max x (-x) < ⊤ := by
    by_contra g
    rw [decide_eq_false g] at h
    exact absurd h (by decide)
  have h1 := (max_lt_iff.1 h').1
  have h2 := (max_lt_iff.1 h').2
  induction x with
  | bot => exact absurd h2 (by simp)
  | coe r => exact ⟨r, rfl⟩
  | top => exact absurd h1 (by simp)

variable (m : (ℓ : Loc nD τ sig) → Buf (Elt Ideal) ℓ) (d : Dev nD)

/-- With finite queries and keys the first result is the reference's attention. -/
theorem final_att (hq : ∀ i, ∃ r : ℝ, aq m d i = r) (hk : ∀ i, ∃ r : ℝ, ak m d i = r) (hkc : ∀ i, ∃ r : ℝ, akc m d i = r) :
    (dats m 0 d).arrAt 10 cfg0.N = Ref.att (aq m d) (ak m d) (av m d) (akc m d) (avc m d) := by
  have hK : ∀ i, ∃ r : ℝ, catK m d i = r := fun i => by
    idx_vars i
    rw [catK, Ref.catK_at]
    split
    · exact hk _
    · exact hkc _
  choose q' hq using hq
  choose K' hK using hK
  refine (dats m 0 d).arrAt_eq_of_covers 10 _ (by decide +kernel) fun t hf y => ?_
  blk_simp
  rw [after0_10]
  idx_vars y
  have ht : t.val < 32 := lt_of_lt_of_eq t.isLt N_0
  have h0 : y0 = 0 := by omega
  subst h0
  have e : (win0_10.blk t).view.emb (ix3 0 y1 y2) = ix3 (tb t) ⟨t.val % 8 * 64 + y1.val, by omega⟩ y2 := by
    funext a
    refine Fin.ext ?_
    fin_cases a <;> blk_simp [i10] <;> simp [tb]
  rw [e, Ref.att_at _ _ _ _ _ q' K' hq hK, out_at m d q' K' hq hK]
  have e1 : (⟨(t.val % 8 * 64 + y1.val) / 64, by omega⟩ : Fin 8) = th t := Fin.ext (by show (t.val % 8 * 64 + y1.val) / 64 = t.val % 8; omega)
  have e2 : (⟨(t.val % 8 * 64 + y1.val) % 64, by omega⟩ : Fin 64) = y1 := Fin.ext (by show (t.val % 8 * 64 + y1.val) % 64 = y1.val; omega)
  simp only [e1, e2]
  rfl

/-- The precondition gives finite queries and keys. -/
theorem pre_real (q k : FVec Ideal Cert.Pre_finite.S4x4096x8x96 .f32) (v kc vc w5 w6 w7 w8 w9)
    (h : Cert.Pre_finite.fn (F := Ideal) q k v kc vc w5 w6 w7 w8 w9 (fun a => a.elim0) = 1#1) :
    (∀ i, ∃ r : ℝ, q i = r) ∧ (∀ i, ∃ r : ℝ, k i = r) ∧ (∀ i, ∃ r : ℝ, kc i = r) := by
  obtain ⟨h1, h3⟩ := IntOp.andi_eq_one.1 h
  obtain ⟨h1, h2⟩ := IntOp.andi_eq_one.1 h1
  refine ⟨fun i => real_of_abs _ (Host.reduce_andi_all _ _ _ _ _ h1 i), fun i => real_of_abs _ (Host.reduce_andi_all _ _ _ _ _ h2 i),
    fun i => real_of_abs _ (Host.reduce_andi_all _ _ _ _ _ h3 i)⟩

end Att

end
-- ==== Proof.Att.Weights.lean ====
/- The attention call's other results: the weights in bfloat16, which over the extended reals is the weights themselves. -/
module

public import proofs.«01_k».proof.Proof.Att.Blocks
public import proofs.«01_k».proof.Proof.Gen.KernelIdeal.Value
public import proofs.«01_k».proof.Proof.Gen.ReferenceIdeal

@[expose] public section

set_option maxRecDepth 16384

noncomputable section

namespace Att

open Cert.KernelIdeal Cert.KernelIdeal.Gen Idealize.ShloMosaic Idealize.ShloMosaic.TcCoe Idealize.SL.Sem
open Cert.KernelIdeal.Facts

variable (m : (ℓ : Loc nD τ sig) → Buf (Elt Ideal) ℓ) (d : Dev nD)

/-- The weights on device `d`. -/
abbrev afo : FVec Ideal S1x512x1024 .f32 := m ((d.tc : Thread nD τ).loc main_arg5)
abbrev aao : FVec Ideal S1x512x1024 .f32 := m ((d.tc : Thread nD τ).loc main_arg6)
abbrev aout : FVec Ideal S1x1024x1024 .f32 := m ((d.tc : Thread nD τ).loc main_arg7)
abbrev aup : FVec Ideal S1x1024x4096 .f32 := m ((d.tc : Thread nD τ).loc main_arg8)
abbrev adn : FVec Ideal S1x4096x1024 .f32 := m ((d.tc : Thread nD τ).loc main_arg9)

theorem V_fo (i : Fin 512) (j : Fin 1024) : V m d main_v25 (ix2 i j) = afo m d (ix3 0 i j) := by
  entry_read
  pointwise [afo]
theorem V_ao (i : Fin 512) (j : Fin 1024) : V m d main_v26 (ix2 i j) = aao m d (ix3 0 i j) := by
  entry_read
  pointwise [aao]
theorem V_out (i : Fin 1024) (j : Fin 1024) : V m d main_v27 (ix2 i j) = aout m d (ix3 0 i j) := by
  entry_read
  pointwise [aout]
theorem V_up (i : Fin 1024) (j : Fin 4096) : V m d main_v28 (ix2 i j) = aup m d (ix3 0 i j) := by
  entry_read
  pointwise [aup]
theorem V_dn (i : Fin 4096) (j : Fin 1024) : V m d main_v29 (ix2 i j) = adn m d (ix3 0 i j) := by
  entry_read
  pointwise [adn]

theorem i5 : ∀ t : Fin cfg0.N, win0_5.index t = ![t.val, 0] := (by decide +kernel : ∀ t : Fin grid0.N, win0_5.index t = ![t.val, 0])
theorem i6 : ∀ t : Fin cfg0.N, win0_6.index t = ![t.val, 0] := (by decide +kernel : ∀ t : Fin grid0.N, win0_6.index t = ![t.val, 0])
theorem i7 : ∀ t : Fin cfg0.N, win0_7.index t = ![t.val, 0] := (by decide +kernel : ∀ t : Fin grid0.N, win0_7.index t = ![t.val, 0])
theorem i8 : ∀ t : Fin cfg0.N, win0_8.index t = ![0, t.val] := (by decide +kernel : ∀ t : Fin grid0.N, win0_8.index t = ![0, t.val])
theorem i9 : ∀ t : Fin cfg0.N, win0_9.index t = ![t.val, 0] := (by decide +kernel : ∀ t : Fin grid0.N, win0_9.index t = ![t.val, 0])
theorem i11 : ∀ t : Fin cfg0.N, win0_11.index t = ![t.val, 0] :=
  (by decide +kernel : ∀ t : Fin grid0.N, win0_11.index t = ![t.val, 0])
theorem i12 : ∀ t : Fin cfg0.N, win0_12.index t = ![t.val, 0] :=
  (by decide +kernel : ∀ t : Fin grid0.N, win0_12.index t = ![t.val, 0])
theorem i13 : ∀ t : Fin cfg0.N, win0_13.index t = ![t.val, 0] :=
  (by decide +kernel : ∀ t : Fin grid0.N, win0_13.index t = ![t.val, 0])
theorem i14 : ∀ t : Fin cfg0.N, win0_14.index t = ![t.val / 8, 0, t.val % 8] :=
  (by decide +kernel : ∀ t : Fin grid0.N, win0_14.index t = ![t.val / 8, 0, t.val % 8])
theorem i15 : ∀ t : Fin cfg0.N, win0_15.index t = ![t.val, 0] :=
  (by decide +kernel : ∀ t : Fin grid0.N, win0_15.index t = ![t.val, 0])

/-- The Fourier branch's output weights. -/
def wfo : FVec Ideal S512x1024 .bf16 := truncf .bf16 (shapeCast Cert.ReferenceIdeal.S512x1024 (afo m d)
  Cert.ReferenceIdeal.Facts₀.shapeCasts_S1x512x1024_S512x1024) Cert.ReferenceIdeal.Facts₀.bitsLt_bf16_f32

theorem wfo_at (i : Fin 512) (j : Fin 1024) : wfo m d (ix2 i j) = afo m d (ix3 0 i j) := by
  pointwise [wfo]

theorem blk_fo (t : Fin cfg0.N) (i : Fin 16) (j : Fin 1024) (k : Fin 512) (hk : k.val = t.val * 16 + i.val) :
    iblk m d 5 t (ix2 i j) = V m d main_v25 (ix2 k j) := by
  blk_simp [iblk]
  refine congrArg (V m d main_v25) ?_
  funext a
  refine Fin.ext ?_
  fin_cases a <;> blk_simp [i5] <;> simp [hk]

theorem emb_fo (t : Fin cfg0.N) (i : Fin 16) (j : Fin 1024) (k : Fin 512) (hk : k.val = t.val * 16 + i.val) :
    (win0_11.blk t).view.emb (ix2 i j) = ix2 k j := by
  funext a
  refine Fin.ext ?_
  fin_cases a <;> blk_simp [i11] <;> simp [hk]

theorem cast_fo (w : Vec Ideal S16x1024 .f32) (i : Fin 16) (j : Fin 1024) :
    View.canon [⟨r0_0, k0_pay2 (View.ld w r0_0)⟩] (ix2 i j) = w (ix2 i j) := by
  refine (Cert.KernelIdeal.Value.canon11_eq (View.ld w r0_0) _).trans ?_
  show w _ = _
  refine congrArg w (funext fun a => Fin.ext ?_)
  fin_cases a
  · show 0 + 1 * i.val = i.val
    omega
  · show 0 + 1 * j.val = j.val
    omega

theorem final_fo : (dats m 0 d).arrAt 11 cfg0.N = wfo m d := by
  refine (dats m 0 d).arrAt_eq_of_covers 11 _ (by decide +kernel) fun t hf y => ?_
  blk_simp
  rw [after0_11]
  unfold out0_11
  idx_vars y
  have ht : t.val < 32 := lt_of_lt_of_eq t.isLt N_0
  rw [emb_fo t y0 y1 ⟨t.val * 16 + y0.val, by omega⟩ rfl, wfo_at, ← V_fo, ← blk_fo m d t y0 y1 _ rfl]
  exact cast_fo _ y0 y1

/-- The attention branch's output weights. -/
def wao : FVec Ideal S512x1024 .bf16 := truncf .bf16 (shapeCast Cert.ReferenceIdeal.S512x1024 (aao m d)
  Cert.ReferenceIdeal.Facts₀.shapeCasts_S1x512x1024_S512x1024) Cert.ReferenceIdeal.Facts₀.bitsLt_bf16_f32

theorem wao_at (i : Fin 512) (j : Fin 1024) : wao m d (ix2 i j) = aao m d (ix3 0 i j) := by
  pointwise [wao]

theorem blk_ao (t : Fin cfg0.N) (i : Fin 16) (j : Fin 1024) (k : Fin 512) (hk : k.val = t.val * 16 + i.val) :
    iblk m d 6 t (ix2 i j) = V m d main_v26 (ix2 k j) := by
  blk_simp [iblk]
  refine congrArg (V m d main_v26) ?_
  funext a
  refine Fin.ext ?_
  fin_cases a <;> blk_simp [i6] <;> simp [hk]

theorem emb_ao (t : Fin cfg0.N) (i : Fin 16) (j : Fin 1024) (k : Fin 512) (hk : k.val = t.val * 16 + i.val) :
    (win0_12.blk t).view.emb (ix2 i j) = ix2 k j := by
  funext a
  refine Fin.ext ?_
  fin_cases a <;> blk_simp [i12] <;> simp [hk]

theorem cast_ao (w : Vec Ideal S16x1024 .f32) (i : Fin 16) (j : Fin 1024) :
    View.canon [⟨r0_0, k0_pay3 (View.ld w r0_0)⟩] (ix2 i j) = w (ix2 i j) := by
  refine (Cert.KernelIdeal.Value.canon12_eq (View.ld w r0_0) _).trans ?_
  show w _ = _
  refine congrArg w (funext fun a => Fin.ext ?_)
  fin_cases a
  · show 0 + 1 * i.val = i.val
    omega
  · show 0 + 1 * j.val = j.val
    omega

theorem final_ao : (dats m 0 d).arrAt 12 cfg0.N = wao m d := by
  refine (dats m 0 d).arrAt_eq_of_covers 12 _ (by decide +kernel) fun t hf y => ?_
  blk_simp
  rw [after0_12]
  unfold out0_12
  idx_vars y
  have ht : t.val < 32 := lt_of_lt_of_eq t.isLt N_0
  rw [emb_ao t y0 y1 ⟨t.val * 16 + y0.val, by omega⟩ rfl, wao_at, ← V_ao, ← blk_ao m d t y0 y1 _ rfl]
  exact cast_ao _ y0 y1

/-- The joint output weights. -/
def wout : FVec Ideal S1024x1024 .bf16 := truncf .bf16 (shapeCast Cert.ReferenceIdeal.S1024x1024 (aout m d)
  Cert.ReferenceIdeal.Facts₀.shapeCasts_S1x1024x1024_S1024x1024) Cert.ReferenceIdeal.Facts₀.bitsLt_bf16_f32

theorem wout_at (i : Fin 1024) (j : Fin 1024) : wout m d (ix2 i j) = aout m d (ix3 0 i j) := by
  pointwise [wout]

theorem blk_out (t : Fin cfg0.N) (i : Fin 32) (j : Fin 1024) (k : Fin 1024) (hk : k.val = t.val * 32 + i.val) :
    iblk m d 7 t (ix2 i j) = V m d main_v27 (ix2 k j) := by
  blk_simp [iblk]
  refine congrArg (V m d main_v27) ?_
  funext a
  refine Fin.ext ?_
  fin_cases a <;> blk_simp [i7] <;> simp [hk]

theorem emb_out (t : Fin cfg0.N) (i : Fin 32) (j : Fin 1024) (k : Fin 1024) (hk : k.val = t.val * 32 + i.val) :
    (win0_13.blk t).view.emb (ix2 i j) = ix2 k j := by
  funext a
  refine Fin.ext ?_
  fin_cases a <;> blk_simp [i13] <;> simp [hk]

theorem cast_out (w : Vec Ideal S32x1024 .f32) (i : Fin 32) (j : Fin 1024) :
    View.canon [⟨r0_1, k0_pay4 (View.ld w r0_1)⟩] (ix2 i j) = w (ix2 i j) := by
  refine (Cert.KernelIdeal.Value.canon13_eq (View.ld w r0_1) _).trans ?_
  show w _ = _
  refine congrArg w (funext fun a => Fin.ext ?_)
  fin_cases a
  · show 0 + 1 * i.val = i.val
    omega
  · show 0 + 1 * j.val = j.val
    omega

theorem final_out : (dats m 0 d).arrAt 13 cfg0.N = wout m d := by
  refine (dats m 0 d).arrAt_eq_of_covers 13 _ (by decide +kernel) fun t hf y => ?_
  blk_simp
  rw [after0_13]
  unfold out0_13
  idx_vars y
  have ht : t.val < 32 := lt_of_lt_of_eq t.isLt N_0
  rw [emb_out t y0 y1 ⟨t.val * 32 + y0.val, by omega⟩ rfl, wout_at, ← V_out, ← blk_out m d t y0 y1 _ rfl]
  exact cast_out _ y0 y1

/-- The feed-forward's second weights. -/
def wdn : FVec Ideal S4096x1024 .bf16 := truncf .bf16 (shapeCast Cert.ReferenceIdeal.S4096x1024 (adn m d)
  Cert.ReferenceIdeal.Facts₀.shapeCasts_S1x4096x1024_S4096x1024) Cert.ReferenceIdeal.Facts₀.bitsLt_bf16_f32

theorem wdn_at (i : Fin 4096) (j : Fin 1024) : wdn m d (ix2 i j) = adn m d (ix3 0 i j) := by
  pointwise [wdn]

theorem blk_dn (t : Fin cfg0.N) (i : Fin 128) (j : Fin 1024) (k : Fin 4096) (hk : k.val = t.val * 128 + i.val) :
    iblk m d 9 t (ix2 i j) = V m d main_v29 (ix2 k j) := by
  blk_simp [iblk]
  refine congrArg (V m d main_v29) ?_
  funext a
  refine Fin.ext ?_
  fin_cases a <;> blk_simp [i9] <;> simp [hk]

theorem emb_dn (t : Fin cfg0.N) (i : Fin 128) (j : Fin 1024) (k : Fin 4096) (hk : k.val = t.val * 128 + i.val) :
    (win0_15.blk t).view.emb (ix2 i j) = ix2 k j := by
  funext a
  refine Fin.ext ?_
  fin_cases a <;> blk_simp [i15] <;> simp [hk]

theorem cast_dn (w : Vec Ideal S128x1024 .f32) (i : Fin 128) (j : Fin 1024) :
    View.canon [⟨r0_4, k0_pay6 (View.ld w r0_4)⟩] (ix2 i j) = w (ix2 i j) := by
  refine (Cert.KernelIdeal.Value.canon15_eq (View.ld w r0_4) _).trans ?_
  show w _ = _
  refine congrArg w (funext fun a => Fin.ext ?_)
  fin_cases a
  · show 0 + 1 * i.val = i.val
    omega
  · show 0 + 1 * j.val = j.val
    omega

theorem final_dn : (dats m 0 d).arrAt 15 cfg0.N = wdn m d := by
  refine (dats m 0 d).arrAt_eq_of_covers 15 _ (by decide +kernel) fun t hf y => ?_
  blk_simp
  rw [after0_15]
  unfold out0_15
  idx_vars y
  have ht : t.val < 32 := lt_of_lt_of_eq t.isLt N_0
  rw [emb_dn t y0 y1 ⟨t.val * 128 + y0.val, by omega⟩ rfl, wdn_at, ← V_dn, ← blk_dn m d t y0 y1 _ rfl]
  exact cast_dn _ y0 y1

/-- The feed-forward's first weights, in four slabs of columns. -/
def wup : FVec Ideal S4x1024x1024 .bf16 := truncf .bf16 (transpose Cert.ReferenceIdeal.S4x1024x1024 [1, 0, 2]
  (shapeCast Cert.ReferenceIdeal.S1024x4x1024 (shapeCast Cert.ReferenceIdeal.S1024x4096 (aup m d)
    Cert.ReferenceIdeal.Facts₀.shapeCasts_S1x1024x4096_S1024x4096) Cert.ReferenceIdeal.Facts₀.shapeCasts_S1024x4096_S1024x4x1024)
  Cert.ReferenceIdeal.Facts₀.transposes_S1024x4x1024_S4x1024x1024_1_0_2) Cert.ReferenceIdeal.Facts₀.bitsLt_bf16_f32

theorem wup_at (g : Fin 4) (i : Fin 1024) (j : Fin 1024) :
    wup m d (ix3 g i j) = aup m d (ix3 0 i ⟨1024 * g.val + j.val, by omega⟩) := by
  pointwise [wup]
  refine congrArg (aup m d) ?_
  funext a
  refine Fin.ext ?_
  fin_cases a <;> simp [ix3] <;> omega

theorem blk_up (t : Fin cfg0.N) (i : Fin 1024) (j : Fin 128) (k : Fin 4096) (hk : k.val = t.val * 128 + j.val) :
    iblk m d 8 t (ix2 i j) = V m d main_v28 (ix2 i k) := by
  blk_simp [iblk]
  refine congrArg (V m d main_v28) ?_
  funext a
  refine Fin.ext ?_
  fin_cases a <;> blk_simp [i8] <;> simp [hk]

theorem emb_up (t : Fin cfg0.N) (i : Fin 1024) (j : Fin 128) (g : Fin 4) (k : Fin 1024) (hg : g.val = t.val / 8)
    (hk : k.val = t.val % 8 * 128 + j.val) : (win0_14.blk t).view.emb (ix3 0 i j) = ix3 g i k := by
  funext a
  refine Fin.ext ?_
  fin_cases a <;> blk_simp [i14] <;> simp [hk, hg]

theorem cast_up (w : Vec Ideal S1024x128 .f32) (i : Fin 1024) (j : Fin 128) :
    View.canon [⟨r0_3, k0_pay5 (View.ld w r0_2)⟩] (ix3 0 i j) = w (ix2 i j) := by
  refine (Cert.KernelIdeal.Value.canon14_eq (View.ld w r0_2) _).trans ?_
  show w _ = _
  refine congrArg w (funext fun a => Fin.ext ?_)
  fin_cases a
  · show 0 + 1 * i.val = i.val
    omega
  · show 0 + 1 * j.val = j.val
    omega

theorem final_up : (dats m 0 d).arrAt 14 cfg0.N = wup m d := by
  refine (dats m 0 d).arrAt_eq_of_covers 14 _ (by decide +kernel) fun t hf y => ?_
  blk_simp
  rw [after0_14]
  unfold out0_14
  idx_vars y
  have ht : t.val < 32 := lt_of_lt_of_eq t.isLt N_0
  have h0 : y0 = 0 := by omega
  subst h0
  have h2 := y2.isLt
  rw [emb_up t y1 y2 ⟨t.val / 8, by omega⟩ ⟨t.val % 8 * 128 + y2.val, by omega⟩ rfl rfl, wup_at, ← V_up,
    ← blk_up m d t y1 y2 _ (by show 1024 * (t.val / 8) + (t.val % 8 * 128 + y2.val) = _; omega)]
  exact cast_up _ y1 y2

end Att

end
-- ==== Proof.Att.Claim.lean ====
/- The attention call's claims: the frames, and the value claim against the plain reference. -/
module

public import proofs.«01_k».proof.Defs
public import proofs.«01_k».proof.Proof.Att.Final
public import proofs.«01_k».proof.Proof.Att.Weights
public import proofs.«01_k».proof.Proof.Gen.Kernel.Frame
public import Idealize.ShloMosaic.Adequacy
public import Idealize.ShloMosaic.Init
public import Idealize.ShloMosaic.Lib.Quiescent

@[expose] public section

set_option maxRecDepth 16384

noncomputable section

namespace Att

open Idealize.ShloMosaic Idealize.ShloMosaic.TcCoe Idealize.SL.Sem

theorem frame_k : Cert.quiescent_Kernel := fun m ρ _ => Cert.Kernel.Gen.frame m ρ
theorem frame_ki : Cert.quiescent_KernelIdeal := fun m ρ _ => Cert.KernelIdeal.Gen.frame m ρ
theorem frame_kip : Cert.quiescent_KernelIdeal_pre_finite := fun m ρ _ => Cert.KernelIdeal.Gen.frame m ρ

/-- The reference's run read at its arguments; it has no semaphore. -/
theorem frame_ri : Cert.quiescent_ReferenceIdeal := fun m ρ _ =>
  (θ_run Cert.ReferenceIdeal.defs _ _).mono (fun r h => ⟨fun c => (h c).2.2.2.2.2.2,
      Idealize.ShloMosaic.sem_eq_zero_of_no_sems (by decide) r.2⟩)
    (Cert.ReferenceIdeal.Value.run (F := Ideal) m ρ)

theorem frame_rip : Cert.quiescent_ReferenceIdeal_pre_finite := fun m ρ _ => frame_ri m ρ trivial

theorem algebraic : Cert.algebraic_KernelIdeal_ReferenceIdeal_pre_finite := by
  intro m ρ m' ρ' hpre hagree
  refine ⟨fun c => Ref.att (aq m c) (ak m c) (av m c) (akc m c) (avc m c), fun c => wfo m c, fun c => wao m c,
    fun c => wout m c, fun c => wup m c, fun c => wdn m c, ?_, ?_⟩
  · refine (θ_run Cert.KernelIdeal.defs _ _).mono (fun r h c => ?_) (Cert.KernelIdeal.Value.run_blocks (F := Ideal) m ρ)
    obtain ⟨h0, h1, h2, h3, h4, h5, h6⟩ := h c
    obtain ⟨hq, hk, hkc⟩ := pre_real _ _ _ _ _ _ _ _ _ _ (congrFun (hpre c) _)
    exact ⟨h0.trans (final_att m c hq hk hkc), h1.trans (final_fo m c), h2.trans (final_ao m c), h3.trans (final_out m c),
      h4.trans (final_up m c), h5.trans (final_dn m c), h6⟩
  · refine (θ_run Cert.ReferenceIdeal.defs _ _).mono (fun r h c => ?_) (Cert.ReferenceIdeal.Value.run (F := Ideal) m' ρ')
    obtain ⟨h0, h1, h2, h3, h4, h5, h6⟩ := h c
    obtain ⟨a0, a1, a2, a3, a4, a5, a6, a7, a8, a9⟩ := hagree c
    rw [a0, a1, a2, a3, a4] at h0
    rw [a5] at h1
    rw [a6] at h2
    rw [a7] at h3
    rw [a8] at h4
    rw [a9] at h5
    exact ⟨h0, h1, h2, h3, h4, h5, h6⟩

end Att

end
-- ==== Proof.Post.Half.lean ====
/- What one grid point of the second call leaves in its output block: two halves of 256 tokens, both computed by the same
   function of what is loaded for them. -/
module

public import proofs.«01_k».proof.Proof.Gen.Kernel2Ideal.Frame
public import Idealize.ShloMosaic.Lib.Pipeline.ValueKit.Tiles

@[expose] public section

set_option maxRecDepth 16384

noncomputable section

namespace Post

open Cert.Kernel2Ideal Cert.Kernel2Ideal.Gen Idealize.ShloMosaic Idealize.ShloMosaic.TcCoe Idealize.SL.Sem
open Cert.Kernel2Ideal.Facts

variable {F : FTy → Type} [FloatOps F]

/-- The residual stream after the mixer: `x + gate · (mixed @ w_out)`. -/
def mixed (r : Vec F S1x6144 .f32) (fm : Vec F S1x256x512 .bf16) (wf : Vec F S512x1024 .bf16) (aT : Vec F S1x512x256 .bf16)
    (wa : Vec F S512x1024 .bf16) (g : Vec F S1x256x2048 .bf16) (x : Vec F S1x256x1024 .f32) (wo : Vec F S1024x1024 .bf16) :
    FVec F S256x1024 .f32 :=
  k0_pay5 (k0_pay2 x) (k0_pay3 fm wf aT wa g wo) (k0_pay4 r)

/-- Its normalised and modulated rows, which the feed-forward network takes. -/
def hidden (r : Vec F S1x6144 .f32) (fm : Vec F S1x256x512 .bf16) (wf : Vec F S512x1024 .bf16) (aT : Vec F S1x512x256 .bf16)
    (wa : Vec F S512x1024 .bf16) (g : Vec F S1x256x2048 .bf16) (x : Vec F S1x256x1024 .f32) (wo : Vec F S1024x1024 .bf16)
    (n : Vec F S1x1024 .f32) : FVec F S256x1024 .bf16 :=
  k0_pay6 (k0_pay1 r) (k0_pay2 x) (k0_pay3 fm wf aT wa g wo) (k0_pay4 r) n

/-- The feed-forward network in four chunks of its inner width, and the last residual. -/
def feed (r : Vec F S1x6144 .f32) (X : FVec F S256x1024 .f32) (H : FVec F S256x1024 .bf16)
    (u0 d0 u1 d1 u2 d2 u3 d3 : Vec F S1x1024x1024 .bf16) : FVec F S1x256x1024 .f32 :=
  k0_pay17 (k0_pay1 r) X (k0_pay15 H k0_pay13 (k0_pay14 H u0) (Scalar.ofBits .f32 0x00000000#32) d0 u1 d1 u2 d2)
    (k0_pay16 H u3) (Scalar.ofBits .f32 0x00000000#32) d3

/-- The second half's statements are the first half's. -/
theorem mixed_snd (r : Vec F S1x6144 .f32) (fm : Vec F S1x256x512 .bf16) (wf : Vec F S512x1024 .bf16) (aT : Vec F S1x512x256 .bf16)
    (wa : Vec F S512x1024 .bf16) (g : Vec F S1x256x2048 .bf16) (x : Vec F S1x256x1024 .f32) (wo : Vec F S1024x1024 .bf16) :
    k0_pay11 (k0_pay1 r) (k0_pay7 fm wf) (k0_pay8 aT wa) (k0_pay9 g) (k0_pay10 g) x wo = mixed r fm wf aT wa g x wo := rfl

theorem hidden_snd (r : Vec F S1x6144 .f32) (fm : Vec F S1x256x512 .bf16) (wf : Vec F S512x1024 .bf16) (aT : Vec F S1x512x256 .bf16)
    (wa : Vec F S512x1024 .bf16) (g : Vec F S1x256x2048 .bf16) (x : Vec F S1x256x1024 .f32) (wo : Vec F S1024x1024 .bf16)
    (n : Vec F S1x1024 .f32) :
    k0_pay12 (k0_pay1 r) (k0_pay7 fm wf) (k0_pay8 aT wa) (k0_pay9 g) (k0_pay10 g) x wo n = hidden r fm wf aT wa g x wo n := rfl

theorem feed_snd (r : Vec F S1x6144 .f32) (X : FVec F S256x1024 .f32) (H : FVec F S256x1024 .bf16)
    (u0 d0 u1 d1 u2 d2 u3 d3 : Vec F S1x1024x1024 .bf16) :
    k0_pay20 (k0_pay1 r) X H (k0_pay18 H u0 d0) (k0_pay19 H u1) d1 u2 d2 u3 d3 = feed r X H u0 d0 u1 d1 u2 d2 u3 d3 := rfl

/-- Row `i 0` of the modulation table. -/
abbrev rowR (i : grid0.Coords) := Rect.unit (s := S8x6144) (k0_off1 i) S1x6144.size (k0_off1_inb i)

/-- Chunk `k` of an up or a down weight. -/
def chunk0 (w : Vec F S4x1024x1024 .bf16) : Vec F S1x1024x1024 .bf16 :=
  View.ld w (Rect.unit (s := S4x1024x1024) ![0, 0, 0] S1x1024x1024.size inb_S4x1024x1024_S1x1024x1024_0_0_0)
def chunk1 (w : Vec F S4x1024x1024 .bf16) : Vec F S1x1024x1024 .bf16 :=
  View.ld w (Rect.unit (s := S4x1024x1024) ![1, 0, 0] S1x1024x1024.size inb_S4x1024x1024_S1x1024x1024_1_0_0)
def chunk2 (w : Vec F S4x1024x1024 .bf16) : Vec F S1x1024x1024 .bf16 :=
  View.ld w (Rect.unit (s := S4x1024x1024) ![2, 0, 0] S1x1024x1024.size inb_S4x1024x1024_S1x1024x1024_2_0_0)
def chunk3 (w : Vec F S4x1024x1024 .bf16) : Vec F S1x1024x1024 .bf16 :=
  View.ld w (Rect.unit (s := S4x1024x1024) ![3, 0, 0] S1x1024x1024.size inb_S4x1024x1024_S1x1024x1024_3_0_0)

/-- One half's output, of the row of the table and what is loaded of the tile. -/
def half (r : Vec F S1x6144 .f32) (fm : Vec F S1x256x512 .bf16) (aT : Vec F S1x512x256 .bf16) (g : Vec F S1x256x2048 .bf16)
    (x : Vec F S1x256x1024 .f32) (wf wa : Vec F S512x1024 .bf16) (wo : Vec F S1024x1024 .bf16) (n : Vec F S1x1024 .f32)
    (wu wd : Vec F S4x1024x1024 .bf16) : FVec F S1x256x1024 .f32 :=
  feed r (mixed r fm wf aT wa g x wo) (hidden r fm wf aT wa g x wo n) (chunk0 wu) (chunk0 wd) (chunk1 wu) (chunk1 wd)
    (chunk2 wu) (chunk2 wd) (chunk3 wu) (chunk3 wd)

theorem hz2 : (![0, 0] : Fin 2 → Nat) = fun _ => 0 := funext fun a => by fin_cases a <;> rfl

set_option maxHeartbeats 1000000 in
/-- A grid point's output block is its two halves. -/
theorem out_eq (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x2048 .bf16) (harg4 : arg4.IsWhole) (arg5 : Memref sig .tc .vmem S1x512x1024 .f32) (harg5 : arg5.IsWhole) (arg6 : Memref sig .tc .vmem S8x6144 .f32) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S4x1024x1024 .bf16) (harg11 : arg11.IsWhole) (arg12 : Memref sig .tc .vmem S4x1024x1024 .bf16) (harg12 : arg12.IsWhole) (arg13 : Memref sig .tc .vmem S1x512x1024 .f32) (harg13 : arg13.IsWhole)
    (x0 : Vec F S1x512x512 .bf16) (x1 : Vec F S1x512x512 .bf16) (x2 : Vec F S1x512x2048 .bf16) (x3 : Vec F S1x512x1024 .f32) (x4 : Vec F S8x6144 .f32) (x5 : Vec F S512x1024 .bf16) (x6 : Vec F S512x1024 .bf16) (x7 : Vec F S1024x1024 .bf16) (x8 : Vec F S1x1024 .f32) (x9 : Vec F S4x1024x1024 .bf16) (x10 : Vec F S4x1024x1024 .bf16) :
    out0_A_11 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 =
      View.canon [
        ⟨Rect.unit (s := S1x512x1024) ![0, 256, 0] S1x256x1024.size inb_S1x512x1024_S1x256x1024_0_256_0,
          half (View.ld x4 (rowR i))
            (View.ld x0 (Rect.unit (s := S1x512x512) ![0, 256, 0] S1x256x512.size inb_S1x512x512_S1x256x512_0_256_0))
            (View.ld x1 (Rect.unit (s := S1x512x512) ![0, 0, 256] S1x512x256.size inb_S1x512x512_S1x512x256_0_0_256))
            (View.ld x2 (Rect.unit (s := S1x512x2048) ![0, 256, 0] S1x256x2048.size inb_S1x512x2048_S1x256x2048_0_256_0))
            (View.ld x3 (Rect.unit (s := S1x512x1024) ![0, 256, 0] S1x256x1024.size inb_S1x512x1024_S1x256x1024_0_256_0))
            x5 x6 x7 x8 x9 x10⟩,
        ⟨Rect.unit (s := S1x512x1024) ![0, 0, 0] S1x256x1024.size inb_S1x512x1024_S1x256x1024_0_0_0,
          half (View.ld x4 (rowR i))
            (View.ld x0 (Rect.unit (s := S1x512x512) ![0, 0, 0] S1x256x512.size inb_S1x512x512_S1x256x512_0_0_0))
            (View.ld x1 (Rect.unit (s := S1x512x512) ![0, 0, 0] S1x512x256.size inb_S1x512x512_S1x512x256_0_0_0))
            (View.ld x2 (Rect.unit (s := S1x512x2048) ![0, 0, 0] S1x256x2048.size inb_S1x512x2048_S1x256x2048_0_0_0))
            (View.ld x3 (Rect.unit (s := S1x512x1024) ![0, 0, 0] S1x256x1024.size inb_S1x512x1024_S1x256x1024_0_0_0))
            x5 x6 x7 x8 x9 x10⟩] := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10)]
  unfold kernelRun0_A
  dsimp only
  sl_unfold_words
  simp only [View.readAt_eq_ld, harg2.read_unread, harg3.read_unread, harg4.read_unread, harg5.read_unread, harg6.read_unread,
    harg7.read_unread, harg8.read_unread, harg9.read_unread, harg10.read_unread, harg11.read_unread, harg12.read_unread,
    View.ld_unit_zero (S := S512x1024) hz2, View.ld_unit_zero (S := S1024x1024) hz2, View.ld_unit_zero (S := S1x1024) hz2]
  simp only [mixed_snd, hidden_snd, feed_snd]
  rfl

end Post

end
-- ==== Proof.Post.Entry.lean ====
/- The pieces of one half read at an index, over the extended reals. -/
module

public import proofs.«01_k».proof.Proof.Post.Half
public import Idealize.ShloMosaic.Lib.Pointwise
public import Idealize.ShloMosaic.Lib.IdealHost

@[expose] public section

set_option maxRecDepth 16384

noncomputable section

namespace Post

open Cert.Kernel2Ideal Cert.Kernel2Ideal.Gen Idealize.ShloMosaic Idealize.ShloMosaic.TcCoe Idealize.SL.Sem
open Cert.Kernel2Ideal.Facts

/-- The six rows of the modulation, cut from one row of the table. -/
theorem row2 (r : Vec Ideal S1x6144 .f32) (j : Fin 1024) : k0_pay1 r (ix2 2 j) = r (ix2 0 ⟨2048 + j.val, by omega⟩) := by
  pointwise [k0_pay1]
theorem row3 (r : Vec Ideal S1x6144 .f32) (j : Fin 1024) : k0_pay1 r (ix2 3 j) = r (ix2 0 ⟨3072 + j.val, by omega⟩) := by
  pointwise [k0_pay1]
theorem row4 (r : Vec Ideal S1x6144 .f32) (j : Fin 1024) : k0_pay1 r (ix2 4 j) = r (ix2 0 ⟨4096 + j.val, by omega⟩) := by
  pointwise [k0_pay1]
theorem row5 (r : Vec Ideal S1x6144 .f32) (j : Fin 1024) : k0_pay1 r (ix2 5 j) = r (ix2 0 ⟨5120 + j.val, by omega⟩) := by
  pointwise [k0_pay1]

theorem pay3_at (fm : Vec Ideal S1x256x512 .bf16) (wf : Vec Ideal S512x1024 .bf16) (aT : Vec Ideal S1x512x256 .bf16)
    (wa : Vec Ideal S512x1024 .bf16) (g : Vec Ideal S1x256x2048 .bf16) (wo : Vec Ideal S1024x1024 .bf16) (s : Fin 256) (j : Fin 1024) :
    k0_pay3 fm wf aT wa g wo (ix2 s j) = ∑ k : Fin 1024,
      (g (ix3 0 s ⟨k.val, by omega⟩) * (∑ c : Fin 512, fm (ix3 0 s c) * wf (ix2 c k)) +
        g (ix3 0 s ⟨1024 + k.val, by omega⟩) * (∑ c : Fin 512, aT (ix3 0 c s) * wa (ix2 c k))) * wo (ix2 k j) := by
  pointwise [k0_pay3]

theorem mixed_at (r : Vec Ideal S1x6144 .f32) (fm : Vec Ideal S1x256x512 .bf16) (wf : Vec Ideal S512x1024 .bf16) (aT : Vec Ideal S1x512x256 .bf16)
    (wa : Vec Ideal S512x1024 .bf16) (g : Vec Ideal S1x256x2048 .bf16) (x : Vec Ideal S1x256x1024 .f32) (wo : Vec Ideal S1024x1024 .bf16)
    (s : Fin 256) (j : Fin 1024) :
    mixed r fm wf aT wa g x wo (ix2 s j) = x (ix3 0 s j) + k0_pay1 r (ix2 2 j) * k0_pay3 fm wf aT wa g wo (ix2 s j) := by
  pointwise [mixed, k0_pay5, k0_pay2, k0_pay4]

theorem pay6_at (v8 : FVec Ideal S6x1024 .f32) (a b c : FVec Ideal S256x1024 .f32) (n : Vec Ideal S1x1024 .f32)
    (s : Fin 256) (j : Fin 1024) :
    k0_pay6 v8 a b c n (ix2 s j) = k0_pay5 a b c (ix2 s j) *
      Ideal.rsqrt ((∑ k : Fin 1024, k0_pay5 a b c (ix2 s k) * k0_pay5 a b c (ix2 s k)) * Ideal.ofBits .f32 0x3A800000#32 + Ideal.ofBits .f32 0x358637BD#32)
      * (n (ix2 0 j) * (1 + v8 (ix2 4 j))) + v8 (ix2 3 j) := by
  unfold k0_pay6
  generalize k0_pay5 a b c = X
  pointwise [Ideal.ofBits_one_f32]

/-- One chunk of the feed-forward network at an index. -/
def term (h : FVec Ideal S256x1024 .bf16) (u d : Vec Ideal S1x1024x1024 .bf16) (s : Fin 256) (j : Fin 1024) : EReal :=
  ∑ k : Fin 1024, (max (∑ c : Fin 1024, h (ix2 s c) * u (ix3 0 c k)) 0 * max (∑ c : Fin 1024, h (ix2 s c) * u (ix3 0 c k)) 0) *
    d (ix3 0 k j)

theorem feed_at (r : Vec Ideal S1x6144 .f32) (X : FVec Ideal S256x1024 .f32) (H : FVec Ideal S256x1024 .bf16)
    (u0 d0 u1 d1 u2 d2 u3 d3 : Vec Ideal S1x1024x1024 .bf16) (s : Fin 256) (j : Fin 1024) :
    feed r X H u0 d0 u1 d1 u2 d2 u3 d3 (ix3 0 s j) = X (ix2 s j) + k0_pay1 r (ix2 5 j) *
      (term H u0 d0 s j + term H u1 d1 s j + term H u2 d2 s j + term H u3 d3 s j) := by
  unfold feed
  generalize k0_pay1 r = v8
  pointwise [term, k0_pay17, k0_pay15, k0_pay13, k0_pay14, k0_pay16]

end Post

end
-- ==== Proof.Post.Ref.lean ====
/- The mathematics of the second call at one token, and the plain reference read as that. -/
module

public import proofs.«01_k».proof.Proof.Gen.Reference2Ideal.Run
public import Idealize.ShloMosaic.Lib.Pointwise
public import Idealize.ShloMosaic.Lib.IdealHost

@[expose] public section

set_option maxRecDepth 16384

noncomputable section

namespace Post.Ref

open Cert.Reference2Ideal Cert.Reference2Ideal.Gen Idealize.ShloMosaic Idealize.ShloMosaic.TcCoe Idealize.SL.Sem
open Cert.Reference2Ideal.Facts

/-- One token's residual stream after the mixer. -/
def mix (x g1 ga gb : Fin 1024 → EReal) (fm att : Fin 512 → EReal) (wf wa : Fin 512 → Fin 1024 → EReal)
    (wo : Fin 1024 → Fin 1024 → EReal) (j : Fin 1024) : EReal :=
  x j + g1 j * ∑ k, (ga k * (∑ c, fm c * wf c k) + gb k * (∑ c, att c * wa c k)) * wo k j

/-- One token normalised by its mean square, scaled and shifted. -/
def norm (X n sc sh : Fin 1024 → EReal) (j : Fin 1024) : EReal :=
  X j * Ideal.rsqrt (Ideal.div (∑ k, X k * X k) (Ideal.ofBits .f32 0x44800000#32) + Ideal.ofBits .f32 0x358637BD#32) * n j *
    (1 + sc j) + sh j

/-- One token through the feed-forward network. -/
def ffn (h : Fin 1024 → EReal) (up : Fin 1024 → Fin 4096 → EReal) (dn : Fin 4096 → Fin 1024 → EReal) (j : Fin 1024) : EReal :=
  ∑ k, (max (∑ c, h c * up c k) 0 * max (∑ c, h c * up c k) 0) * dn k j

/-- Chunk `a` of the modulation's six, for batch `b`. -/
def modRow (mo : FVec Ideal S8x6144 .f32) (b : Fin 4) (a : Fin 6) (j : Fin 1024) : EReal :=
  mo (ix2 ⟨b.val, by omega⟩ ⟨a.val * 1024 + j.val, by omega⟩)

/-- The residual stream after the mixer, of the reference's arguments. -/
def mixOf (fm att : FVec Ideal S4x4096x512 .f32) (g : FVec Ideal S4x4096x2048 .f32) (x : FVec Ideal S4x4096x1024 .f32)
    (mo : FVec Ideal S8x6144 .f32) (wf wa : FVec Ideal S1x512x1024 .f32) (wo : FVec Ideal S1x1024x1024 .f32)
    (b : Fin 4) (s : Fin 4096) : Fin 1024 → EReal :=
  mix (fun j => x (ix3 b s j)) (modRow mo b 2) (fun k => g (ix3 b s ⟨k.val, by omega⟩)) (fun k => g (ix3 b s ⟨1024 + k.val, by omega⟩))
    (fun c => fm (ix3 b s c)) (fun c => att (ix3 b s c)) (fun c k => wf (ix3 0 c k)) (fun c k => wa (ix3 0 c k))
    (fun k j => wo (ix3 0 k j))

/-- The second call's result at token `s` of batch `b`. -/
def post (fm att : FVec Ideal S4x4096x512 .f32) (g : FVec Ideal S4x4096x2048 .f32) (x : FVec Ideal S4x4096x1024 .f32)
    (mo : FVec Ideal S8x6144 .f32) (wf wa : FVec Ideal S1x512x1024 .f32) (wo : FVec Ideal S1x1024x1024 .f32)
    (n : FVec Ideal S1x1024 .f32) (up : FVec Ideal S1x1024x4096 .f32) (dn : FVec Ideal S1x4096x1024 .f32)
    (b : Fin 4) (s : Fin 4096) (j : Fin 1024) : EReal :=
  mixOf fm att g x mo wf wa wo b s j + modRow mo b 5 j *
    ffn (norm (mixOf fm att g x mo wf wa wo b s) (fun k => n (ix2 0 k)) (modRow mo b 4) (modRow mo b 3))
      (fun c k => up (ix3 0 c k)) (fun k j => dn (ix3 0 k j)) j

/-- The six chunks of the modulation, as the reference cuts them. -/
def chunk (mo : FVec Ideal S8x6144 .f32) : FVec Ideal S4x1x6144 .f32 :=
  broadcastInDim S4x1x6144 ![0, 2] bcast_S4x6144_S4x1x6144_0_2 (extractStridedSlice S4x6144 ![0, 0] mo slices_S8x6144_S4x6144_0_0)

/-- The reference's first residual, as an array. -/
def mixA (fm att : FVec Ideal S4x4096x512 .f32) (g : FVec Ideal S4x4096x2048 .f32) (x : FVec Ideal S4x4096x1024 .f32)
    (mo : FVec Ideal S8x6144 .f32) (wf wa : FVec Ideal S1x512x1024 .f32) (wo : FVec Ideal S1x1024x1024 .f32) : FVec Ideal S4x4096x1024 .f32 :=
  addf x (mulf (broadcastInDim S4x4096x1024 ![0, 1, 2] bcast_S4x1x1024_S4x4096x1024_0_1_2
      (extractStridedSlice S4x1x1024 ![0, 0, 2048] (chunk mo) slices_S4x1x6144_S4x1x1024_0_0_2048))
    (Host.dotGeneral dot_S4x4096x1024_S1024x1024_S4x4096x1024_2_0_01_1_n_n none
      (addf
        (mulf (extractStridedSlice S4x4096x1024 ![0, 0, 0] g slices_S4x4096x2048_S4x4096x1024_0_0_0)
          (Host.dotGeneral dot_S4x4096x512_S512x1024_S4x4096x1024_2_0_01_1_n_n none fm (shapeCast _ wf shapeCasts_S1x512x1024_S512x1024)))
        (mulf (extractStridedSlice S4x4096x1024 ![0, 0, 1024] g slices_S4x4096x2048_S4x4096x1024_0_0_1024)
          (Host.dotGeneral dot_S4x4096x512_S512x1024_S4x4096x1024_2_0_01_1_n_n none att (shapeCast _ wa shapeCasts_S1x512x1024_S512x1024))))
      (shapeCast _ wo shapeCasts_S1x1024x1024_S1024x1024)))

/-- The reference's normalised rows, as an array. -/
def normA (X : FVec Ideal S4x4096x1024 .f32) (mo : FVec Ideal S8x6144 .f32) (n : FVec Ideal S1x1024 .f32) : FVec Ideal S4x4096x1024 .f32 :=
  addf (mulf (mulf (mulf X (broadcastInDim S4x4096x1024 ![0, 1, 2] bcast_S4x4096x1_S4x4096x1024_0_1_2
      (Host.rsqrt (addf (Host.divf (broadcastInDim S4x4096x1 ![0, 1] bcast_S4x4096_S4x4096x1_0_1
          (Host.reduceAdd (mulf X X) (constant S_ .f32 0x00000000#32) reducesTo_S4x4096x1024_S4x4096_d2 h_S_))
          (broadcastInDim S4x4096x1 ![] bcast_S_S4x4096x1 (constant S_ .f32 0x44800000#32)))
        (broadcastInDim S4x4096x1 ![] bcast_S_S4x4096x1 (constant S_ .f32 0x358637BD#32))))))
      (broadcastInDim S4x4096x1024 ![0, 1, 2] bcast_S1x1x1024_S4x4096x1024_0_1_2 (broadcastInDim S1x1x1024 ![2] bcast_S1024_S1x1x1024_2
        (shapeCast _ n shapeCasts_S1x1024_S1024))))
      (broadcastInDim S4x4096x1024 ![0, 1, 2] bcast_S4x1x1024_S4x4096x1024_0_1_2
        (addf (broadcastInDim S4x1x1024 ![] bcast_S_S4x1x1024 (constant S_ .f32 0x3F800000#32))
          (extractStridedSlice S4x1x1024 ![0, 0, 4096] (chunk mo) slices_S4x1x6144_S4x1x1024_0_0_4096))))
    (broadcastInDim S4x4096x1024 ![0, 1, 2] bcast_S4x1x1024_S4x4096x1024_0_1_2
      (extractStridedSlice S4x1x1024 ![0, 0, 3072] (chunk mo) slices_S4x1x6144_S4x1x1024_0_0_3072))

/-- The reference's inner activations before the rectifier. -/
def innerA (H : FVec Ideal S4x4096x1024 .f32) (up : FVec Ideal S1x1024x4096 .f32) : FVec Ideal S4x4096x4096 .f32 :=
  maximumf (Host.dotGeneral dot_S4x4096x1024_S1024x4096_S4x4096x4096_2_0_01_1_n_n none H (shapeCast _ up shapeCasts_S1x1024x4096_S1024x4096))
    (broadcastInDim S4x4096x4096 ![] bcast_S_S4x4096x4096 (constant S_ .f32 0x00000000#32))

/-- The reference's last residual. -/
def lastA (X : FVec Ideal S4x4096x1024 .f32) (mo : FVec Ideal S8x6144 .f32) (I : FVec Ideal S4x4096x4096 .f32)
    (dn : FVec Ideal S1x4096x1024 .f32) : FVec Ideal S4x4096x1024 .f32 :=
  addf X (mulf (broadcastInDim S4x4096x1024 ![0, 1, 2] bcast_S4x1x1024_S4x4096x1024_0_1_2
      (extractStridedSlice S4x1x1024 ![0, 0, 5120] (chunk mo) slices_S4x1x6144_S4x1x1024_0_0_5120))
    (Host.dotGeneral dot_S4x4096x4096_S4096x1024_S4x4096x1024_2_0_01_1_n_n none (mulf I I) (shapeCast _ dn shapeCasts_S1x4096x1024_S4096x1024)))

/-- The reference's value as an array of its arguments. -/
def postA (fm att : FVec Ideal S4x4096x512 .f32) (g : FVec Ideal S4x4096x2048 .f32) (x : FVec Ideal S4x4096x1024 .f32)
    (mo : FVec Ideal S8x6144 .f32) (wf wa : FVec Ideal S1x512x1024 .f32) (wo : FVec Ideal S1x1024x1024 .f32)
    (n : FVec Ideal S1x1024 .f32) (up : FVec Ideal S1x1024x4096 .f32) (dn : FVec Ideal S1x4096x1024 .f32) : FVec Ideal S4x4096x1024 .f32 :=
  lastA (mixA fm att g x mo wf wa wo) mo (innerA (normA (mixA fm att g x mo wf wa wo) mo n) up) dn

theorem res_eq (m : (ℓ : Loc nD τ sig) → Buf (Elt Ideal) ℓ) (c : Dev nD) :
    Cert.Reference2Ideal.Value.res_main_v51 m c = postA (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) := rfl

theorem mixA_at (fm att : FVec Ideal S4x4096x512 .f32) (g : FVec Ideal S4x4096x2048 .f32) (x : FVec Ideal S4x4096x1024 .f32)
    (mo : FVec Ideal S8x6144 .f32) (wf wa : FVec Ideal S1x512x1024 .f32) (wo : FVec Ideal S1x1024x1024 .f32)
    (b : Fin 4) (s : Fin 4096) (j : Fin 1024) : mixA fm att g x mo wf wa wo (ix3 b s j) = mixOf fm att g x mo wf wa wo b s j := by
  pointwise [mixA, chunk, mixOf, mix, modRow]

theorem normA_at (X : FVec Ideal S4x4096x1024 .f32) (mo : FVec Ideal S8x6144 .f32) (n : FVec Ideal S1x1024 .f32)
    (b : Fin 4) (s : Fin 4096) (j : Fin 1024) : normA X mo n (ix3 b s j) =
      norm (fun k => X (ix3 b s k)) (fun k => n (ix2 0 k)) (modRow mo b 4) (modRow mo b 3) j := by
  pointwise [normA, chunk, norm, modRow, Ideal.ofBits_one_f32]

theorem innerA_at (H : FVec Ideal S4x4096x1024 .f32) (up : FVec Ideal S1x1024x4096 .f32) (b : Fin 4) (s k : Fin 4096) :
    innerA H up (ix3 b s k) = max (∑ c : Fin 1024, H (ix3 b s c) * up (ix3 0 c k)) 0 := by
  pointwise [innerA]

theorem lastA_at (X : FVec Ideal S4x4096x1024 .f32) (mo : FVec Ideal S8x6144 .f32) (I : FVec Ideal S4x4096x4096 .f32)
    (dn : FVec Ideal S1x4096x1024 .f32) (b : Fin 4) (s : Fin 4096) (j : Fin 1024) : lastA X mo I dn (ix3 b s j) =
      X (ix3 b s j) + modRow mo b 5 j * ∑ k : Fin 4096, (I (ix3 b s k) * I (ix3 b s k)) * dn (ix3 0 k j) := by
  pointwise [lastA, chunk, modRow]

theorem postA_at (fm att : FVec Ideal S4x4096x512 .f32) (g : FVec Ideal S4x4096x2048 .f32) (x : FVec Ideal S4x4096x1024 .f32)
    (mo : FVec Ideal S8x6144 .f32) (wf wa : FVec Ideal S1x512x1024 .f32) (wo : FVec Ideal S1x1024x1024 .f32)
    (n : FVec Ideal S1x1024 .f32) (up : FVec Ideal S1x1024x4096 .f32) (dn : FVec Ideal S1x4096x1024 .f32)
    (b : Fin 4) (s : Fin 4096) (j : Fin 1024) :
    postA fm att g x mo wf wa wo n up dn (ix3 b s j) = post fm att g x mo wf wa wo n up dn b s j := by
  unfold postA post
  rw [lastA_at]
  simp only [innerA_at, normA_at, mixA_at]
  rfl

end Post.Ref

end
-- ==== Proof.Post.Tile.lean ====
/- One half at an index is the reference's mathematics at that token: the mean square by a multiplication, the inner width in
   four chunks. -/
module

public import proofs.«01_k».proof.Proof.Post.Entry
public import proofs.«01_k».proof.Proof.Post.Ref

@[expose] public section

set_option maxRecDepth 16384

noncomputable section

namespace Post

open Cert.Kernel2Ideal Cert.Kernel2Ideal.Gen Idealize.ShloMosaic Idealize.ShloMosaic.TcCoe Idealize.SL.Sem
open Cert.Kernel2Ideal.Facts

/-- A division by 1024 is the multiplication by its inverse. -/
theorem div_1024 (x : EReal) : Ideal.div x (Ideal.ofBits .f32 0x44800000#32) = x * Ideal.ofBits .f32 0x3A800000#32 := by
  have e : Ideal.ofBits .f32 0x44800000#32 = ((1024 : ℝ) : EReal) := by
    simp [Ideal.ofBits, Ideal.ieee]
    rw [← EReal.coe_mul]
    norm_num
  have e' : Ideal.ofBits .f32 0x3A800000#32 = ((1024⁻¹ : ℝ) : EReal) := by
    simp [Ideal.ofBits, Ideal.ieee]
    rw [← EReal.coe_mul]
    norm_num
  rw [e, e']
  unfold Ideal.div
  rw [if_neg (by exact_mod_cast (by norm_num : (1024 : ℝ) ≠ 0)), EReal.coe_inv]

/-- Place `k` of chunk `a` of the inner width. -/
def pos (a : Fin 4) (k : Fin 1024) : Fin 4096 := ⟨a.val * 1024 + k.val, by omega⟩

/-- A sum over the inner width is the sum of its four chunks' sums. -/
theorem sum_chunks (f : Fin 4096 → EReal) : ∑ k, f k =
    (∑ k, f (pos 0 k)) + (∑ k, f (pos 1 k)) + (∑ k, f (pos 2 k)) + (∑ k, f (pos 3 k)) := by
  rw [← Fin.sum_univ_four fun a => ∑ k, f (pos a k), ← Fintype.sum_prod_type' fun a k => f (pos a k)]
  refine (Fintype.sum_equiv finProdFinEquiv (fun x : Fin 4 × Fin 1024 => f (pos x.1 x.2)) f fun x => ?_).symm
  refine congrArg f (Fin.ext ?_)
  show x.1.val * 1024 + x.2.val = x.2.val + 1024 * x.1.val
  omega

theorem chunk0_at (w : Vec Ideal S4x1024x1024 .bf16) (c k : Fin 1024) : chunk0 w (ix3 0 c k) = w (ix3 0 c k) := by
  refine congrArg w (funext fun a => Fin.ext ?_)
  fin_cases a
  · rfl
  · show 0 + 1 * c.val = c.val
    omega
  · show 0 + 1 * k.val = k.val
    omega
theorem chunk1_at (w : Vec Ideal S4x1024x1024 .bf16) (c k : Fin 1024) : chunk1 w (ix3 0 c k) = w (ix3 1 c k) := by
  refine congrArg w (funext fun a => Fin.ext ?_)
  fin_cases a
  · rfl
  · show 0 + 1 * c.val = c.val
    omega
  · show 0 + 1 * k.val = k.val
    omega
theorem chunk2_at (w : Vec Ideal S4x1024x1024 .bf16) (c k : Fin 1024) : chunk2 w (ix3 0 c k) = w (ix3 2 c k) := by
  refine congrArg w (funext fun a => Fin.ext ?_)
  fin_cases a
  · rfl
  · show 0 + 1 * c.val = c.val
    omega
  · show 0 + 1 * k.val = k.val
    omega
theorem chunk3_at (w : Vec Ideal S4x1024x1024 .bf16) (c k : Fin 1024) : chunk3 w (ix3 0 c k) = w (ix3 3 c k) := by
  refine congrArg w (funext fun a => Fin.ext ?_)
  fin_cases a
  · rfl
  · show 0 + 1 * c.val = c.val
    omega
  · show 0 + 1 * k.val = k.val
    omega

/-- The four chunks together are the whole feed-forward network. -/
theorem terms_eq (H : FVec Ideal S256x1024 .bf16) (wu wd : Vec Ideal S4x1024x1024 .bf16) (s : Fin 256) (j : Fin 1024)
    (up : Fin 1024 → Fin 4096 → EReal) (dn : Fin 4096 → Fin 1024 → EReal)
    (hu : ∀ a c k, wu (ix3 a c k) = up c (pos a k)) (hd : ∀ a k j, wd (ix3 a k j) = dn (pos a k) j) :
    term H (chunk0 wu) (chunk0 wd) s j + term H (chunk1 wu) (chunk1 wd) s j + term H (chunk2 wu) (chunk2 wd) s j +
      term H (chunk3 wu) (chunk3 wd) s j = Ref.ffn (fun k => H (ix2 s k)) up dn j := by
  unfold Ref.ffn
  rw [sum_chunks]
  simp only [term, chunk0_at, chunk1_at, chunk2_at, chunk3_at, hu, hd]

/-- The normalised row, as the reference writes it. -/
theorem norm_eq (X n sc sh : Fin 1024 → EReal) (j : Fin 1024) :
    X j * Ideal.rsqrt ((∑ k, X k * X k) * Ideal.ofBits .f32 0x3A800000#32 + Ideal.ofBits .f32 0x358637BD#32) * (n j * (1 + sc j)) + sh j =
      Ref.norm X n sc sh j := by
  unfold Ref.norm
  rw [div_1024, mul_assoc (X j * _) (n j)]

/-- ONE HALF AT AN INDEX, of rows of the arguments that its loads hold. -/
theorem half_at (r : Vec Ideal S1x6144 .f32) (fm : Vec Ideal S1x256x512 .bf16) (aT : Vec Ideal S1x512x256 .bf16)
    (g : Vec Ideal S1x256x2048 .bf16) (x : Vec Ideal S1x256x1024 .f32) (wf wa : Vec Ideal S512x1024 .bf16)
    (wo : Vec Ideal S1024x1024 .bf16) (n : Vec Ideal S1x1024 .f32) (wu wd : Vec Ideal S4x1024x1024 .bf16) (s : Fin 256) (j : Fin 1024)
    (Afm Aatt : FVec Ideal Cert.Reference2Ideal.S4x4096x512 .f32) (Ag : FVec Ideal Cert.Reference2Ideal.S4x4096x2048 .f32)
    (Ax : FVec Ideal Cert.Reference2Ideal.S4x4096x1024 .f32) (Amo : FVec Ideal Cert.Reference2Ideal.S8x6144 .f32)
    (Awf Awa : FVec Ideal Cert.Reference2Ideal.S1x512x1024 .f32) (Awo : FVec Ideal Cert.Reference2Ideal.S1x1024x1024 .f32)
    (An : FVec Ideal Cert.Reference2Ideal.S1x1024 .f32) (Aup : FVec Ideal Cert.Reference2Ideal.S1x1024x4096 .f32)
    (Adn : FVec Ideal Cert.Reference2Ideal.S1x4096x1024 .f32) (b : Fin 4) (S : Fin 4096)
    (hr : ∀ k, r (ix2 0 k) = Amo (ix2 ⟨b.val, by omega⟩ k)) (hfm : ∀ c, fm (ix3 0 s c) = Afm (ix3 b S c))
    (hatt : ∀ c, aT (ix3 0 c s) = Aatt (ix3 b S c)) (hg : ∀ k, g (ix3 0 s k) = Ag (ix3 b S k))
    (hx : ∀ k, x (ix3 0 s k) = Ax (ix3 b S k)) (hwf : ∀ c k, wf (ix2 c k) = Awf (ix3 0 c k))
    (hwa : ∀ c k, wa (ix2 c k) = Awa (ix3 0 c k)) (hwo : ∀ k j, wo (ix2 k j) = Awo (ix3 0 k j))
    (hn : ∀ k, n (ix2 0 k) = An (ix2 0 k)) (hu : ∀ a c k, wu (ix3 a c k) = Aup (ix3 0 c (pos a k)))
    (hd : ∀ a k j, wd (ix3 a k j) = Adn (ix3 0 (pos a k) j)) :
    half r fm aT g x wf wa wo n wu wd (ix3 0 s j) = Ref.post Afm Aatt Ag Ax Amo Awf Awa Awo An Aup Adn b S j := by
  have hX : ∀ k, mixed r fm wf aT wa g x wo (ix2 s k) = Ref.mixOf Afm Aatt Ag Ax Amo Awf Awa Awo b S k := fun k => by
    rw [mixed_at, pay3_at, row2]
    simp only [hr, hfm, hatt, hg, hx, hwf, hwa, hwo]
    rfl
  have hH : ∀ k, hidden r fm wf aT wa g x wo n (ix2 s k) = Ref.norm (Ref.mixOf Afm Aatt Ag Ax Amo Awf Awa Awo b S)
      (fun k => An (ix2 0 k)) (Ref.modRow Amo b 4) (Ref.modRow Amo b 3) k := fun k => by
    refine (pay6_at _ _ _ _ _ s k).trans ?_
    rw [← norm_eq, row4, row3, hr, hr, hn]
    simp only [← hX]
    rfl
  unfold half
  rw [feed_at, terms_eq _ wu wd s j (fun c k => Aup (ix3 0 c k)) (fun k j => Adn (ix3 0 k j)) hu hd, row5, hr]
  simp only [hH, hX]
  rfl

end Post

end
-- ==== Proof.Post.Blocks.lean ====
/- The arrays the second call is handed, read at an index, and its blocks at grid point `t`: batch `t / 8`, tokens from
   `512 * (t % 8)`. -/
module

public import proofs.«01_k».proof.Proof.Gen.Kernel2Ideal.Frame
public import Idealize.ShloMosaic.Lib.Claim
public import Idealize.ShloMosaic.Lib.Pointwise
public import Idealize.ShloMosaic.Lib.IdealHost
public import Idealize.ShloMosaic.Lib.Pipeline.ValueKit.Geometry

@[expose] public section

set_option maxRecDepth 16384

noncomputable section

namespace Post

open Cert.Kernel2Ideal Cert.Kernel2Ideal.Gen Idealize.ShloMosaic Idealize.ShloMosaic.TcCoe Idealize.SL.Sem
open Cert.Kernel2Ideal.Facts

variable (m : (ℓ : Loc nD τ sig) → Buf (Elt Ideal) ℓ) (d : Dev nD)

/-- The arguments on device `d`. -/
abbrev afm : FVec Ideal S4x4096x512 .f32 := m ((d.tc : Thread nD τ).loc main_arg0)
abbrev aatt : FVec Ideal S4x4096x512 .f32 := m ((d.tc : Thread nD τ).loc main_arg1)
abbrev ag : FVec Ideal S4x4096x2048 .f32 := m ((d.tc : Thread nD τ).loc main_arg2)
abbrev ax : FVec Ideal S4x4096x1024 .f32 := m ((d.tc : Thread nD τ).loc main_arg3)
abbrev amo : FVec Ideal S8x6144 .f32 := m ((d.tc : Thread nD τ).loc main_arg4)
abbrev awf : FVec Ideal S1x512x1024 .f32 := m ((d.tc : Thread nD τ).loc main_arg5)
abbrev awa : FVec Ideal S1x512x1024 .f32 := m ((d.tc : Thread nD τ).loc main_arg6)
abbrev awo : FVec Ideal S1x1024x1024 .f32 := m ((d.tc : Thread nD τ).loc main_arg7)
abbrev an : FVec Ideal S1x1024 .f32 := m ((d.tc : Thread nD τ).loc main_arg8)
abbrev aup : FVec Ideal S1x1024x4096 .f32 := m ((d.tc : Thread nD τ).loc main_arg9)
abbrev adn : FVec Ideal S1x4096x1024 .f32 := m ((d.tc : Thread nD τ).loc main_arg10)

theorem V_fm (b : Fin 4) (s : Fin 4096) (c : Fin 512) : V m d main_v7 (ix3 b s c) = afm m d (ix3 b s c) := by
  entry_read
  pointwise [afm]

theorem V_att (b : Fin 4) (c : Fin 512) (s : Fin 4096) : V m d main_v9 (ix3 b c s) = aatt m d (ix3 b s c) := by
  entry_read
  pointwise [aatt]

theorem V_g (b : Fin 4) (s : Fin 4096) (c : Fin 2048) : V m d main_v10 (ix3 b s c) = ag m d (ix3 b s c) := by
  entry_read
  pointwise [ag]

theorem V_x : V m d main_arg3 = ax m d := by
  entry_read
  rfl

theorem V_mo : V m d main_arg4 = amo m d := by
  entry_read
  rfl

theorem V_wf (c : Fin 512) (k : Fin 1024) : V m d main_v12 (ix2 c k) = awf m d (ix3 0 c k) := by
  entry_read
  pointwise [awf]

theorem V_wa (c : Fin 512) (k : Fin 1024) : V m d main_v14 (ix2 c k) = awa m d (ix3 0 c k) := by
  entry_read
  pointwise [awa]

theorem V_wo (k j : Fin 1024) : V m d main_v16 (ix2 k j) = awo m d (ix3 0 k j) := by
  entry_read
  pointwise [awo]

theorem V_n (j : Fin 1024) : V m d main_v18 (ix2 0 j) = an m d (ix2 0 j) := by
  entry_read
  pointwise [an]

/-- Chunk `a` of the up weight holds its columns from `1024 * a`. -/
theorem V_up (a : Fin 4) (c k : Fin 1024) : V m d main_v3 (ix3 a c k) = aup m d (ix3 0 c ⟨a.val * 1024 + k.val, by omega⟩) := by
  entry_read
  pointwise [aup]

/-- Chunk `a` of the down weight holds its rows from `1024 * a`. -/
theorem V_dn (a : Fin 4) (k j : Fin 1024) : V m d main_v6 (ix3 a k j) = adn m d (ix3 0 ⟨a.val * 1024 + k.val, by omega⟩ j) := by
  entry_read
  pointwise [adn]

/-- The batch of a grid point, and the token at place `s` of its tile. -/
def tb (t : Fin cfg0.N) : Fin 4 := ⟨t.val / 8, by have h := t.isLt; have : cfg0.N = 32 := N_0; omega⟩
def tok (t : Fin cfg0.N) (s : Fin 512) : Fin 4096 := ⟨t.val % 8 * 512 + s.val, by omega⟩

theorem i0 : ∀ t : Fin cfg0.N, win0_0.index t = ![t.val / 8, t.val % 8, 0] :=
  (by decide +kernel : ∀ t : Fin grid0.N, win0_0.index t = ![t.val / 8, t.val % 8, 0])
theorem i1 : ∀ t : Fin cfg0.N, win0_1.index t = ![t.val / 8, 0, t.val % 8] :=
  (by decide +kernel : ∀ t : Fin grid0.N, win0_1.index t = ![t.val / 8, 0, t.val % 8])
theorem i2 : ∀ t : Fin cfg0.N, win0_2.index t = ![t.val / 8, t.val % 8, 0] :=
  (by decide +kernel : ∀ t : Fin grid0.N, win0_2.index t = ![t.val / 8, t.val % 8, 0])
theorem i3 : ∀ t : Fin cfg0.N, win0_3.index t = ![t.val / 8, t.val % 8, 0] :=
  (by decide +kernel : ∀ t : Fin grid0.N, win0_3.index t = ![t.val / 8, t.val % 8, 0])
theorem i4 : ∀ t : Fin cfg0.N, win0_4.index t = ![0, 0] := (by decide +kernel : ∀ t : Fin grid0.N, win0_4.index t = ![0, 0])
theorem i5 : ∀ t : Fin cfg0.N, win0_5.index t = ![0, 0] := (by decide +kernel : ∀ t : Fin grid0.N, win0_5.index t = ![0, 0])
theorem i6 : ∀ t : Fin cfg0.N, win0_6.index t = ![0, 0] := (by decide +kernel : ∀ t : Fin grid0.N, win0_6.index t = ![0, 0])
theorem i7 : ∀ t : Fin cfg0.N, win0_7.index t = ![0, 0] := (by decide +kernel : ∀ t : Fin grid0.N, win0_7.index t = ![0, 0])
theorem i8 : ∀ t : Fin cfg0.N, win0_8.index t = ![0, 0] := (by decide +kernel : ∀ t : Fin grid0.N, win0_8.index t = ![0, 0])
theorem i9 : ∀ t : Fin cfg0.N, win0_9.index t = ![0, 0, 0] := (by decide +kernel : ∀ t : Fin grid0.N, win0_9.index t = ![0, 0, 0])
theorem i10 : ∀ t : Fin cfg0.N, win0_10.index t = ![0, 0, 0] := (by decide +kernel : ∀ t : Fin grid0.N, win0_10.index t = ![0, 0, 0])
theorem i11 : ∀ t : Fin cfg0.N, win0_11.index t = ![t.val / 8, t.val % 8, 0] :=
  (by decide +kernel : ∀ t : Fin grid0.N, win0_11.index t = ![t.val / 8, t.val % 8, 0])

/-- The row of the modulation table a grid point loads. -/
theorem off1 : ∀ t : Fin cfg0.N, k0_off1 (grid0.coords t) = ![t.val / 8, 0] :=
  (by decide +kernel : ∀ t : Fin grid0.N, k0_off1 (grid0.coords t) = ![t.val / 8, 0])

theorem blk_fm (t : Fin cfg0.N) (s c : Fin 512) : iblk m d 0 t (ix3 0 s c) = afm m d (ix3 (tb t) (tok t s) c) := by
  refine Eq.trans ?_ (V_fm m d (tb t) (tok t s) c)
  blk_simp [iblk]
  refine congrArg (V m d main_v7) ?_
  funext a
  refine Fin.ext ?_
  fin_cases a <;> blk_simp [i0] <;> simp [tb, tok]

theorem blk_att (t : Fin cfg0.N) (c s : Fin 512) : iblk m d 1 t (ix3 0 c s) = aatt m d (ix3 (tb t) (tok t s) c) := by
  refine Eq.trans ?_ (V_att m d (tb t) c (tok t s))
  blk_simp [iblk]
  refine congrArg (V m d main_v9) ?_
  funext a
  refine Fin.ext ?_
  fin_cases a <;> blk_simp [i1] <;> simp [tb, tok]

theorem blk_g (t : Fin cfg0.N) (s : Fin 512) (c : Fin 2048) : iblk m d 2 t (ix3 0 s c) = ag m d (ix3 (tb t) (tok t s) c) := by
  refine Eq.trans ?_ (V_g m d (tb t) (tok t s) c)
  blk_simp [iblk]
  refine congrArg (V m d main_v10) ?_
  funext a
  refine Fin.ext ?_
  fin_cases a <;> blk_simp [i2] <;> simp [tb, tok]

theorem blk_x (t : Fin cfg0.N) (s : Fin 512) (j : Fin 1024) : iblk m d 3 t (ix3 0 s j) = ax m d (ix3 (tb t) (tok t s) j) := by
  refine Eq.trans ?_ (congrFun (V_x m d) _)
  blk_simp [iblk]
  refine congrArg (V m d main_arg3) ?_
  funext a
  refine Fin.ext ?_
  fin_cases a <;> blk_simp [i3] <;> simp [tb, tok]

theorem blk_mo (t : Fin cfg0.N) (b : Fin 8) (j : Fin 6144) : iblk m d 4 t (ix2 b j) = amo m d (ix2 b j) := by
  refine Eq.trans ?_ (congrFun (V_mo m d) _)
  blk_simp [iblk]
  refine congrArg (V m d main_arg4) ?_
  funext a
  refine Fin.ext ?_
  fin_cases a <;> blk_simp [i4] <;> simp

theorem blk_wf (t : Fin cfg0.N) (c : Fin 512) (k : Fin 1024) : iblk m d 5 t (ix2 c k) = awf m d (ix3 0 c k) := by
  refine Eq.trans ?_ (V_wf m d c k)
  blk_simp [iblk]
  refine congrArg (V m d main_v12) ?_
  funext a
  refine Fin.ext ?_
  fin_cases a <;> blk_simp [i5] <;> simp

theorem blk_wa (t : Fin cfg0.N) (c : Fin 512) (k : Fin 1024) : iblk m d 6 t (ix2 c k) = awa m d (ix3 0 c k) := by
  refine Eq.trans ?_ (V_wa m d c k)
  blk_simp [iblk]
  refine congrArg (V m d main_v14) ?_
  funext a
  refine Fin.ext ?_
  fin_cases a <;> blk_simp [i6] <;> simp

theorem blk_wo (t : Fin cfg0.N) (k j : Fin 1024) : iblk m d 7 t (ix2 k j) = awo m d (ix3 0 k j) := by
  refine Eq.trans ?_ (V_wo m d k j)
  blk_simp [iblk]
  refine congrArg (V m d main_v16) ?_
  funext a
  refine Fin.ext ?_
  fin_cases a <;> blk_simp [i7] <;> simp

theorem blk_n (t : Fin cfg0.N) (j : Fin 1024) : iblk m d 8 t (ix2 0 j) = an m d (ix2 0 j) := by
  refine Eq.trans ?_ (V_n m d j)
  blk_simp [iblk]
  refine congrArg (V m d main_v18) ?_
  funext a
  refine Fin.ext ?_
  fin_cases a <;> blk_simp [i8] <;> simp

theorem blk_up (t : Fin cfg0.N) (a : Fin 4) (c k : Fin 1024) :
    iblk m d 9 t (ix3 a c k) = aup m d (ix3 0 c ⟨a.val * 1024 + k.val, by omega⟩) := by
  refine Eq.trans ?_ (V_up m d a c k)
  blk_simp [iblk]
  refine congrArg (V m d main_v3) ?_
  funext a
  refine Fin.ext ?_
  fin_cases a <;> blk_simp [i9] <;> simp

theorem blk_dn (t : Fin cfg0.N) (a : Fin 4) (k j : Fin 1024) :
    iblk m d 10 t (ix3 a k j) = adn m d (ix3 0 ⟨a.val * 1024 + k.val, by omega⟩ j) := by
  refine Eq.trans ?_ (V_dn m d a k j)
  blk_simp [iblk]
  refine congrArg (V m d main_v6) ?_
  funext a
  refine Fin.ext ?_
  fin_cases a <;> blk_simp [i10] <;> simp

end Post

end
-- ==== Proof.Post.Final.lean ====
/- The second call's result as an array. -/
module

public import proofs.«01_k».proof.Proof.Post.Tile
public import proofs.«01_k».proof.Proof.Post.Blocks

@[expose] public section

set_option maxRecDepth 16384

noncomputable section

namespace Post

open Cert.Kernel2Ideal Cert.Kernel2Ideal.Gen Idealize.ShloMosaic Idealize.ShloMosaic.TcCoe Idealize.SL.Sem
open Cert.Kernel2Ideal.Facts

/-! ## What is loaded of a block for the half at token `o` of the tile -/

theorem ld_fm (w : Vec Ideal S1x512x512 .bf16) (o : ℕ) (h) (s : Fin 256) (c : Fin 512) (ho : o + 256 ≤ 512) :
    View.ld w (Rect.unit (s := S1x512x512) ![0, o, 0] S1x256x512.size h) (ix3 0 s c) = w (ix3 0 ⟨o + s.val, by omega⟩ c) := by
  refine congrArg w (funext fun a => Fin.ext ?_)
  fin_cases a
  · rfl
  · show o + 1 * s.val = o + s.val
    omega
  · show 0 + 1 * c.val = c.val
    omega

theorem ld_att (w : Vec Ideal S1x512x512 .bf16) (o : ℕ) (h) (c : Fin 512) (s : Fin 256) (ho : o + 256 ≤ 512) :
    View.ld w (Rect.unit (s := S1x512x512) ![0, 0, o] S1x512x256.size h) (ix3 0 c s) = w (ix3 0 c ⟨o + s.val, by omega⟩) := by
  refine congrArg w (funext fun a => Fin.ext ?_)
  fin_cases a
  · rfl
  · show 0 + 1 * c.val = c.val
    omega
  · show o + 1 * s.val = o + s.val
    omega

theorem ld_g (w : Vec Ideal S1x512x2048 .bf16) (o : ℕ) (h) (s : Fin 256) (c : Fin 2048) (ho : o + 256 ≤ 512) :
    View.ld w (Rect.unit (s := S1x512x2048) ![0, o, 0] S1x256x2048.size h) (ix3 0 s c) = w (ix3 0 ⟨o + s.val, by omega⟩ c) := by
  refine congrArg w (funext fun a => Fin.ext ?_)
  fin_cases a
  · rfl
  · show o + 1 * s.val = o + s.val
    omega
  · show 0 + 1 * c.val = c.val
    omega

theorem ld_x (w : Vec Ideal S1x512x1024 .f32) (o : ℕ) (h) (s : Fin 256) (c : Fin 1024) (ho : o + 256 ≤ 512) :
    View.ld w (Rect.unit (s := S1x512x1024) ![0, o, 0] S1x256x1024.size h) (ix3 0 s c) = w (ix3 0 ⟨o + s.val, by omega⟩ c) := by
  refine congrArg w (funext fun a => Fin.ext ?_)
  fin_cases a
  · rfl
  · show o + 1 * s.val = o + s.val
    omega
  · show 0 + 1 * c.val = c.val
    omega

theorem ld_row (w : Vec Ideal S8x6144 .f32) (t : Fin cfg0.N) (k : Fin 6144) :
    View.ld w (rowR (grid0.coords t)) (ix2 0 k) = w (ix2 ⟨(tb t).val, by omega⟩ k) := by
  refine congrArg w (funext fun a => Fin.ext ?_)
  have h0 : k0_off1 (grid0.coords t) 0 = t.val / 8 := congrFun (off1 t) 0
  have h1 : k0_off1 (grid0.coords t) 1 = 0 := congrFun (off1 t) 1
  fin_cases a
  · show k0_off1 (grid0.coords t) 0 + 1 * 0 = t.val / 8
    omega
  · show k0_off1 (grid0.coords t) 1 + 1 * k.val = k.val
    omega

variable (m : (ℓ : Loc nD τ sig) → Buf (Elt Ideal) ℓ) (d : Dev nD)

/-- The half of grid point `t` whose tokens start at `o` of the tile, at an index. -/
theorem half_pt (t : Fin cfg0.N) (o : ℕ) (ho : o + 256 ≤ 512) (h0 h1 h2 h3) (s : Fin 256) (j : Fin 1024) :
    half (View.ld (iblk m d 4 t) (rowR (grid0.coords t)))
        (View.ld (iblk m d 0 t) (Rect.unit (s := S1x512x512) ![0, o, 0] S1x256x512.size h0))
        (View.ld (iblk m d 1 t) (Rect.unit (s := S1x512x512) ![0, 0, o] S1x512x256.size h1))
        (View.ld (iblk m d 2 t) (Rect.unit (s := S1x512x2048) ![0, o, 0] S1x256x2048.size h2))
        (View.ld (iblk m d 3 t) (Rect.unit (s := S1x512x1024) ![0, o, 0] S1x256x1024.size h3))
        (iblk m d 5 t) (iblk m d 6 t) (iblk m d 7 t) (iblk m d 8 t) (iblk m d 9 t) (iblk m d 10 t) (ix3 0 s j) =
      Ref.post (afm m d) (aatt m d) (ag m d) (ax m d) (amo m d) (awf m d) (awa m d) (awo m d) (an m d) (aup m d) (adn m d)
        (tb t) (tok t ⟨o + s.val, by omega⟩) j :=
  half_at _ _ _ _ _ _ _ _ _ _ _ s j (afm m d) (aatt m d) (ag m d) (ax m d) (amo m d) (awf m d) (awa m d) (awo m d) (an m d)
    (aup m d) (adn m d) (tb t) (tok t ⟨o + s.val, by omega⟩)
    (fun k => (ld_row _ t k).trans (blk_mo m d t _ k)) (fun c => (ld_fm _ o _ s c ho).trans (blk_fm m d t _ c))
    (fun c => (ld_att _ o _ c s ho).trans (blk_att m d t c _)) (fun k => (ld_g _ o _ s k ho).trans (blk_g m d t _ k))
    (fun k => (ld_x _ o _ s k ho).trans (blk_x m d t _ k)) (blk_wf m d t) (blk_wa m d t) (blk_wo m d t) (blk_n m d t)
    (blk_up m d t) (blk_dn m d t)

/-- THE RESULT is the reference's array. -/
theorem final : (dats m 0 d).arrAt 11 cfg0.N = Ref.postA (afm m d) (aatt m d) (ag m d) (ax m d) (amo m d) (awf m d) (awa m d)
    (awo m d) (an m d) (aup m d) (adn m d) := by
  refine (dats m 0 d).arrAt_eq_of_covers 11 _ (by decide +kernel) fun t hf y => ?_
  blk_simp
  rw [after0_11]
  unfold outsAt0
  rw [out_eq]
  idx_vars y
  have ht : t.val < 32 := lt_of_lt_of_eq t.isLt N_0
  have h0 : y0 = 0 := by omega
  subst h0
  have e : (win0_11.blk t).view.emb (ix3 0 y1 y2) = ix3 (tb t) (tok t y1) y2 := by
    funext a
    refine Fin.ext ?_
    fin_cases a <;> blk_simp [i11] <;> simp [tb, tok]
  rw [e, Ref.postA_at]
  canon_tiles z h
  · idx_vars z
    have hz : z0 = 0 := by omega
    subst hz
    refine (half_pt m d t 256 (by omega) _ _ _ _ z1 z2).trans ?_
    rw [show (⟨256 + z1.val, by omega⟩ : Fin 512) = y1 from Fin.ext h1.symm, show z2 = y2 from Fin.ext h2.symm]
  · idx_vars z
    have hz : z0 = 0 := by omega
    subst hz
    refine (half_pt m d t 0 (by omega) _ _ _ _ z1 z2).trans ?_
    rw [show (⟨0 + z1.val, by omega⟩ : Fin 512) = y1 from Fin.ext ((Nat.zero_add _).trans h1.symm), show z2 = y2 from Fin.ext h2.symm]

end Post

end
-- ==== Proof.Post.Claim.lean ====
/- The last call's claims: the frames, and the value claim against the plain reference. -/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Post.Final
public import Idealize.ShloMosaic.Adequacy
public import Idealize.ShloMosaic.Init
public import Idealize.ShloMosaic.Lib.Quiescent

@[expose] public section

set_option maxRecDepth 16384

noncomputable section

namespace Post

open Idealize.ShloMosaic Idealize.ShloMosaic.TcCoe Idealize.SL.Sem

theorem frame_k : Cert.quiescent_Kernel2 := fun m ρ _ => Cert.Kernel2.Gen.frame m ρ
theorem frame_ki : Cert.quiescent_Kernel2Ideal := fun m ρ _ => Cert.Kernel2Ideal.Gen.frame m ρ

/-- The reference's run read at its arguments; it has no semaphore. -/
theorem frame_ri : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The value claim: it needs nothing of the arguments. -/
theorem algebraic : Cert.algebraic_Kernel2Ideal_Reference2Ideal := by
  intro m ρ m' ρ' _ hagree
  refine ⟨fun c => Ref.postA (afm m c) (aatt m c) (ag m c) (ax m c) (amo m c) (awf m c) (awa m c) (awo m c) (an m c) (aup m c)
    (adn m c), ?_, ?_⟩
  · refine (θ_run Cert.Kernel2Ideal.defs _ _).mono (fun r h c => ?_) (Cert.Kernel2Ideal.Value.run_blocks (F := Ideal) m ρ)
    exact ⟨(h c).1.trans (final m c), (h c).2⟩
  · refine (θ_run Cert.Reference2Ideal.defs _ _).mono (fun r h c => ?_) (Cert.Reference2Ideal.Value.run (F := Ideal) m' ρ')
    obtain ⟨a0, a1, a2, a3, a4, a5, a6, a7, a8, a9, a10⟩ := hagree c
    have h0 := (h c).1.trans (Ref.res_eq m' c)
    rw [a0, a1, a2, a3, a4, a5, a6, a7, a8, a9, a10] at h0
    exact ⟨h0, (h c).2⟩

end Post

end
-- ==== Proof.Proj.RunKI.lean ====
/- The run of the third call's idealized program and its frame: what every output block holds point by point, the body's
   obligation at every point, and the launch. The text is the generated module's with more steps allowed to the obligation. -/
module

public import proofs.«01_k».proof.Proof.Gen.Kernel3Ideal.Frame.RunA
public import Idealize.ShloMosaic.Lib.Claim

@[expose] public section

-- membership in a rectangle of production extents (`View.cover_of_tiled`): the elaborator's structural look
-- recurses once per coordinate of the long axes
set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 19 tile its block (32 stores of `S1x1x256x128`, checked by the kernel's evaluation: Lib/Ring.lean `Piece.tiledL`, linear in the pieces, through a loop's `@[irreducible]` trip theorem too), so they cover it. -/
theorem cover0_A_19 (c : Dev nD) (i : grid0.Coords) (arg2 : Memref sig .tc .vmem S1x1024x1024 .f32) (harg2 : arg2.IsWhole) (arg3 : Memref sig .tc .vmem S8x6144 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S128x256 .bf16) (harg6 : arg6.IsWhole) (arg7 : Memref sig .tc .vmem S8x1024x256 .bf16) (harg7 : arg7.IsWhole) (arg8 : Memref sig .tc .vmem S1x2048 .f32) (harg8 : arg8.IsWhole) (arg9 : Memref sig .tc .vmem S1024x256 .bf16) (harg9 : arg9.IsWhole) (arg10 : Memref sig .tc .vmem S1x256 .f32) (harg10 : arg10.IsWhole) (arg11 : Memref sig .tc .vmem S768x256 .bf16) (harg11 : arg11.IsWhole) (arg12 : Memref sig .tc .vmem S96x128 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S512x128 .bf16) (harg15 : arg15.IsWhole) (arg16 : Memref sig .tc .vmem S512x128 .bf16) (harg16 : arg16.IsWhole) (arg17 : Memref sig .tc .vmem S64x128 .f32) (harg17 : arg17.IsWhole) (arg18 : Memref sig .tc .vmem S32x128 .f32) (harg18 : arg18.IsWhole) (arg19 : Memref sig .tc .vmem S32x1024 .f32) (harg19 : arg19.IsWhole) (arg20 : Memref sig .tc .vmem S32x1024 .f32) (harg20 : arg20.IsWhole) (arg21 : Memref sig .tc .vmem S1x2x1024x512 .bf16) (harg21 : arg21.IsWhole) (arg22 : Memref sig .tc .vmem S1x1024x2048 .bf16) (harg22 : arg22.IsWhole) (arg23 : Memref sig .tc .vmem S1x8x128x1024 .bf16) (harg23 : arg23.IsWhole) (arg24 : Memref sig .tc .vmem S1x8x1024x128 .bf16) (harg24 : arg24.IsWhole) (arg25 : Memref sig .tc .vmem S1x8x80x1024 .bf16) (harg25 : arg25.IsWhole)
    (x0 : Vec F S1x1024x1024 .f32) (x1 : Vec F S8x6144 .f32) (x2 : Vec F S1x1024 .f32) (x3 : Vec F S1024x512 .bf16) (x4 : Vec F S128x256 .bf16) (x5 : Vec F S8x1024x256 .bf16) (x6 : Vec F S1x2048 .f32) (x7 : Vec F S1024x256 .bf16) (x8 : Vec F S1x256 .f32) (x9 : Vec F S768x256 .bf16) (x10 : Vec F S96x128 .f32) (x11 : Vec F S1024x256 .bf16) (x12 : Vec F S1x128 .f32) (x13 : Vec F S512x128 .bf16) (x14 : Vec F S512x128 .bf16) (x15 : Vec F S64x128 .f32) (x16 : Vec F S32x128 .f32) (x17 : Vec F S32x1024 .f32) (x18 : Vec F S32x1024 .f32) (y : S1x2x1024x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).1 S1x1x256x128.size (by sl_kernel_rfl) y

/-- What the run leaves in output 19's staging buffer: its pieces read back over junk. -/
def out0_A_19 (c : Dev nD) (i : grid0.Coords) (arg2 : Memref sig .tc .vmem S1x1024x1024 .f32) (harg2 : arg2.IsWhole) (arg3 : Memref sig .tc .vmem S8x6144 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S128x256 .bf16) (harg6 : arg6.IsWhole) (arg7 : Memref sig .tc .vmem S8x1024x256 .bf16) (harg7 : arg7.IsWhole) (arg8 : Memref sig .tc .vmem S1x2048 .f32) (harg8 : arg8.IsWhole) (arg9 : Memref sig .tc .vmem S1024x256 .bf16) (harg9 : arg9.IsWhole) (arg10 : Memref sig .tc .vmem S1x256 .f32) (harg10 : arg10.IsWhole) (arg11 : Memref sig .tc .vmem S768x256 .bf16) (harg11 : arg11.IsWhole) (arg12 : Memref sig .tc .vmem S96x128 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S512x128 .bf16) (harg15 : arg15.IsWhole) (arg16 : Memref sig .tc .vmem S512x128 .bf16) (harg16 : arg16.IsWhole) (arg17 : Memref sig .tc .vmem S64x128 .f32) (harg17 : arg17.IsWhole) (arg18 : Memref sig .tc .vmem S32x128 .f32) (harg18 : arg18.IsWhole) (arg19 : Memref sig .tc .vmem S32x1024 .f32) (harg19 : arg19.IsWhole) (arg20 : Memref sig .tc .vmem S32x1024 .f32) (harg20 : arg20.IsWhole) (arg21 : Memref sig .tc .vmem S1x2x1024x512 .bf16) (harg21 : arg21.IsWhole) (arg22 : Memref sig .tc .vmem S1x1024x2048 .bf16) (harg22 : arg22.IsWhole) (arg23 : Memref sig .tc .vmem S1x8x128x1024 .bf16) (harg23 : arg23.IsWhole) (arg24 : Memref sig .tc .vmem S1x8x1024x128 .bf16) (harg24 : arg24.IsWhole) (arg25 : Memref sig .tc .vmem S1x8x80x1024 .bf16) (harg25 : arg25.IsWhole)
    (x0 : Vec F S1x1024x1024 .f32) (x1 : Vec F S8x6144 .f32) (x2 : Vec F S1x1024 .f32) (x3 : Vec F S1024x512 .bf16) (x4 : Vec F S128x256 .bf16) (x5 : Vec F S8x1024x256 .bf16) (x6 : Vec F S1x2048 .f32) (x7 : Vec F S1024x256 .bf16) (x8 : Vec F S1x256 .f32) (x9 : Vec F S768x256 .bf16) (x10 : Vec F S96x128 .f32) (x11 : Vec F S1024x256 .bf16) (x12 : Vec F S1x128 .f32) (x13 : Vec F S512x128 .bf16) (x14 : Vec F S512x128 .bf16) (x15 : Vec F S64x128 .f32) (x16 : Vec F S32x128 .f32) (x17 : Vec F S32x1024 .f32) (x18 : Vec F S32x1024 .f32) : Vec F S1x2x1024x512 .bf16 :=
  VO0_19.read (Elt F) (VO0_19.writes (Elt F) VO0_19.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).1)

/-- The run's pieces for output 20 tile its block (32 stores of `S1x256x256`, checked by the kernel's evaluation: Lib/Ring.lean `Piece.tiledL`, linear in the pieces, through a loop's `@[irreducible]` trip theorem too), so they cover it. -/
theorem cover0_A_20 (c : Dev nD) (i : grid0.Coords) (arg2 : Memref sig .tc .vmem S1x1024x1024 .f32) (harg2 : arg2.IsWhole) (arg3 : Memref sig .tc .vmem S8x6144 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S128x256 .bf16) (harg6 : arg6.IsWhole) (arg7 : Memref sig .tc .vmem S8x1024x256 .bf16) (harg7 : arg7.IsWhole) (arg8 : Memref sig .tc .vmem S1x2048 .f32) (harg8 : arg8.IsWhole) (arg9 : Memref sig .tc .vmem S1024x256 .bf16) (harg9 : arg9.IsWhole) (arg10 : Memref sig .tc .vmem S1x256 .f32) (harg10 : arg10.IsWhole) (arg11 : Memref sig .tc .vmem S768x256 .bf16) (harg11 : arg11.IsWhole) (arg12 : Memref sig .tc .vmem S96x128 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S512x128 .bf16) (harg15 : arg15.IsWhole) (arg16 : Memref sig .tc .vmem S512x128 .bf16) (harg16 : arg16.IsWhole) (arg17 : Memref sig .tc .vmem S64x128 .f32) (harg17 : arg17.IsWhole) (arg18 : Memref sig .tc .vmem S32x128 .f32) (harg18 : arg18.IsWhole) (arg19 : Memref sig .tc .vmem S32x1024 .f32) (harg19 : arg19.IsWhole) (arg20 : Memref sig .tc .vmem S32x1024 .f32) (harg20 : arg20.IsWhole) (arg21 : Memref sig .tc .vmem S1x2x1024x512 .bf16) (harg21 : arg21.IsWhole) (arg22 : Memref sig .tc .vmem S1x1024x2048 .bf16) (harg22 : arg22.IsWhole) (arg23 : Memref sig .tc .vmem S1x8x128x1024 .bf16) (harg23 : arg23.IsWhole) (arg24 : Memref sig .tc .vmem S1x8x1024x128 .bf16) (harg24 : arg24.IsWhole) (arg25 : Memref sig .tc .vmem S1x8x80x1024 .bf16) (harg25 : arg25.IsWhole)
    (x0 : Vec F S1x1024x1024 .f32) (x1 : Vec F S8x6144 .f32) (x2 : Vec F S1x1024 .f32) (x3 : Vec F S1024x512 .bf16) (x4 : Vec F S128x256 .bf16) (x5 : Vec F S8x1024x256 .bf16) (x6 : Vec F S1x2048 .f32) (x7 : Vec F S1024x256 .bf16) (x8 : Vec F S1x256 .f32) (x9 : Vec F S768x256 .bf16) (x10 : Vec F S96x128 .f32) (x11 : Vec F S1024x256 .bf16) (x12 : Vec F S1x128 .f32) (x13 : Vec F S512x128 .bf16) (x14 : Vec F S512x128 .bf16) (x15 : Vec F S64x128 .f32) (x16 : Vec F S32x128 .f32) (x17 : Vec F S32x1024 .f32) (x18 : Vec F S32x1024 .f32) (y : S1x1024x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).2.1 S1x256x256.size (by sl_kernel_rfl) y

/-- What the run leaves in output 20's staging buffer: its pieces read back over junk. -/
def out0_A_20 (c : Dev nD) (i : grid0.Coords) (arg2 : Memref sig .tc .vmem S1x1024x1024 .f32) (harg2 : arg2.IsWhole) (arg3 : Memref sig .tc .vmem S8x6144 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S128x256 .bf16) (harg6 : arg6.IsWhole) (arg7 : Memref sig .tc .vmem S8x1024x256 .bf16) (harg7 : arg7.IsWhole) (arg8 : Memref sig .tc .vmem S1x2048 .f32) (harg8 : arg8.IsWhole) (arg9 : Memref sig .tc .vmem S1024x256 .bf16) (harg9 : arg9.IsWhole) (arg10 : Memref sig .tc .vmem S1x256 .f32) (harg10 : arg10.IsWhole) (arg11 : Memref sig .tc .vmem S768x256 .bf16) (harg11 : arg11.IsWhole) (arg12 : Memref sig .tc .vmem S96x128 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S512x128 .bf16) (harg15 : arg15.IsWhole) (arg16 : Memref sig .tc .vmem S512x128 .bf16) (harg16 : arg16.IsWhole) (arg17 : Memref sig .tc .vmem S64x128 .f32) (harg17 : arg17.IsWhole) (arg18 : Memref sig .tc .vmem S32x128 .f32) (harg18 : arg18.IsWhole) (arg19 : Memref sig .tc .vmem S32x1024 .f32) (harg19 : arg19.IsWhole) (arg20 : Memref sig .tc .vmem S32x1024 .f32) (harg20 : arg20.IsWhole) (arg21 : Memref sig .tc .vmem S1x2x1024x512 .bf16) (harg21 : arg21.IsWhole) (arg22 : Memref sig .tc .vmem S1x1024x2048 .bf16) (harg22 : arg22.IsWhole) (arg23 : Memref sig .tc .vmem S1x8x128x1024 .bf16) (harg23 : arg23.IsWhole) (arg24 : Memref sig .tc .vmem S1x8x1024x128 .bf16) (harg24 : arg24.IsWhole) (arg25 : Memref sig .tc .vmem S1x8x80x1024 .bf16) (harg25 : arg25.IsWhole)
    (x0 : Vec F S1x1024x1024 .f32) (x1 : Vec F S8x6144 .f32) (x2 : Vec F S1x1024 .f32) (x3 : Vec F S1024x512 .bf16) (x4 : Vec F S128x256 .bf16) (x5 : Vec F S8x1024x256 .bf16) (x6 : Vec F S1x2048 .f32) (x7 : Vec F S1024x256 .bf16) (x8 : Vec F S1x256 .f32) (x9 : Vec F S768x256 .bf16) (x10 : Vec F S96x128 .f32) (x11 : Vec F S1024x256 .bf16) (x12 : Vec F S1x128 .f32) (x13 : Vec F S512x128 .bf16) (x14 : Vec F S512x128 .bf16) (x15 : Vec F S64x128 .f32) (x16 : Vec F S32x128 .f32) (x17 : Vec F S32x1024 .f32) (x18 : Vec F S32x1024 .f32) : Vec F S1x1024x2048 .bf16 :=
  VO0_20.read (Elt F) (VO0_20.writes (Elt F) VO0_20.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).2.1)

/-- The run's pieces for output 21 tile its block (32 stores of `S1x1x128x256`, checked by the kernel's evaluation: Lib/Ring.lean `Piece.tiledL`, linear in the pieces, through a loop's `@[irreducible]` trip theorem too), so they cover it. -/
theorem cover0_A_21 (c : Dev nD) (i : grid0.Coords) (arg2 : Memref sig .tc .vmem S1x1024x1024 .f32) (harg2 : arg2.IsWhole) (arg3 : Memref sig .tc .vmem S8x6144 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S128x256 .bf16) (harg6 : arg6.IsWhole) (arg7 : Memref sig .tc .vmem S8x1024x256 .bf16) (harg7 : arg7.IsWhole) (arg8 : Memref sig .tc .vmem S1x2048 .f32) (harg8 : arg8.IsWhole) (arg9 : Memref sig .tc .vmem S1024x256 .bf16) (harg9 : arg9.IsWhole) (arg10 : Memref sig .tc .vmem S1x256 .f32) (harg10 : arg10.IsWhole) (arg11 : Memref sig .tc .vmem S768x256 .bf16) (harg11 : arg11.IsWhole) (arg12 : Memref sig .tc .vmem S96x128 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S512x128 .bf16) (harg15 : arg15.IsWhole) (arg16 : Memref sig .tc .vmem S512x128 .bf16) (harg16 : arg16.IsWhole) (arg17 : Memref sig .tc .vmem S64x128 .f32) (harg17 : arg17.IsWhole) (arg18 : Memref sig .tc .vmem S32x128 .f32) (harg18 : arg18.IsWhole) (arg19 : Memref sig .tc .vmem S32x1024 .f32) (harg19 : arg19.IsWhole) (arg20 : Memref sig .tc .vmem S32x1024 .f32) (harg20 : arg20.IsWhole) (arg21 : Memref sig .tc .vmem S1x2x1024x512 .bf16) (harg21 : arg21.IsWhole) (arg22 : Memref sig .tc .vmem S1x1024x2048 .bf16) (harg22 : arg22.IsWhole) (arg23 : Memref sig .tc .vmem S1x8x128x1024 .bf16) (harg23 : arg23.IsWhole) (arg24 : Memref sig .tc .vmem S1x8x1024x128 .bf16) (harg24 : arg24.IsWhole) (arg25 : Memref sig .tc .vmem S1x8x80x1024 .bf16) (harg25 : arg25.IsWhole)
    (x0 : Vec F S1x1024x1024 .f32) (x1 : Vec F S8x6144 .f32) (x2 : Vec F S1x1024 .f32) (x3 : Vec F S1024x512 .bf16) (x4 : Vec F S128x256 .bf16) (x5 : Vec F S8x1024x256 .bf16) (x6 : Vec F S1x2048 .f32) (x7 : Vec F S1024x256 .bf16) (x8 : Vec F S1x256 .f32) (x9 : Vec F S768x256 .bf16) (x10 : Vec F S96x128 .f32) (x11 : Vec F S1024x256 .bf16) (x12 : Vec F S1x128 .f32) (x13 : Vec F S512x128 .bf16) (x14 : Vec F S512x128 .bf16) (x15 : Vec F S64x128 .f32) (x16 : Vec F S32x128 .f32) (x17 : Vec F S32x1024 .f32) (x18 : Vec F S32x1024 .f32) (y : S1x8x128x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).2.2.1 S1x1x128x256.size (by sl_kernel_rfl) y

/-- What the run leaves in output 21's staging buffer: its pieces read back over junk. -/
def out0_A_21 (c : Dev nD) (i : grid0.Coords) (arg2 : Memref sig .tc .vmem S1x1024x1024 .f32) (harg2 : arg2.IsWhole) (arg3 : Memref sig .tc .vmem S8x6144 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S128x256 .bf16) (harg6 : arg6.IsWhole) (arg7 : Memref sig .tc .vmem S8x1024x256 .bf16) (harg7 : arg7.IsWhole) (arg8 : Memref sig .tc .vmem S1x2048 .f32) (harg8 : arg8.IsWhole) (arg9 : Memref sig .tc .vmem S1024x256 .bf16) (harg9 : arg9.IsWhole) (arg10 : Memref sig .tc .vmem S1x256 .f32) (harg10 : arg10.IsWhole) (arg11 : Memref sig .tc .vmem S768x256 .bf16) (harg11 : arg11.IsWhole) (arg12 : Memref sig .tc .vmem S96x128 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S512x128 .bf16) (harg15 : arg15.IsWhole) (arg16 : Memref sig .tc .vmem S512x128 .bf16) (harg16 : arg16.IsWhole) (arg17 : Memref sig .tc .vmem S64x128 .f32) (harg17 : arg17.IsWhole) (arg18 : Memref sig .tc .vmem S32x128 .f32) (harg18 : arg18.IsWhole) (arg19 : Memref sig .tc .vmem S32x1024 .f32) (harg19 : arg19.IsWhole) (arg20 : Memref sig .tc .vmem S32x1024 .f32) (harg20 : arg20.IsWhole) (arg21 : Memref sig .tc .vmem S1x2x1024x512 .bf16) (harg21 : arg21.IsWhole) (arg22 : Memref sig .tc .vmem S1x1024x2048 .bf16) (harg22 : arg22.IsWhole) (arg23 : Memref sig .tc .vmem S1x8x128x1024 .bf16) (harg23 : arg23.IsWhole) (arg24 : Memref sig .tc .vmem S1x8x1024x128 .bf16) (harg24 : arg24.IsWhole) (arg25 : Memref sig .tc .vmem S1x8x80x1024 .bf16) (harg25 : arg25.IsWhole)
    (x0 : Vec F S1x1024x1024 .f32) (x1 : Vec F S8x6144 .f32) (x2 : Vec F S1x1024 .f32) (x3 : Vec F S1024x512 .bf16) (x4 : Vec F S128x256 .bf16) (x5 : Vec F S8x1024x256 .bf16) (x6 : Vec F S1x2048 .f32) (x7 : Vec F S1024x256 .bf16) (x8 : Vec F S1x256 .f32) (x9 : Vec F S768x256 .bf16) (x10 : Vec F S96x128 .f32) (x11 : Vec F S1024x256 .bf16) (x12 : Vec F S1x128 .f32) (x13 : Vec F S512x128 .bf16) (x14 : Vec F S512x128 .bf16) (x15 : Vec F S64x128 .f32) (x16 : Vec F S32x128 .f32) (x17 : Vec F S32x1024 .f32) (x18 : Vec F S32x1024 .f32) : Vec F S1x8x128x1024 .bf16 :=
  VO0_21.read (Elt F) (VO0_21.writes (Elt F) VO0_21.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).2.2.1)

/-- The run's pieces for output 22 tile its block (32 stores of `S1x1x256x128`, checked by the kernel's evaluation: Lib/Ring.lean `Piece.tiledL`, linear in the pieces, through a loop's `@[irreducible]` trip theorem too), so they cover it. -/
theorem cover0_A_22 (c : Dev nD) (i : grid0.Coords) (arg2 : Memref sig .tc .vmem S1x1024x1024 .f32) (harg2 : arg2.IsWhole) (arg3 : Memref sig .tc .vmem S8x6144 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S128x256 .bf16) (harg6 : arg6.IsWhole) (arg7 : Memref sig .tc .vmem S8x1024x256 .bf16) (harg7 : arg7.IsWhole) (arg8 : Memref sig .tc .vmem S1x2048 .f32) (harg8 : arg8.IsWhole) (arg9 : Memref sig .tc .vmem S1024x256 .bf16) (harg9 : arg9.IsWhole) (arg10 : Memref sig .tc .vmem S1x256 .f32) (harg10 : arg10.IsWhole) (arg11 : Memref sig .tc .vmem S768x256 .bf16) (harg11 : arg11.IsWhole) (arg12 : Memref sig .tc .vmem S96x128 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S512x128 .bf16) (harg15 : arg15.IsWhole) (arg16 : Memref sig .tc .vmem S512x128 .bf16) (harg16 : arg16.IsWhole) (arg17 : Memref sig .tc .vmem S64x128 .f32) (harg17 : arg17.IsWhole) (arg18 : Memref sig .tc .vmem S32x128 .f32) (harg18 : arg18.IsWhole) (arg19 : Memref sig .tc .vmem S32x1024 .f32) (harg19 : arg19.IsWhole) (arg20 : Memref sig .tc .vmem S32x1024 .f32) (harg20 : arg20.IsWhole) (arg21 : Memref sig .tc .vmem S1x2x1024x512 .bf16) (harg21 : arg21.IsWhole) (arg22 : Memref sig .tc .vmem S1x1024x2048 .bf16) (harg22 : arg22.IsWhole) (arg23 : Memref sig .tc .vmem S1x8x128x1024 .bf16) (harg23 : arg23.IsWhole) (arg24 : Memref sig .tc .vmem S1x8x1024x128 .bf16) (harg24 : arg24.IsWhole) (arg25 : Memref sig .tc .vmem S1x8x80x1024 .bf16) (harg25 : arg25.IsWhole)
    (x0 : Vec F S1x1024x1024 .f32) (x1 : Vec F S8x6144 .f32) (x2 : Vec F S1x1024 .f32) (x3 : Vec F S1024x512 .bf16) (x4 : Vec F S128x256 .bf16) (x5 : Vec F S8x1024x256 .bf16) (x6 : Vec F S1x2048 .f32) (x7 : Vec F S1024x256 .bf16) (x8 : Vec F S1x256 .f32) (x9 : Vec F S768x256 .bf16) (x10 : Vec F S96x128 .f32) (x11 : Vec F S1024x256 .bf16) (x12 : Vec F S1x128 .f32) (x13 : Vec F S512x128 .bf16) (x14 : Vec F S512x128 .bf16) (x15 : Vec F S64x128 .f32) (x16 : Vec F S32x128 .f32) (x17 : Vec F S32x1024 .f32) (x18 : Vec F S32x1024 .f32) (y : S1x8x1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).2.2.2.1 S1x1x256x128.size (by sl_kernel_rfl) y

/-- What the run leaves in output 22's staging buffer: its pieces read back over junk. -/
def out0_A_22 (c : Dev nD) (i : grid0.Coords) (arg2 : Memref sig .tc .vmem S1x1024x1024 .f32) (harg2 : arg2.IsWhole) (arg3 : Memref sig .tc .vmem S8x6144 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S128x256 .bf16) (harg6 : arg6.IsWhole) (arg7 : Memref sig .tc .vmem S8x1024x256 .bf16) (harg7 : arg7.IsWhole) (arg8 : Memref sig .tc .vmem S1x2048 .f32) (harg8 : arg8.IsWhole) (arg9 : Memref sig .tc .vmem S1024x256 .bf16) (harg9 : arg9.IsWhole) (arg10 : Memref sig .tc .vmem S1x256 .f32) (harg10 : arg10.IsWhole) (arg11 : Memref sig .tc .vmem S768x256 .bf16) (harg11 : arg11.IsWhole) (arg12 : Memref sig .tc .vmem S96x128 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S512x128 .bf16) (harg15 : arg15.IsWhole) (arg16 : Memref sig .tc .vmem S512x128 .bf16) (harg16 : arg16.IsWhole) (arg17 : Memref sig .tc .vmem S64x128 .f32) (harg17 : arg17.IsWhole) (arg18 : Memref sig .tc .vmem S32x128 .f32) (harg18 : arg18.IsWhole) (arg19 : Memref sig .tc .vmem S32x1024 .f32) (harg19 : arg19.IsWhole) (arg20 : Memref sig .tc .vmem S32x1024 .f32) (harg20 : arg20.IsWhole) (arg21 : Memref sig .tc .vmem S1x2x1024x512 .bf16) (harg21 : arg21.IsWhole) (arg22 : Memref sig .tc .vmem S1x1024x2048 .bf16) (harg22 : arg22.IsWhole) (arg23 : Memref sig .tc .vmem S1x8x128x1024 .bf16) (harg23 : arg23.IsWhole) (arg24 : Memref sig .tc .vmem S1x8x1024x128 .bf16) (harg24 : arg24.IsWhole) (arg25 : Memref sig .tc .vmem S1x8x80x1024 .bf16) (harg25 : arg25.IsWhole)
    (x0 : Vec F S1x1024x1024 .f32) (x1 : Vec F S8x6144 .f32) (x2 : Vec F S1x1024 .f32) (x3 : Vec F S1024x512 .bf16) (x4 : Vec F S128x256 .bf16) (x5 : Vec F S8x1024x256 .bf16) (x6 : Vec F S1x2048 .f32) (x7 : Vec F S1024x256 .bf16) (x8 : Vec F S1x256 .f32) (x9 : Vec F S768x256 .bf16) (x10 : Vec F S96x128 .f32) (x11 : Vec F S1024x256 .bf16) (x12 : Vec F S1x128 .f32) (x13 : Vec F S512x128 .bf16) (x14 : Vec F S512x128 .bf16) (x15 : Vec F S64x128 .f32) (x16 : Vec F S32x128 .f32) (x17 : Vec F S32x1024 .f32) (x18 : Vec F S32x1024 .f32) : Vec F S1x8x1024x128 .bf16 :=
  VO0_22.read (Elt F) (VO0_22.writes (Elt F) VO0_22.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).2.2.2.1)

/-- The run's pieces for output 23 tile its block (32 stores of `S1x1x80x256`, checked by the kernel's evaluation: Lib/Ring.lean `Piece.tiledL`, linear in the pieces, through a loop's `@[irreducible]` trip theorem too), so they cover it. -/
theorem cover0_A_23 (c : Dev nD) (i : grid0.Coords) (arg2 : Memref sig .tc .vmem S1x1024x1024 .f32) (harg2 : arg2.IsWhole) (arg3 : Memref sig .tc .vmem S8x6144 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S128x256 .bf16) (harg6 : arg6.IsWhole) (arg7 : Memref sig .tc .vmem S8x1024x256 .bf16) (harg7 : arg7.IsWhole) (arg8 : Memref sig .tc .vmem S1x2048 .f32) (harg8 : arg8.IsWhole) (arg9 : Memref sig .tc .vmem S1024x256 .bf16) (harg9 : arg9.IsWhole) (arg10 : Memref sig .tc .vmem S1x256 .f32) (harg10 : arg10.IsWhole) (arg11 : Memref sig .tc .vmem S768x256 .bf16) (harg11 : arg11.IsWhole) (arg12 : Memref sig .tc .vmem S96x128 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S512x128 .bf16) (harg15 : arg15.IsWhole) (arg16 : Memref sig .tc .vmem S512x128 .bf16) (harg16 : arg16.IsWhole) (arg17 : Memref sig .tc .vmem S64x128 .f32) (harg17 : arg17.IsWhole) (arg18 : Memref sig .tc .vmem S32x128 .f32) (harg18 : arg18.IsWhole) (arg19 : Memref sig .tc .vmem S32x1024 .f32) (harg19 : arg19.IsWhole) (arg20 : Memref sig .tc .vmem S32x1024 .f32) (harg20 : arg20.IsWhole) (arg21 : Memref sig .tc .vmem S1x2x1024x512 .bf16) (harg21 : arg21.IsWhole) (arg22 : Memref sig .tc .vmem S1x1024x2048 .bf16) (harg22 : arg22.IsWhole) (arg23 : Memref sig .tc .vmem S1x8x128x1024 .bf16) (harg23 : arg23.IsWhole) (arg24 : Memref sig .tc .vmem S1x8x1024x128 .bf16) (harg24 : arg24.IsWhole) (arg25 : Memref sig .tc .vmem S1x8x80x1024 .bf16) (harg25 : arg25.IsWhole)
    (x0 : Vec F S1x1024x1024 .f32) (x1 : Vec F S8x6144 .f32) (x2 : Vec F S1x1024 .f32) (x3 : Vec F S1024x512 .bf16) (x4 : Vec F S128x256 .bf16) (x5 : Vec F S8x1024x256 .bf16) (x6 : Vec F S1x2048 .f32) (x7 : Vec F S1024x256 .bf16) (x8 : Vec F S1x256 .f32) (x9 : Vec F S768x256 .bf16) (x10 : Vec F S96x128 .f32) (x11 : Vec F S1024x256 .bf16) (x12 : Vec F S1x128 .f32) (x13 : Vec F S512x128 .bf16) (x14 : Vec F S512x128 .bf16) (x15 : Vec F S64x128 .f32) (x16 : Vec F S32x128 .f32) (x17 : Vec F S32x1024 .f32) (x18 : Vec F S32x1024 .f32) (y : S1x8x80x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).2.2.2.2.1 S1x1x80x256.size (by sl_kernel_rfl) y

/-- What the run leaves in output 23's staging buffer: its pieces read back over junk. -/
def out0_A_23 (c : Dev nD) (i : grid0.Coords) (arg2 : Memref sig .tc .vmem S1x1024x1024 .f32) (harg2 : arg2.IsWhole) (arg3 : Memref sig .tc .vmem S8x6144 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S128x256 .bf16) (harg6 : arg6.IsWhole) (arg7 : Memref sig .tc .vmem S8x1024x256 .bf16) (harg7 : arg7.IsWhole) (arg8 : Memref sig .tc .vmem S1x2048 .f32) (harg8 : arg8.IsWhole) (arg9 : Memref sig .tc .vmem S1024x256 .bf16) (harg9 : arg9.IsWhole) (arg10 : Memref sig .tc .vmem S1x256 .f32) (harg10 : arg10.IsWhole) (arg11 : Memref sig .tc .vmem S768x256 .bf16) (harg11 : arg11.IsWhole) (arg12 : Memref sig .tc .vmem S96x128 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S512x128 .bf16) (harg15 : arg15.IsWhole) (arg16 : Memref sig .tc .vmem S512x128 .bf16) (harg16 : arg16.IsWhole) (arg17 : Memref sig .tc .vmem S64x128 .f32) (harg17 : arg17.IsWhole) (arg18 : Memref sig .tc .vmem S32x128 .f32) (harg18 : arg18.IsWhole) (arg19 : Memref sig .tc .vmem S32x1024 .f32) (harg19 : arg19.IsWhole) (arg20 : Memref sig .tc .vmem S32x1024 .f32) (harg20 : arg20.IsWhole) (arg21 : Memref sig .tc .vmem S1x2x1024x512 .bf16) (harg21 : arg21.IsWhole) (arg22 : Memref sig .tc .vmem S1x1024x2048 .bf16) (harg22 : arg22.IsWhole) (arg23 : Memref sig .tc .vmem S1x8x128x1024 .bf16) (harg23 : arg23.IsWhole) (arg24 : Memref sig .tc .vmem S1x8x1024x128 .bf16) (harg24 : arg24.IsWhole) (arg25 : Memref sig .tc .vmem S1x8x80x1024 .bf16) (harg25 : arg25.IsWhole)
    (x0 : Vec F S1x1024x1024 .f32) (x1 : Vec F S8x6144 .f32) (x2 : Vec F S1x1024 .f32) (x3 : Vec F S1024x512 .bf16) (x4 : Vec F S128x256 .bf16) (x5 : Vec F S8x1024x256 .bf16) (x6 : Vec F S1x2048 .f32) (x7 : Vec F S1024x256 .bf16) (x8 : Vec F S1x256 .f32) (x9 : Vec F S768x256 .bf16) (x10 : Vec F S96x128 .f32) (x11 : Vec F S1024x256 .bf16) (x12 : Vec F S1x128 .f32) (x13 : Vec F S512x128 .bf16) (x14 : Vec F S512x128 .bf16) (x15 : Vec F S64x128 .f32) (x16 : Vec F S32x128 .f32) (x17 : Vec F S32x1024 .f32) (x18 : Vec F S32x1024 .f32) : Vec F S1x8x80x1024 .bf16 :=
  VO0_23.read (Elt F) (VO0_23.writes (Elt F) VO0_23.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).2.2.2.2.1)

/-! ## What the outputs hold after each point -/

/-- What the outputs' staging buffers hold after the body at point `t` (as a tuple, in window order): the run's contents at
    the point's memrefs and input blocks. -/
def outsAt0 (c : Dev nD) (t : Fin cfg0.N) : Vec F S1x2x1024x512 .bf16 × Vec F S1x1024x2048 .bf16 × Vec F S1x8x128x1024 .bf16 × Vec F S1x8x1024x128 .bf16 × Vec F S1x8x80x1024 .bf16 :=
  (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => (outsAt0 m c t).1
    | ⟨20, _⟩ => (outsAt0 m c t).2.1
    | ⟨21, _⟩ => (outsAt0 m c t).2.2.1
    | ⟨22, _⟩ => (outsAt0 m c t).2.2.2.1
    | ⟨23, _⟩ => (outsAt0 m c t).2.2.2.2
    | ⟨_ + 24, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = (outsAt0 m c t).1 := by dsimp only [dats]
theorem after0_20 (c : Dev nD) (t : Fin cfg0.N) : (dats m 0 c).after 20 t = (outsAt0 m c t).2.1 := by dsimp only [dats]
theorem after0_21 (c : Dev nD) (t : Fin cfg0.N) : (dats m 0 c).after 21 t = (outsAt0 m c t).2.2.1 := by dsimp only [dats]
theorem after0_22 (c : Dev nD) (t : Fin cfg0.N) : (dats m 0 c).after 22 t = (outsAt0 m c t).2.2.2.1 := by dsimp only [dats]
theorem after0_23 (c : Dev nD) (t : Fin cfg0.N) : (dats m 0 c).after 23 t = (outsAt0 m c t).2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t))

set_option maxHeartbeats 2400000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  unfold outsAt0
  unfold out0_A_19 out0_A_20 out0_A_21 out0_A_22 out0_A_23; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · iexists _; iexact H22
  isplitl [H23]; · iexists _; iexact H23
  iintro ⟨H0, H1, H2, H3, H4, H5, H6, H7, H8, H9, H10, H11, H12, H13, H14, H15, H16, H17, H18, ⟨%e19, H19⟩, ⟨%e20, H20⟩, ⟨%e21, H21⟩, ⟨%e22, H22⟩, ⟨%e23, H23⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H23
  ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 2400000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The frame claim at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Kernel3Ideal.Gen

end
-- ==== Proof.Proj.Ref.lean ====
/- The mathematics of the third call at one token: the projections of the normalised, modulated latent. -/
module

public import proofs.«01_k».proof.Proof.Gen.Reference3Ideal.Run
public import Idealize.ShloMosaic.Lib.Pointwise
public import Idealize.ShloMosaic.Lib.IdealHost

@[expose] public section

set_option maxRecDepth 16384

noncomputable section

namespace Proj.Ref

open Cert.Reference3Ideal Cert.Reference3Ideal.Gen Idealize.ShloMosaic Idealize.ShloMosaic.TcCoe Idealize.SL.Sem
open Cert.Reference3Ideal.Facts

/-- The number added to every mean square. -/
def eps : EReal := Ideal.ofBits .f32 0x358637BD#32

/-- A vector divided by the root of its mean square (its length's pattern is `N`), times a gain. -/
def rms {n : ℕ} (N : BitVec 32) (P g : Fin n → EReal) (j : Fin n) : EReal :=
  P j * Ideal.rsqrt (Ideal.div (∑ k, P k * P k) (Ideal.ofBits .f32 N) + eps) * g j

/-- The rotation of the last 32 of a head's 96 channels by half-turned neighbours, within the row's half and the column's. -/
def turned (a : Fin 96 → EReal) (i : Fin 32) : EReal :=
  if h : i.val < 8 then -a ⟨64 + 8 + i.val, by omega⟩
  else if h : i.val < 16 then a ⟨64 + (i.val - 8), by omega⟩
  else if h : i.val < 24 then -a ⟨64 + 8 + i.val, by omega⟩
  else a ⟨64 + (i.val - 8), by omega⟩

/-- A head's 96 channels with the last 32 turned by the position's angles, given by their cosines and sines. -/
def rope (a : Fin 96 → EReal) (co si : Fin 32 → EReal) (c : Fin 96) : EReal :=
  if h : c.val < 64 then a c
  else a c * co ⟨c.val - 64, by omega⟩ + turned a ⟨c.val - 64, by omega⟩ * si ⟨c.val - 64, by omega⟩

/-- What the queries are divided by: the root of a head's width, times the natural logarithm of 2. -/
def scale : EReal := Ideal.sqrt (Ideal.ofBits .f32 0x42C00000#32) * Ideal.log (Ideal.ofBits .f32 0x40000000#32)

/-- Chunk `a` of the modulation's six, for batch `b`. -/
def modRow (mo : FVec Ideal S8x6144 .f32) (b : Fin 4) (a : Fin 6) (j : Fin 1024) : EReal :=
  mo (ix2 ⟨b.val, by omega⟩ ⟨a.val * 1024 + j.val, by omega⟩)

/-- The latent normalised and modulated. -/
def hid (x : FVec Ideal S4x4096x1024 .f32) (mo : FVec Ideal S8x6144 .f32) (n : FVec Ideal S1x1024 .f32) (b : Fin 4) (s : Fin 4096)
    (j : Fin 1024) : EReal :=
  rms 0x44800000#32 (fun k => x (ix3 b s k)) (fun k => n (ix2 0 k)) j * (1 + modRow mo b 1 j) + modRow mo b 0 j

/-- Column `c` of the one input projection. -/
def prj (x : FVec Ideal S4x4096x1024 .f32) (mo : FVec Ideal S8x6144 .f32) (n : FVec Ideal S1x1024 .f32)
    (w : FVec Ideal S1x1024x2976 .f32) (b : Fin 4) (s : Fin 4096) (c : Fin 2976) : EReal :=
  ∑ k : Fin 1024, hid x mo n b s k * w (ix3 0 k c)

/-- The place `k` as a number of the program. -/
def num (k : ℕ) : EReal := FloatOps.sitofp (F := Ideal) .f32 (BitVec.ofNat 32 k)

/-- The eight frequencies of the angles. -/
def freq (i : Fin 8) : EReal :=
  Ideal.pow (Ideal.ofBits .f32 0x461C4000#32) (Ideal.div (-num i.val) (Ideal.ofBits .f32 0x41000000#32))

/-- Angle `i` at token `s`: its row of the 64 by 64 image for the first 16, its column for the others. -/
def ang (s : Fin 4096) (i : Fin 32) : EReal :=
  if h : i.val < 8 then num (s.val / 64) * freq ⟨i.val, h⟩
  else if h : i.val - 8 < 8 then num (s.val / 64) * freq ⟨i.val - 8, h⟩
  else if h : i.val - 8 - 8 < 8 then num (s.val % 64) * freq ⟨i.val - 8 - 8, h⟩
  else num (s.val % 64) * freq ⟨i.val - 8 - 8 - 8, by omega⟩

/-- The angle of the transform over a group's 128 channels. -/
def turn (i j : Fin 128) : EReal := num i.val * num j.val * Ideal.ofBits .f32 0x3D490FDB#32

/-- The transform's weight: the cosine (`p = 0`) or the negated sine over the root of 128. -/
def dft (i : Fin 128) (p : Fin 2) (j : Fin 128) : EReal :=
  Ideal.div (if p = 0 then Ideal.cos (turn i j) else -Ideal.sin (turn i j)) (Ideal.sqrt (Ideal.ofBits .f32 0x43000000#32))

variable (V : Valuation τ sig (Elt Ideal))

/-- The reference's arguments. -/
abbrev ux : FVec Ideal S4x4096x1024 .f32 := V (Proc.devRef .tc main_arg0)
abbrev umo : FVec Ideal S8x6144 .f32 := V (Proc.devRef .tc main_arg1)
abbrev un : FVec Ideal S1x1024 .f32 := V (Proc.devRef .tc main_arg2)
abbrev uw : FVec Ideal S1x1024x2976 .f32 := V (Proc.devRef .tc main_arg3)
abbrev ubg : FVec Ideal S1x2048 .f32 := V (Proc.devRef .tc main_arg4)
abbrev uqn : FVec Ideal S1x256 .f32 := V (Proc.devRef .tc main_arg5)
abbrev uwq : FVec Ideal S1x256x768 .f32 := V (Proc.devRef .tc main_arg6)
abbrev ukn : FVec Ideal S1x128 .f32 := V (Proc.devRef .tc main_arg7)
abbrev uwk : FVec Ideal S1x128x1024 .f32 := V (Proc.devRef .tc main_arg8)
abbrev uqg : FVec Ideal S1x96 .f32 := V (Proc.devRef .tc main_arg9)
abbrev ukg : FVec Ideal S1x96 .f32 := V (Proc.devRef .tc main_arg10)

theorem prj_at (b : Fin 4) (s : Fin 4096) (c : Fin 2976) :
    Value.res_main_v64 V (ix3 b s c) = prj (ux V) (umo V) (un V) (uw V) b s c := by
  pointwise [Value.res_main_v64, Value.res_main_v36, prj, hid, rms, modRow, eps, Ideal.ofBits_one_f32]

/-- A token's eight query heads before their own normalisation. -/
def qraw (P : Fin 2976 → EReal) (g : FVec Ideal S1x256 .f32) (w : FVec Ideal S1x256x768 .f32) (h : Fin 8) (c : Fin 96) : EReal :=
  ∑ k : Fin 256, rms 0x43800000#32 (fun k : Fin 256 => P ⟨512 + k.val, by omega⟩) (fun k => g (ix2 0 k)) k * w (ix3 0 k ⟨h.val * 96 + c.val, by omega⟩)

/-- A token's keys and values of the eight heads, before the keys' normalisation. -/
def kvraw (P : Fin 2976 → EReal) (g : FVec Ideal S1x128 .f32) (w : FVec Ideal S1x128x1024 .f32) (h : Fin 8) (c : Fin 128) : EReal :=
  ∑ k : Fin 128, rms 0x43000000#32 (fun k : Fin 128 => P ⟨768 + k.val, by omega⟩) (fun k => g (ix2 0 k)) k * w (ix3 0 k ⟨h.val * 128 + c.val, by omega⟩)

/-- A head's key before its normalisation: its own 64 channels and the 32 that all heads share. -/
def kraw (P : Fin 2976 → EReal) (g : FVec Ideal S1x128 .f32) (w : FVec Ideal S1x128x1024 .f32) (h : Fin 8) (c : Fin 96) : EReal :=
  if g' : c.val < 64 then kvraw P g w h ⟨c.val, by omega⟩ else P ⟨896 + (c.val - 64), by omega⟩

theorem qraw_at (b : Fin 4) (s : Fin 4096) (h : Fin 8) (c : Fin 96) :
    Value.res_main_v109 V (ix4 b s h c) = qraw (fun c => Value.res_main_v64 V (ix3 b s c)) (uqn V) (uwq V) h c := by
  unfold Value.res_main_v109 Value.res_main_v92
  generalize Value.res_main_v64 V = P
  pointwise [qraw, rms, eps]

theorem kvraw_at (b : Fin 4) (s : Fin 4096) (h : Fin 8) (c : Fin 128) :
    Value.res_main_v164 V (ix4 b s h c) = kvraw (fun c => Value.res_main_v64 V (ix3 b s c)) (ukn V) (uwk V) h c := by
  unfold Value.res_main_v164 Value.res_main_v147
  generalize Value.res_main_v64 V = P
  pointwise [kvraw, rms, eps]

theorem kraw_at (b : Fin 4) (s : Fin 4096) (h : Fin 8) (c : Fin 96) :
    Value.res_main_v169 V (ix4 b s h c) = kraw (fun c => Value.res_main_v64 V (ix3 b s c)) (ukn V) (uwk V) h c := by
  unfold kraw
  simp only [← kvraw_at V b s]
  unfold Value.res_main_v169
  generalize Value.res_main_v64 V = P
  generalize Value.res_main_v164 V = K
  pointwise

theorem qhead_at (b : Fin 4) (s : Fin 4096) (h : Fin 8) (c : Fin 96) : Value.res_main_v123 V (ix4 b s h c) =
    rms 0x42C00000#32 (fun c => Value.res_main_v109 V (ix4 b s h c)) (fun c => uqg V (ix2 0 c)) c := by
  unfold Value.res_main_v123
  generalize Value.res_main_v109 V = P
  pointwise [rms, eps]

theorem khead_at (b : Fin 4) (s : Fin 4096) (h : Fin 8) (c : Fin 96) : Value.res_main_v183 V (ix4 b s h c) =
    rms 0x42C00000#32 (fun c => Value.res_main_v169 V (ix4 b s h c)) (fun c => ukg V (ix2 0 c)) c := by
  unfold Value.res_main_v183
  generalize Value.res_main_v169 V = P
  pointwise [rms, eps]

theorem freq_at (i : Fin 8) : Value.res_main_v13 V (ix1 i) = freq i := by
  pointwise [Value.res_main_v13, freq, num]

theorem ang_at (s : Fin 4096) (i : Fin 32) : Value.res_main_v25 V (ix4 0 s 0 i) = ang s i := by
  simp only [ang, ← freq_at V]
  pointwise [Value.res_main_v25, Value.res_main_v18, Value.res_main_v23, num]

theorem turn_at (i j : Fin 128) : Value.res_main_v33 V (ix2 i j) = turn i j := by
  pointwise [Value.res_main_v33, Value.res_main_v26, turn, num]

end Proj.Ref

end
-- ==== Proof.Proj.Out.lean ====
/- The third call's five results: at an index, of a token's projections, and as arrays. -/
module

public import proofs.«01_k».proof.Proof.Proj.Ref

@[expose] public section

set_option maxRecDepth 16384

noncomputable section

namespace Proj.Ref

open Cert.Reference3Ideal Cert.Reference3Ideal.Gen Idealize.ShloMosaic Idealize.ShloMosaic.TcCoe Idealize.SL.Sem
open Cert.Reference3Ideal.Facts

/-- A token's query head as it is handed on: normalised, turned, over the scale, in 128 channels of which 96 are used. -/
def qOut (P : Fin 2976 → EReal) (g : FVec Ideal S1x256 .f32) (w : FVec Ideal S1x256x768 .f32) (G : FVec Ideal S1x96 .f32)
    (s : Fin 4096) (h : Fin 8) (c : Fin 128) : EReal :=
  if k : c.val < 96 then Ideal.div (rope (rms 0x42C00000#32 (qraw P g w h) (fun c => G (ix2 0 c))) (fun i => Ideal.cos (ang s i))
    (fun i => Ideal.sin (ang s i)) ⟨c.val, k⟩) scale else 0

/-- A token's key head: normalised and turned, in 128 channels of which 96 are used. -/
def kOut (P : Fin 2976 → EReal) (g : FVec Ideal S1x128 .f32) (w : FVec Ideal S1x128x1024 .f32) (G : FVec Ideal S1x96 .f32)
    (s : Fin 4096) (h : Fin 8) (c : Fin 128) : EReal :=
  if k : c.val < 96 then rope (rms 0x42C00000#32 (kraw P g w h) (fun c => G (ix2 0 c))) (fun i => Ideal.cos (ang s i))
    (fun i => Ideal.sin (ang s i)) ⟨c.val, k⟩ else 0

/-- A token's value head: 64 channels, then 16 ones. -/
def vOut (P : Fin 2976 → EReal) (g : FVec Ideal S1x128 .f32) (w : FVec Ideal S1x128x1024 .f32) (h : Fin 8) (c : Fin 80) : EReal :=
  if k : c.val < 64 then kvraw P g w h ⟨64 + c.val, by omega⟩ else 1

/-- A token's gate. -/
def gOut (P : Fin 2976 → EReal) (bg : FVec Ideal S1x2048 .f32) (c : Fin 2048) : EReal :=
  Ideal.logistic (P ⟨928 + c.val, by omega⟩ + bg (ix2 0 c))

/-- A token's transform over its group's 128 channels: the real part (`p = 0`) or the imaginary. -/
def zOut (P : Fin 2976 → EReal) (p : Fin 2) (c : Fin 512) : EReal :=
  ∑ i : Fin 128, P ⟨c.val / 128 * 128 + i.val, by omega⟩ * dft i p ⟨c.val % 128, by omega⟩

/-! ## The arrays -/

variable (P : Fin 4 → Fin 4096 → Fin 2976 → EReal)

def zA : FVec Ideal S4x2x4096x512 .bf16 := fun y => zOut (P (y 0) (y 2)) (y 1) (y 3)

def gA (bg : FVec Ideal S1x2048 .f32) : FVec Ideal S4x4096x2048 .bf16 := fun y => gOut (P (y 0) (y 1)) bg (y 2)

def qA (g : FVec Ideal S1x256 .f32) (w : FVec Ideal S1x256x768 .f32) (G : FVec Ideal S1x96 .f32) : FVec Ideal S4x8x128x4096 .bf16 :=
  fun y => qOut (P (y 0) (y 3)) g w G (y 3) (y 1) (y 2)

def kA (g : FVec Ideal S1x128 .f32) (w : FVec Ideal S1x128x1024 .f32) (G : FVec Ideal S1x96 .f32) : FVec Ideal S4x8x4096x128 .bf16 :=
  fun y => kOut (P (y 0) (y 2)) g w G (y 2) (y 1) (y 3)

def vA (g : FVec Ideal S1x128 .f32) (w : FVec Ideal S1x128x1024 .f32) : FVec Ideal S4x8x80x4096 .bf16 :=
  fun y => vOut (P (y 0) (y 3)) g w (y 1) (y 2)

theorem zA_at (b : Fin 4) (p : Fin 2) (s : Fin 4096) (c : Fin 512) : zA P (ix4 b p s c) = zOut (P b s) p c := rfl

theorem gA_at (bg : FVec Ideal S1x2048 .f32) (b : Fin 4) (s : Fin 4096) (c : Fin 2048) : gA P bg (ix3 b s c) = gOut (P b s) bg c := rfl

theorem qA_at (g : FVec Ideal S1x256 .f32) (w : FVec Ideal S1x256x768 .f32) (G : FVec Ideal S1x96 .f32) (b : Fin 4) (h : Fin 8)
    (c : Fin 128) (s : Fin 4096) : qA P g w G (ix4 b h c s) = qOut (P b s) g w G s h c := rfl

theorem kA_at (g : FVec Ideal S1x128 .f32) (w : FVec Ideal S1x128x1024 .f32) (G : FVec Ideal S1x96 .f32) (b : Fin 4) (h : Fin 8)
    (s : Fin 4096) (c : Fin 128) : kA P g w G (ix4 b h s c) = kOut (P b s) g w G s h c := rfl

theorem vA_at (g : FVec Ideal S1x128 .f32) (w : FVec Ideal S1x128x1024 .f32) (b : Fin 4) (h : Fin 8) (c : Fin 80) (s : Fin 4096) :
    vA P g w (ix4 b h c s) = vOut (P b s) g w h c := rfl

end Proj.Ref

end
-- ==== Proof.Proj.RefRun.lean ====
/- The plain reference's five results are the arrays of `Out`. -/
module

public import proofs.«01_k».proof.Proof.Proj.Out
public import Idealize.ShloMosaic.Lib.Pipeline.ValueKit.Geometry

@[expose] public section

set_option maxRecDepth 16384

noncomputable section

namespace Proj.Ref

open Cert.Reference3Ideal Cert.Reference3Ideal.Gen Idealize.ShloMosaic Idealize.ShloMosaic.TcCoe Idealize.SL.Sem
open Cert.Reference3Ideal.Facts

/-- The reference's turned heads: 64 channels as they are, 32 turned. -/
def ropeT (A : FVec Ideal S4x4096x8x96 .f32) (B : FVec Ideal S4x4096x8x32 .f32) (C : FVec Ideal S1x4096x1x32 .f32) : FVec Ideal S4x4096x8x96 .f32 :=
  concatenate S4x4096x8x96 3 [⟨S4x4096x8x64, (extractStridedSlice S4x4096x8x64 ![0, 0, 0, 0] A slices_S4x4096x8x96_S4x4096x8x64_0_0_0_0)⟩, ⟨S4x4096x8x32, (addf (mulf (extractStridedSlice S4x4096x8x32 ![0, 0, 0, 64] A slices_S4x4096x8x96_S4x4096x8x32_0_0_0_64) (broadcastInDim S4x4096x8x32 ![0, 1, 2, 3] bcast_S1x4096x1x32_S4x4096x8x32_0_1_2_3 (Host.cos C))) (mulf ((concatenate S4x4096x8x32 3 [⟨S4x4096x8x8, ((Host.negf (extractStridedSlice S4x4096x8x8 ![0, 0, 0, 8] B slices_S4x4096x8x32_S4x4096x8x8_0_0_0_8)) : (⟨S4x4096x8x8, .f32⟩ : BufTy).Contents (Elt Ideal))⟩, ⟨S4x4096x8x8, ((extractStridedSlice S4x4096x8x8 ![0, 0, 0, 0] B slices_S4x4096x8x32_S4x4096x8x8_0_0_0_0) : (⟨S4x4096x8x8, .f32⟩ : BufTy).Contents (Elt Ideal))⟩, ⟨S4x4096x8x8, ((Host.negf (extractStridedSlice S4x4096x8x8 ![0, 0, 0, 24] B slices_S4x4096x8x32_S4x4096x8x8_0_0_0_24)) : (⟨S4x4096x8x8, .f32⟩ : BufTy).Contents (Elt Ideal))⟩, ⟨S4x4096x8x8, ((extractStridedSlice S4x4096x8x8 ![0, 0, 0, 16] B slices_S4x4096x8x32_S4x4096x8x8_0_0_0_16) : (⟨S4x4096x8x8, .f32⟩ : BufTy).Contents (Elt Ideal))⟩] concatenates_S4x4096x8x8_S4x4096x8x8_S4x4096x8x8_S4x4096x8x8_S4x4096x8x32_d3 : (⟨S4x4096x8x32, .f32⟩ : BufTy).Contents (Elt Ideal))) (broadcastInDim S4x4096x8x32 ![0, 1, 2, 3] bcast_S1x4096x1x32_S4x4096x8x32_0_1_2_3 (Host.sin C))))⟩] concatenates_S4x4096x8x64_S4x4096x8x32_S4x4096x8x96_d3

theorem ropeT_at (A : FVec Ideal S4x4096x8x96 .f32) (B : FVec Ideal S4x4096x8x32 .f32) (C : FVec Ideal S1x4096x1x32 .f32)
    (hB : ∀ b s h i, B (ix4 b s h i) = A (ix4 b s h ⟨64 + i.val, by omega⟩)) (hC : ∀ s i, C (ix4 0 s 0 i) = ang s i)
    (b : Fin 4) (s : Fin 4096) (h : Fin 8) (c : Fin 96) :
    ropeT A B C (ix4 b s h c) = rope (fun c => A (ix4 b s h c)) (fun i => Ideal.cos (ang s i)) (fun i => Ideal.sin (ang s i)) c := by
  have hv : ∀ v, rope (fun c => A (ix4 b s h c)) (fun i => Ideal.cos (ang s i)) (fun i => Ideal.sin (ang s i)) c = v →
      ropeT A B C (ix4 b s h c) = v := by
    intro v hv
    pointwise [ropeT, hB, hC]
    rw [← hv]
    unfold rope turned
    by_cases h64 : c.val < 64
    · rw [dif_pos h64, dif_pos h64]
    rw [dif_neg h64, dif_neg h64]
    have e : (⟨64 + (c.val - 64), by omega⟩ : Fin 96) = c := Fin.ext (by show 64 + (c.val - 64) = c.val; omega)
    rw [e]
    refine congrArg (fun z => A (ix4 b s h c) * Ideal.cos (ang s ⟨c.val - 64, by omega⟩) + z * Ideal.sin (ang s ⟨c.val - 64, by omega⟩)) ?_
    by_cases h1 : c.val - 64 < 8
    · rw [dif_pos h1, dif_pos h1]
      exact congrArg (fun i => -A (ix4 b s h i)) (Fin.ext (by show 64 + (8 + (c.val - 64)) = 64 + 8 + (c.val - 64); omega))
    rw [dif_neg h1, dif_neg h1]
    by_cases h2 : c.val - 64 < 16
    · rw [dif_pos (by omega), dif_pos h2]
    rw [dif_neg (by omega), dif_neg h2]
    by_cases h3 : c.val - 64 < 24
    · rw [dif_pos (by omega), dif_pos h3]
      exact congrArg (fun i => -A (ix4 b s h i)) (Fin.ext (by show 64 + (24 + (c.val - 64 - 8 - 8)) = 64 + 8 + (c.val - 64); omega))
    rw [dif_neg (by omega), dif_neg h3]
    exact congrArg (fun i => A (ix4 b s h i)) (Fin.ext (by show 64 + (16 + (c.val - 64 - 8 - 8 - 8)) = 64 + (c.val - 64 - 8); omega))
  exact hv _ rfl

variable (V : Valuation τ sig (Elt Ideal))

/-- The projections of the reference's arguments. -/
abbrev uP : Fin 4 → Fin 4096 → Fin 2976 → EReal := prj (ux V) (umo V) (un V) (uw V)

theorem row_eq (b : Fin 4) (s : Fin 4096) : (fun c => Value.res_main_v64 V (ix3 b s c)) = uP V b s := funext fun c => prj_at V b s c

theorem qturn (b : Fin 4) (s : Fin 4096) (h : Fin 8) (c : Fin 96) :
    ropeT (Value.res_main_v123 V) (Value.res_main_v124 V) (Value.res_main_v25 V) (ix4 b s h c) =
      rope (rms 0x42C00000#32 (qraw (uP V b s) (uqn V) (uwq V) h) (fun c => uqg V (ix2 0 c))) (fun i => Ideal.cos (ang s i)) (fun i => Ideal.sin (ang s i)) c := by
  rw [ropeT_at _ _ _ (fun b s h i => by unfold Value.res_main_v124; generalize Value.res_main_v123 V = A; pointwise) (fun s i => ang_at V s i)]
  simp only [qhead_at, qraw_at, row_eq]

theorem kturn (b : Fin 4) (s : Fin 4096) (h : Fin 8) (c : Fin 96) :
    ropeT (Value.res_main_v183 V) (Value.res_main_v184 V) (Value.res_main_v25 V) (ix4 b s h c) =
      rope (rms 0x42C00000#32 (kraw (uP V b s) (ukn V) (uwk V) h) (fun c => ukg V (ix2 0 c))) (fun i => Ideal.cos (ang s i)) (fun i => Ideal.sin (ang s i)) c := by
  rw [ropeT_at _ _ _ (fun b s h i => by unfold Value.res_main_v184; generalize Value.res_main_v183 V = A; pointwise) (fun s i => ang_at V s i)]
  simp only [khead_at, kraw_at, row_eq]

/-- What the reference computes for the queries. -/
def resQ : FVec Ideal S4x8x128x4096 .bf16 :=
  truncf .bf16 (concatenate S4x8x128x4096 2 [⟨S4x8x96x4096, (transpose S4x8x96x4096 [0, 2, 3, 1] (Host.divf (ropeT (Value.res_main_v123 V) (Value.res_main_v124 V) (Value.res_main_v25 V)) (broadcastInDim S4x4096x8x96 ![] bcast_S_S4x4096x8x96 (mulf (Host.sqrt (constant S_ .f32 0x42C00000#32)) (Host.log (constant S_ .f32 0x40000000#32))))) transposes_S4x4096x8x96_S4x8x96x4096_0_2_3_1)⟩, ⟨S4x8x32x4096, (broadcastInDim S4x8x32x4096 ![] bcast_S_S4x8x32x4096 (constant S_ .f32 0x00000000#32))⟩] concatenates_S4x8x96x4096_S4x8x32x4096_S4x8x128x4096_d2) bitsLt_bf16_f32

theorem resQ_eq : resQ V = qA (uP V) (uqn V) (uwq V) (uqg V) := by
  funext y
  idx_vars y
  have hv : ∀ v, qOut (uP V y0 y3) (uqn V) (uwq V) (uqg V) y3 y1 y2 = v → resQ V (ix4 y0 y1 y2 y3) = v := by
    intro v hv
    unfold resQ
    have hq := qturn V
    generalize ropeT (Value.res_main_v123 V) (Value.res_main_v124 V) (Value.res_main_v25 V) = A at hq
    pointwise [hq]
    exact hv
  exact hv _ rfl

/-- What the reference computes for the keys. -/
def resK : FVec Ideal S4x8x4096x128 .bf16 :=
  truncf .bf16 (concatenate S4x8x4096x128 3 [⟨S4x8x4096x96, (transpose S4x8x4096x96 [0, 2, 1, 3] (ropeT (Value.res_main_v183 V) (Value.res_main_v184 V) (Value.res_main_v25 V)) transposes_S4x4096x8x96_S4x8x4096x96_0_2_1_3)⟩, ⟨S4x8x4096x32, (broadcastInDim S4x8x4096x32 ![] bcast_S_S4x8x4096x32 (constant S_ .f32 0x00000000#32))⟩] concatenates_S4x8x4096x96_S4x8x4096x32_S4x8x4096x128_d3) bitsLt_bf16_f32

theorem resK_eq : resK V = kA (uP V) (ukn V) (uwk V) (ukg V) := by
  funext y
  idx_vars y
  have hv : ∀ v, kOut (uP V y0 y2) (ukn V) (uwk V) (ukg V) y2 y1 y3 = v → resK V (ix4 y0 y1 y2 y3) = v := by
    intro v hv
    unfold resK
    have hq := kturn V
    generalize ropeT (Value.res_main_v183 V) (Value.res_main_v184 V) (Value.res_main_v25 V) = A at hq
    pointwise [hq]
    exact hv
  exact hv _ rfl

/-- What the reference computes for the values. -/
def resV : FVec Ideal S4x8x80x4096 .bf16 :=
  truncf .bf16 (concatenate S4x8x80x4096 2 [⟨S4x8x64x4096, (transpose S4x8x64x4096 [0, 2, 3, 1] (extractStridedSlice S4x4096x8x64 ![0, 0, 0, 64] (Value.res_main_v164 V) slices_S4x4096x8x128_S4x4096x8x64_0_0_0_64) transposes_S4x4096x8x64_S4x8x64x4096_0_2_3_1)⟩, ⟨S4x8x16x4096, (broadcastInDim S4x8x16x4096 ![] bcast_S_S4x8x16x4096 (constant S_ .f32 0x3F800000#32))⟩] concatenates_S4x8x64x4096_S4x8x16x4096_S4x8x80x4096_d2) bitsLt_bf16_f32

theorem resV_eq : resV V = vA (uP V) (ukn V) (uwk V) := by
  funext y
  idx_vars y
  have hv : ∀ v, vOut (uP V y0 y3) (ukn V) (uwk V) y1 y2 = v → resV V (ix4 y0 y1 y2 y3) = v := by
    intro v hv
    unfold resV
    have hq : ∀ b s h c, Value.res_main_v164 V (ix4 b s h c) = kvraw (uP V b s) (ukn V) (uwk V) h c := fun b s h c => by
      rw [kvraw_at, row_eq]
    generalize Value.res_main_v164 V = A at hq
    pointwise [hq, Ideal.ofBits_one_f32]
    exact hv
  exact hv _ rfl

/-- What the reference computes for the gates. -/
def resG : FVec Ideal S4x4096x2048 .bf16 :=
  truncf .bf16 (Host.divf (broadcastInDim S4x4096x2048 ![] bcast_S_S4x4096x2048 (constant S_ .f32 0x3F800000#32)) (addf (broadcastInDim S4x4096x2048 ![] bcast_S_S4x4096x2048 (constant S_ .f32 0x3F800000#32)) (Host.exp (Host.negf (addf (extractStridedSlice S4x4096x2048 ![0, 0, 928] (Value.res_main_v64 V) slices_S4x4096x2976_S4x4096x2048_0_0_928) (broadcastInDim S4x4096x2048 ![0, 1, 2] bcast_S1x1x2048_S4x4096x2048_0_1_2 (broadcastInDim S1x1x2048 ![2] bcast_S2048_S1x1x2048_2 (shapeCast _ (V (Proc.devRef .tc main_arg4)) shapeCasts_S1x2048_S2048)))))))) bitsLt_bf16_f32

theorem resG_eq : resG V = gA (uP V) (ubg V) := by
  funext y
  idx_vars y
  unfold resG
  show _ = gOut (uP V y0 y1) (ubg V) y2
  have hq : ∀ b s c, Value.res_main_v64 V (ix3 b s c) = uP V b s c := prj_at V
  generalize Value.res_main_v64 V = A at hq
  pointwise [hq, gOut, Ideal.ofBits_one_f32]
  rfl

/-- What the reference computes for the transform. -/
def resZ : FVec Ideal S4x2x4096x512 .bf16 :=
  truncf .bf16 (concatenate S4x2x4096x512 1 [⟨S4x1x4096x512, (broadcastInDim S4x1x4096x512 ![0, 2, 3] bcast_S4x4096x512_S4x1x4096x512_0_2_3 (shapeCast _ (Host.dotGeneral (φ₁ := .f32) (φ₂ := .f32) dot_S4x4096x4x128_S128x128_S4x4096x4x128_3_0_012_1_n_n none (Value.res_main_v66 V) (Host.divf (Host.cos (Value.res_main_v33 V)) (broadcastInDim S128x128 ![] bcast_S_S128x128 (Value.res_main_v34 V)))) shapeCasts_S4x4096x4x128_S4x4096x512))⟩, ⟨S4x1x4096x512, (broadcastInDim S4x1x4096x512 ![0, 2, 3] bcast_S4x4096x512_S4x1x4096x512_0_2_3 (shapeCast _ (Host.dotGeneral (φ₁ := .f32) (φ₂ := .f32) dot_S4x4096x4x128_S128x128_S4x4096x4x128_3_0_012_1_n_n none (Value.res_main_v66 V) (Host.divf (Host.negf (Host.sin (Value.res_main_v33 V))) (broadcastInDim S128x128 ![] bcast_S_S128x128 (Value.res_main_v34 V)))) shapeCasts_S4x4096x4x128_S4x4096x512))⟩] concatenates_S4x1x4096x512_S4x1x4096x512_S4x2x4096x512_d1) bitsLt_bf16_f32

theorem resZ_eq : resZ V = zA (uP V) := by
  funext y
  idx_vars y
  unfold resZ
  show _ = zOut (uP V y0 y2) y1 y3
  have hq : ∀ b s c, Value.res_main_v64 V (ix3 b s c) = uP V b s c := prj_at V
  have ht := turn_at V
  unfold Value.res_main_v66 Value.res_main_v34
  generalize Value.res_main_v64 V = A at hq
  generalize Value.res_main_v33 V = B at ht
  pointwise [hq, ht, zOut, dft]
  by_cases h : y1.val < 1
  · have e : y1 = 0 := Fin.ext (by show y1.val = 0; omega)
    simp only [dif_pos h, if_pos e]
  · have e : y1 ≠ 0 := fun e => h (by rw [e]; exact Nat.zero_lt_one)
    simp only [dif_neg h, if_neg e]

end Proj.Ref

end
-- ==== Proof.Proj.Host.lean ====
/- The arrays the third call is handed, read at an index: slices and transposes of the arguments, and the tables of angles. -/
module

public import proofs.«01_k».proof.Proof.Proj.RunKI
public import proofs.«01_k».proof.Proof.Proj.Ref
public import Idealize.ShloMosaic.Lib.Claim
public import Idealize.ShloMosaic.Lib.Pointwise
public import Idealize.ShloMosaic.Lib.IdealHost

@[expose] public section

set_option maxRecDepth 16384

noncomputable section

namespace Proj

open Cert.Kernel3Ideal Cert.Kernel3Ideal.Gen Idealize.ShloMosaic Idealize.ShloMosaic.TcCoe Idealize.SL.Sem

variable (m : (ℓ : Loc nD τ sig) → Buf (Elt Ideal) ℓ) (d : Dev nD)

/-- The arguments on device `d`. -/
abbrev ax : FVec Ideal S4x4096x1024 .f32 := m ((d.tc : Thread nD τ).loc main_arg0)
abbrev amo : FVec Ideal S8x6144 .f32 := m ((d.tc : Thread nD τ).loc main_arg1)
abbrev an : FVec Ideal S1x1024 .f32 := m ((d.tc : Thread nD τ).loc main_arg2)
abbrev aw : FVec Ideal S1x1024x2976 .f32 := m ((d.tc : Thread nD τ).loc main_arg3)
abbrev abg : FVec Ideal S1x2048 .f32 := m ((d.tc : Thread nD τ).loc main_arg4)
abbrev aqn : FVec Ideal S1x256 .f32 := m ((d.tc : Thread nD τ).loc main_arg5)
abbrev awq : FVec Ideal S1x256x768 .f32 := m ((d.tc : Thread nD τ).loc main_arg6)
abbrev akn : FVec Ideal S1x128 .f32 := m ((d.tc : Thread nD τ).loc main_arg7)
abbrev awk : FVec Ideal S1x128x1024 .f32 := m ((d.tc : Thread nD τ).loc main_arg8)
abbrev aqg : FVec Ideal S1x96 .f32 := m ((d.tc : Thread nD τ).loc main_arg9)
abbrev akg : FVec Ideal S1x96 .f32 := m ((d.tc : Thread nD τ).loc main_arg10)

theorem V_x : V m d main_arg0 = ax m d := by
  entry_read
  rfl

theorem V_mo : V m d main_arg1 = amo m d := by
  entry_read
  rfl

theorem V_n (j : Fin 1024) : V m d main_v82 (ix2 0 j) = an m d (ix2 0 j) := by
  entry_read
  pointwise [an]

theorem V_wf (k : Fin 1024) (c : Fin 512) : V m d main_v2 (ix2 k c) = aw m d (ix3 0 k ⟨c.val, by omega⟩) := by
  entry_read
  pointwise [aw]

theorem V_wq (k : Fin 1024) (c : Fin 256) : V m d main_v4 (ix2 k c) = aw m d (ix3 0 k ⟨512 + c.val, by omega⟩) := by
  entry_read
  pointwise [aw]

theorem V_wkv (k : Fin 1024) (c : Fin 256) : V m d main_v6 (ix2 k c) = aw m d (ix3 0 k ⟨768 + c.val, by omega⟩) := by
  entry_read
  pointwise [aw]

theorem V_wg (h : Fin 8) (k : Fin 1024) (c : Fin 256) :
    V m d main_v10 (ix3 h k c) = aw m d (ix3 0 k ⟨928 + (h.val * 256 + c.val), by omega⟩) := by
  entry_read
  pointwise [aw]

theorem V_bg (j : Fin 2048) : V m d main_v84 (ix2 0 j) = abg m d (ix2 0 j) := by
  entry_read
  pointwise [abg]

theorem V_qn (j : Fin 256) : V m d main_v86 (ix2 0 j) = aqn m d (ix2 0 j) := by
  entry_read
  pointwise [aqn]

theorem V_kn (j : Fin 128) : V m d main_v91 (ix2 0 j) = akn m d (ix2 0 j) := by
  entry_read
  pointwise [akn]

theorem V_wqb (c : Fin 768) (k : Fin 256) : V m d main_v89 (ix2 c k) = awq m d (ix3 0 k c) := by
  entry_read
  pointwise [awq]

theorem V_wkb (h : Fin 8) (c : Fin 64) (k : Fin 128) :
    V m d main_v16 (ix2 ⟨h.val * 64 + c.val, by omega⟩ k) = awk m d (ix3 0 k ⟨h.val * 128 + c.val, by omega⟩) := by
  entry_read
  pointwise [awk]
  refine congrArg (fun j => awk m d (ix3 0 k j)) (Fin.ext ?_)
  show (h.val * 64 + c.val) / 64 * 128 + (h.val * 64 + c.val) % 64 = h.val * 128 + c.val
  omega

theorem V_wv (h : Fin 8) (c : Fin 64) (k : Fin 128) :
    V m d main_v19 (ix2 ⟨h.val * 64 + c.val, by omega⟩ k) = awk m d (ix3 0 k ⟨h.val * 128 + (64 + c.val), by omega⟩) := by
  entry_read
  pointwise [awk]
  refine congrArg (fun j => awk m d (ix3 0 k j)) (Fin.ext ?_)
  show (h.val * 64 + c.val) / 64 * 128 + (64 + (h.val * 64 + c.val) % 64) = h.val * 128 + (64 + c.val)
  omega

theorem V_qg (c : Fin 96) (l : Fin 128) : V m d main_v27 (ix2 c l) = Ideal.div (aqg m d (ix2 0 c)) Ref.scale := by
  entry_read
  pointwise [aqg, Ref.scale]

theorem V_kgn (c : Fin 64) (l : Fin 128) : V m d main_v31 (ix2 c l) = akg m d (ix2 0 ⟨c.val, by omega⟩) := by
  entry_read
  pointwise [akg]

theorem V_kgr (c : Fin 32) (l : Fin 128) : V m d main_v35 (ix2 c l) = akg m d (ix2 0 ⟨64 + c.val, by omega⟩) := by
  entry_read
  pointwise [akg]

/-- The transform's table: the cosines, then the negated sines, each over the root of the width. -/
theorem V_dft (i : Fin 128) (p : Fin 2) (j : Fin 128) :
    V m d main_v80 (ix2 i ⟨p.val * 128 + j.val, by omega⟩) = Ref.dft i p j := by
  entry_read
  pointwise [Ref.dft, Ref.turn]
  by_cases hp : p = 0
  · rw [dif_pos (by rw [hp]; show 0 * 128 + j.val < 128; omega), if_pos hp]
    subst hp
    simp [Ref.num]
  · have hp' : p = 1 := by omega
    subst hp'
    rw [dif_neg (by show ¬ (1 * 128 + j.val < 128); omega), if_neg hp]
    simp [Ref.num]

end Proj

end
-- ==== Proof.Proj.Angles.lean ====
/- The third call's tables of angles at an index. -/
module

public import proofs.«01_k».proof.Proof.Proj.RunKI
public import proofs.«01_k».proof.Proof.Proj.Ref
public import Idealize.ShloMosaic.Lib.Claim
public import Idealize.ShloMosaic.Lib.StableHlo.RunRead
public import Idealize.ShloMosaic.Lib.Pointwise
public import Idealize.ShloMosaic.Lib.IdealHost

@[expose] public section

set_option maxRecDepth 16384

noncomputable section

namespace Proj

open Cert.Kernel3Ideal Cert.Kernel3Ideal.Gen Idealize.ShloMosaic Idealize.ShloMosaic.TcCoe Idealize.SL.Sem

variable (m : (ℓ : Loc nD τ sig) → Buf (Elt Ideal) ℓ) (d : Dev nD)

theorem turned_at (T : FVec Ideal S4096x32 .f32) (h) (i : Fin 32) (s : Fin 4096) : transpose S32x4096 [1, 0] T h (ix2 i s) = T (ix2 s i) := by
  pointwise

/-- Four tables of eight columns side by side. -/
theorem tab_of (A B : FVec Ideal S4096x8 .f32) (h1 : Shape.Concatenates [S4096x8, S4096x8, S4096x8, S4096x8] S4096x32 1)
    (i : Fin 32) (s : Fin 4096) (v : EReal) (hv : (if h : i.val < 8 then A (ix2 s ⟨i.val, h⟩)
      else if h : i.val - 8 < 8 then A (ix2 s ⟨i.val - 8, h⟩)
      else if h : i.val - 8 - 8 < 8 then B (ix2 s ⟨i.val - 8 - 8, h⟩)
      else B (ix2 s ⟨i.val - 8 - 8 - 8, by omega⟩)) = v) :
    concatenate S4096x32 1 [⟨S4096x8, A⟩, ⟨S4096x8, A⟩, ⟨S4096x8, B⟩, ⟨S4096x8, B⟩] h1 (ix2 s i) = v := by
  pointwise
  exact hv

theorem tab_at (A B : FVec Ideal S4096x8 .f32) (h1 : Shape.Concatenates [S4096x8, S4096x8, S4096x8, S4096x8] S4096x32 1)
    (i : Fin 32) (s : Fin 4096) (hA : ∀ k : Fin 8, A (ix2 s k) = Ref.num (s.val / 64) * Ref.freq k)
    (hB : ∀ k : Fin 8, B (ix2 s k) = Ref.num (s.val % 64) * Ref.freq k) :
    concatenate S4096x32 1 [⟨S4096x8, A⟩, ⟨S4096x8, A⟩, ⟨S4096x8, B⟩, ⟨S4096x8, B⟩] h1 (ix2 s i) = Ref.ang s i := by
  refine tab_of A B h1 i s _ ?_
  simp only [hA, hB]
  rfl

/-- The angles of the row. -/
theorem rows (s : Fin 4096) (k : Fin 8) :
    StableHlo.upto hostOps0 (fun b => m (d, b)) 64 (Proc.devRef .tc main_v54) (ix2 s k) = Ref.num (s.val / 64) * Ref.freq k := by
  after_reads_simp
  pointwise [Ref.freq, Ref.num]

/-- The angles of the column. -/
theorem cols (s : Fin 4096) (k : Fin 8) :
    StableHlo.upto hostOps0 (fun b => m (d, b)) 64 (Proc.devRef .tc main_v59) (ix2 s k) = Ref.num (s.val % 64) * Ref.freq k := by
  after_reads_simp
  pointwise [Ref.freq, Ref.num]

theorem V_cos (i : Fin 32) (s : Fin 4096) : V m d main_v92 (ix2 i s) = Ideal.cos (Ref.ang s i) := by
  show StableHlo.after hostOps0 (fun b => m (d, b)) (Proc.devRef .tc main_v92) (ix2 i s) = _
  after_reads_simp
  exact congrArg Ideal.cos ((turned_at _ _ i s).trans (tab_at _ _ _ i s (rows m d s) (cols m d s)))

theorem V_sin (i : Fin 32) (s : Fin 4096) : V m d main_v93 (ix2 i s) = Ideal.sin (Ref.ang s i) := by
  show StableHlo.after hostOps0 (fun b => m (d, b)) (Proc.devRef .tc main_v93) (ix2 i s) = _
  after_reads_simp
  exact congrArg Ideal.sin ((turned_at _ _ i s).trans (tab_at _ _ _ i s (rows m d s) (cols m d s)))

end Proj

end
-- ==== Proof.Proj.Heads.lean ====
/- The third call's tiles as functions of what a part of the token tile loads, with the head or the group as a parameter,
   and their values at an index. -/
module

public import proofs.«01_k».proof.Proof.Gen.Kernel3Ideal.Skeleton
public import Idealize.ShloMosaic.Lib.Pointwise
public import Idealize.ShloMosaic.Lib.IdealHost
public import proofs.«01_k».proof.Proof.Proj.Ref

@[expose] public section

set_option maxRecDepth 16384

noncomputable section

namespace Proj

open Cert.Kernel3Ideal Cert.Kernel3Ideal.Gen Idealize.ShloMosaic Idealize.ShloMosaic.TcCoe Idealize.SL.Sem

theorem sl96 (h : Fin 8) : S768x256.Slices ![h.val * 96, 0] S96x256 := by revert h; decide
theorem sl64 (h : Fin 8) : S512x256.Slices ![h.val * 64, 0] S64x256 := by revert h; decide
theorem sl128 (g : Fin 4) : S256x512.Slices ![0, g.val * 128] S256x128 := by revert g; decide
theorem slh (p : Fin 2) : S256x256.Slices ![0, p.val * 128] S256x128 := by revert p; decide

section Tiles

variable {F : FTy → Type} [FloatOps F] [Named F]

/-- The half-turned neighbours of 32 rows. -/
def turn32 (a : FVec F S32x256 .f32) : FVec F S32x256 .f32 :=
  concatenate S32x256 0 [⟨S8x256, subf (broadcast S8x256 (Scalar.ofBits .f32 0x00000000#32)) (extractStridedSlice S8x256 ![8, 0] a slices_S32x256_o8_0_S8x256)⟩,
    ⟨S8x256, extractStridedSlice S8x256 ![0, 0] a slices_S32x256_o0_0_S8x256⟩,
    ⟨S8x256, subf (broadcast S8x256 (Scalar.ofBits .f32 0x00000000#32)) (extractStridedSlice S8x256 ![24, 0] a slices_S32x256_o24_0_S8x256)⟩,
    ⟨S8x256, extractStridedSlice S8x256 ![16, 0] a slices_S32x256_o16_0_S8x256⟩] concatenates_S8x256_S8x256_S8x256_S8x256_S32x256_d0

/-- The inverse root of a mean square over a head's 96 channels, of the sum of squares. -/
def root96 (ss : FVec F S1x256 .f32) : FVec F S1x256 .f32 :=
  rsqrt (addf (mulf ss (broadcast S1x256 (Named.named κ "inv_head" 0x3C2AAAAB#32))) (broadcast S1x256 (Scalar.ofBits .f32 0x358637BD#32)))

/-- A query head normalised, its gain applied. -/
def qNorm (qd : FVec F S768x256 .f32) (gain : Vec F S96x128 .f32) (h : Fin 8) : FVec F S96x256 .f32 :=
  mulf (mulf (extractStridedSlice S96x256 ![h.val * 96, 0] qd (sl96 h)) (k0_pay14 gain))
    (broadcastTo S96x256 (root96 (shapeCast S1x256 (multiReduction .add [0] S256
      (mulf (extractStridedSlice S96x256 ![h.val * 96, 0] qd (sl96 h)) (extractStridedSlice S96x256 ![h.val * 96, 0] qd (sl96 h)))
      0x00000000#32 reduces_S96x256_S256 (.inl rfl) rfl) shapeCasts_S256_S1x256)) broadcasts_S1x256_S96x256)

/-- Rows below 64 as they are, 32 turned, 32 of zeros. -/
def qRope (u : FVec F S96x256 .f32) (co si : Vec F S32x256 .f32) : FVec F S128x256 .f32 :=
  concatenate S128x256 0 [⟨S64x256, extractStridedSlice S64x256 ![0, 0] u slices_S96x256_o0_0_S64x256⟩,
    ⟨S32x256, addf (mulf (extractStridedSlice S32x256 ![64, 0] u slices_S96x256_o64_0_S32x256) (k0_pay15 co))
      (mulf (turn32 (extractStridedSlice S32x256 ![64, 0] u slices_S96x256_o64_0_S32x256)) (k0_pay16 si))⟩,
    ⟨S32x256, k0_pay17⟩] concatenates_S64x256_S32x256_S32x256_S128x256_d0

/-- Query head `h` as it is stored. -/
def qTile (qd : FVec F S768x256 .f32) (gain : Vec F S96x128 .f32) (co si : Vec F S32x256 .f32) (h : Fin 8) : FVec F S1x1x128x256 .bf16 :=
  shapeCast S1x1x128x256 (truncf .bf16 (qRope (qNorm qd gain h) co si) bitsLt_bf16_f32) shapeCasts_S128x256_S1x1x128x256

/-- The inverse root of a key head's mean square: its own 64 channels' squares and the shared 32's. -/
def kRoot (kn : FVec F S512x256 .f32) (kr : FVec F S32x256 .f32) (h : Fin 8) : FVec F S1x256 .f32 :=
  root96 (addf (shapeCast S1x256 (multiReduction .add [0] S256
      (mulf (extractStridedSlice S64x256 ![h.val * 64, 0] kn (sl64 h)) (extractStridedSlice S64x256 ![h.val * 64, 0] kn (sl64 h)))
      0x00000000#32 reduces_S64x256_S256 (.inl rfl) rfl) shapeCasts_S256_S1x256) (k0_pay39 kr))

/-- Key head `h` as it is stored. -/
def kTile (kn : FVec F S512x256 .f32) (kr : FVec F S32x256 .f32) (gn : Vec F S64x128 .f32) (gr : Vec F S32x128 .f32)
    (co si : Vec F S32x256 .f32) (h : Fin 8) : FVec F S1x1x256x128 .bf16 :=
  shapeCast S1x1x256x128 (truncf .bf16 (transpose S256x128 [1, 0] (concatenate S128x256 0
    [⟨S64x256, mulf (mulf (extractStridedSlice S64x256 ![h.val * 64, 0] kn (sl64 h)) (k0_pay41 gn)) (broadcastTo S64x256 (kRoot kn kr h) broadcasts_S1x256_S64x256)⟩,
     ⟨S32x256, mulf (k0_pay40 kr gr co si) (broadcastTo S32x256 (kRoot kn kr h) broadcasts_S1x256_S32x256)⟩,
     ⟨S32x256, k0_pay43⟩] concatenates_S64x256_S32x256_S32x256_S128x256_d0) transposes_S128x256_p1_0_S256x128) bitsLt_bf16_f32)
    shapeCasts_S256x128_S1x1x256x128

/-- Value head `h` as it is stored: its 64 rows and 16 of ones. -/
def vTile (vT : FVec F S512x256 .f32) (h : Fin 8) : FVec F S1x1x80x256 .bf16 :=
  shapeCast S1x1x80x256 (truncf .bf16 (concatenate S80x256 0 [⟨S64x256, extractStridedSlice S64x256 ![h.val * 64, 0] vT (sl64 h)⟩,
    ⟨S16x256, k0_pay42⟩] concatenates_S64x256_S16x256_S80x256_d0) bitsLt_bf16_f32) shapeCasts_S80x256_S1x1x80x256

/-- One part (real or imaginary) of one group's transform as it is stored. -/
def zTile (f : FVec F S256x512 .bf16) (cs : Vec F S128x256 .bf16) (g : Fin 4) (p : Fin 2) : FVec F S1x1x256x128 .bf16 :=
  shapeCast S1x1x256x128 (truncf .bf16 (extractStridedSlice S256x128 ![0, p.val * 128]
    (matmul dot_S256x128_S128x256_S256x256_1_0_0_1_n_n none (extractStridedSlice S256x128 ![0, g.val * 128] f (sl128 g))
      (shapeCast S128x256 cs shapeCasts_S128x256_S128x256) (constant S256x256 .f32 0x00000000#32)) (slh p)) bitsLt_bf16_f32)
    shapeCasts_S256x128_S1x1x256x128

/-- A chunk of 256 gates as it is stored. -/
def gTile (hb : FVec F S256x1024 .bf16) (w : Vec F S1x1024x256 .bf16) (b : Vec F S1x256 .f32) : FVec F S1x256x256 .bf16 :=
  k0_pay10 (k0_pay9 hb w) b

end Tiles

/-! ## Values at an index -/

/-- The scale of a mean over 96 channels. -/
def inv96 : EReal := ((1 / 96 : ℝ) : EReal)

theorem root96_at (ss : FVec Ideal S1x256 .f32) (s : Fin 256) :
    root96 ss (ix2 0 s) = Ideal.rsqrt (ss (ix2 0 s) * inv96 + Ref.eps) := by
  rfl

theorem turn32_at (a : FVec Ideal S32x256 .f32) (i : Fin 32) (s : Fin 256) : turn32 a (ix2 i s) =
    if h : i.val < 8 then -a (ix2 ⟨8 + i.val, by omega⟩ s)
    else if h : i.val < 16 then a (ix2 ⟨i.val - 8, by omega⟩ s)
    else if h : i.val < 24 then -a (ix2 ⟨8 + i.val, by omega⟩ s)
    else a (ix2 ⟨i.val - 8, by omega⟩ s) := by
  pointwise [turn32]
  simp only [zero_sub]
  by_cases h8 : i.val < 8
  · rw [dif_pos h8, dif_pos h8]
  rw [dif_neg h8, dif_neg h8]
  by_cases h16 : i.val < 16
  · rw [dif_pos (by omega), dif_pos h16]
  rw [dif_neg (by omega), dif_neg h16]
  by_cases h24 : i.val < 24
  · rw [dif_pos (by omega), dif_pos h24]
    exact congrArg (fun i => -a (ix2 i s)) (Fin.ext (by show 24 + (i.val - 8 - 8) = 8 + i.val; omega))
  rw [dif_neg (by omega), dif_neg h24]
  exact congrArg (fun i => a (ix2 i s)) (Fin.ext (by show 16 + (i.val - 8 - 8 - 8) = i.val - 8; omega))

theorem gain_at (g : Vec Ideal S96x128 .f32) (G : Fin 96 → EReal) (hg : ∀ c l, g (ix2 c l) = G c) (c : Fin 96) (s : Fin 256) :
    k0_pay14 g (ix2 c s) = G c := by
  pointwise [k0_pay14, hg]
  exact ite_self _

theorem qNorm_at (qd : FVec Ideal S768x256 .f32) (g : Vec Ideal S96x128 .f32) (h : Fin 8) (c : Fin 96) (s : Fin 256) :
    qNorm qd g h (ix2 c s) = qd (ix2 ⟨h.val * 96 + c.val, by omega⟩ s) * k0_pay14 g (ix2 c s) *
      Ideal.rsqrt ((∑ k : Fin 96, qd (ix2 ⟨h.val * 96 + k.val, by omega⟩ s) * qd (ix2 ⟨h.val * 96 + k.val, by omega⟩ s)) * inv96 + Ref.eps) := by
  pointwise [qNorm, root96_at]

theorem qRope_at (u : FVec Ideal S96x256 .f32) (co si : Vec Ideal S32x256 .f32) (c : Fin 128) (s : Fin 256) :
    qRope u co si (ix2 c s) = if g : c.val < 96 then Ref.rope (fun c => u (ix2 c s)) (fun i => co (ix2 i s)) (fun i => si (ix2 i s)) ⟨c.val, g⟩
      else 0 := by
  pointwise [qRope, k0_pay15, k0_pay16, k0_pay17, turn32_at, Ref.rope, Ref.turned]
  have hd : ∀ n : ℕ, 64 + (8 + n) = 72 + n := by omega
  simp only [hd]
  by_cases h64 : c.val < 64
  · rw [dif_pos h64, dif_pos (by omega), dif_pos h64]
  rw [dif_neg h64]
  by_cases h96 : c.val < 96
  · rw [dif_pos (by omega), dif_pos h96, dif_neg h64]
    simp only [show 64 + (c.val - 64) = c.val by omega]
  rw [dif_neg (by omega), dif_neg h96]

theorem kRoot_at (kn : FVec Ideal S512x256 .f32) (kr : FVec Ideal S32x256 .f32) (h : Fin 8) (s : Fin 256) :
    kRoot kn kr h (ix2 0 s) = Ideal.rsqrt (((∑ k : Fin 64, kn (ix2 ⟨h.val * 64 + k.val, by omega⟩ s) * kn (ix2 ⟨h.val * 64 + k.val, by omega⟩ s))
      + ∑ k : Fin 32, kr (ix2 k s) * kr (ix2 k s)) * inv96 + Ref.eps) := by
  unfold kRoot
  rw [root96_at]
  pointwise [k0_pay39]

/-- A key's shared channels with their gain. -/
def kGain (kr : FVec Ideal S32x256 .f32) (gr : Vec Ideal S32x128 .f32) : FVec Ideal S32x256 .f32 :=
  mulf kr (concatenate S32x256 1 [⟨S32x128, shapeCast S32x128 gr shapeCasts_S32x128_S32x128⟩, ⟨S32x128, shapeCast S32x128 gr shapeCasts_S32x128_S32x128⟩]
    concatenates_S32x128_S32x128_S32x256_d1)

theorem kGain_at (kr : FVec Ideal S32x256 .f32) (gr : Vec Ideal S32x128 .f32) (G : Fin 32 → EReal) (hg : ∀ c l, gr (ix2 c l) = G c)
    (i : Fin 32) (s : Fin 256) : kGain kr gr (ix2 i s) = kr (ix2 i s) * G i := by
  pointwise [kGain, hg]
  exact congrArg _ (ite_self _)

theorem pay40_eq (kr : FVec Ideal S32x256 .f32) (gr : Vec Ideal S32x128 .f32) (co si : Vec Ideal S32x256 .f32) :
    k0_pay40 kr gr co si = addf (mulf (kGain kr gr) (k0_pay15 co)) (mulf (turn32 (kGain kr gr)) (k0_pay16 si)) := rfl

/-- The shared 32 channels with their gain, turned by the position's angles. -/
theorem pay40_at (kr : FVec Ideal S32x256 .f32) (gr : Vec Ideal S32x128 .f32) (co si : Vec Ideal S32x256 .f32) (i : Fin 32) (s : Fin 256)
    (a : Fin 96 → EReal) (ha : ∀ i : Fin 32, a ⟨64 + i.val, by omega⟩ = kGain kr gr (ix2 i s)) :
    k0_pay40 kr gr co si (ix2 i s) = Ref.rope a (fun i => co (ix2 i s)) (fun i => si (ix2 i s)) ⟨64 + i.val, by omega⟩ := by
  rw [pay40_eq]
  generalize kGain kr gr = A at ha ⊢
  pointwise [k0_pay15, k0_pay16, turn32_at, Ref.rope, Ref.turned]
  simp only [Nat.add_sub_cancel_left, ha]
  have h8 : ∀ (n : ℕ) (hn : n < 32) (h : 64 + n < 96), a ⟨64 + n, h⟩ = A (ix2 ⟨n, hn⟩ s) := fun n hn _ => ha ⟨n, hn⟩
  have h72 : ∀ (n : ℕ) (hn : 8 + n < 32) (h : 72 + n < 96), a ⟨72 + n, h⟩ = A (ix2 ⟨8 + n, hn⟩ s) := fun n hn _ =>
    (congrArg a (Fin.ext (by show 72 + n = 64 + (8 + n); omega))).trans (ha ⟨8 + n, hn⟩)
  refine congrArg (fun z => A (ix2 i s) * co (ix2 i s) + z * si (ix2 i s)) ?_
  by_cases h1 : i.val < 8
  · rw [dif_pos h1, dif_pos h1, h72 _ (by omega)]
  rw [dif_neg h1, dif_neg h1]
  by_cases h2 : i.val < 16
  · rw [dif_pos h2, dif_pos h2, h8 _ (by omega)]
  rw [dif_neg h2, dif_neg h2]
  by_cases h3 : i.val < 24
  · rw [dif_pos h3, dif_pos h3, h72 _ (by omega)]
  rw [dif_neg h3, dif_neg h3, h8 _ (by omega)]

theorem gn_at (g : Vec Ideal S64x128 .f32) (G : Fin 64 → EReal) (hg : ∀ c l, g (ix2 c l) = G c) (c : Fin 64) (s : Fin 256) :
    k0_pay41 g (ix2 c s) = G c := by
  pointwise [k0_pay41, hg]
  exact ite_self _

theorem kTile_at (kn : FVec Ideal S512x256 .f32) (kr : FVec Ideal S32x256 .f32) (gn : Vec Ideal S64x128 .f32) (gr : Vec Ideal S32x128 .f32)
    (G : Fin 96 → EReal) (hn : ∀ c l, gn (ix2 c l) = G ⟨c.val, by omega⟩)
    (co si : Vec Ideal S32x256 .f32) (h : Fin 8) (s : Fin 256) (c : Fin 128) :
    kTile kn kr gn gr co si h (ix4 0 0 s c) =
      if g : c.val < 64 then kn (ix2 ⟨h.val * 64 + c.val, by omega⟩ s) * G ⟨c.val, by omega⟩ * kRoot kn kr h (ix2 0 s)
      else if g' : c.val < 96 then k0_pay40 kr gr co si (ix2 ⟨c.val - 64, by omega⟩ s) * kRoot kn kr h (ix2 0 s)
      else 0 := by
  unfold kTile
  have hG := gn_at gn (fun c => G ⟨c.val, by omega⟩) hn
  generalize k0_pay41 gn = GN at hG
  pointwise [k0_pay43, hG]
  by_cases h64 : c.val < 64
  · rw [dif_pos h64, dif_pos h64]
  rw [dif_neg h64, dif_neg h64]
  by_cases h96 : c.val < 96
  · rw [dif_pos (by omega), dif_pos h96]
  rw [dif_neg (by omega), dif_neg h96]

theorem vTile_at (vT : FVec Ideal S512x256 .f32) (h : Fin 8) (c : Fin 80) (s : Fin 256) :
    vTile vT h (ix4 0 0 c s) = if g : c.val < 64 then vT (ix2 ⟨h.val * 64 + c.val, by omega⟩ s) else 1 := by
  pointwise [vTile, k0_pay42, Ideal.ofBits_one_f32]

theorem zTile_at (f : FVec Ideal S256x512 .bf16) (cs : Vec Ideal S128x256 .bf16) (g : Fin 4) (p : Fin 2) (s : Fin 256) (j : Fin 128) :
    zTile f cs g p (ix4 0 0 s j) = ∑ i : Fin 128, f (ix2 s ⟨g.val * 128 + i.val, by omega⟩) * cs (ix2 i ⟨p.val * 128 + j.val, by omega⟩) := by
  pointwise [zTile]

theorem gTile_at (hb : FVec Ideal S256x1024 .bf16) (w : Vec Ideal S1x1024x256 .bf16) (b : Vec Ideal S1x256 .f32) (s j : Fin 256) :
    gTile hb w b (ix3 0 s j) = Ideal.logistic ((∑ k : Fin 1024, hb (ix2 s k) * w (ix3 0 k j)) + b (ix2 0 j)) := by
  pointwise [gTile, k0_pay10, k0_pay9]

theorem qTile_at (qd : FVec Ideal S768x256 .f32) (g : Vec Ideal S96x128 .f32) (co si : Vec Ideal S32x256 .f32) (h : Fin 8) (c : Fin 128) (s : Fin 256) :
    qTile qd g co si h (ix4 0 0 c s) = qRope (qNorm qd g h) co si (ix2 c s) := by
  pointwise [qTile]

end Proj

end
-- ==== Proof.Proj.Load.lean ====
/- The loads and the tiles of the third call: the four parts of the token tile and the eight heads (chunks of gates; groups and
   parts of the transform). -/
module

public import proofs.«01_k».proof.Proof.Proj.RunKI
public import proofs.«01_k».proof.Proof.Proj.Heads
public import Idealize.ShloMosaic.Lib.Pipeline.ValueKit.Tiles

@[expose] public section

set_option maxRecDepth 16384

noncomputable section

namespace Proj

open Cert.Kernel3Ideal Cert.Kernel3Ideal.Gen Idealize.ShloMosaic Idealize.ShloMosaic.TcCoe Idealize.SL.Sem

variable {F : FTy → Type} [FloatOps F] [Named F]

/-- The part of the token tile that piece `k` of 32 (the last store first) lies in. -/
def pt (k : ℕ) : Fin 4 := ⟨(31 - k) / 8, by omega⟩

/-- The head (chunk; group and part) of piece `k`. -/
def hd (k : ℕ) : Fin 8 := ⟨(31 - k) % 8, by omega⟩

def grp (h : Fin 8) : Fin 4 := ⟨h.val / 2, by omega⟩

def reim (h : Fin 8) : Fin 2 := ⟨h.val % 2, by omega⟩

/-! ## What a part loads -/

theorem inbX (p : Fin 4) : ∀ a, (![0, p.val * 256, 0] : Fin 3 → Nat) a + S1x256x1024.size a ≤ S1x1024x1024.size a := by revert p; decide
theorem inbC (p : Fin 4) : ∀ a, (![0, p.val * 256] : Fin 2 → Nat) a + S32x256.size a ≤ S32x1024.size a := by revert p; decide
theorem inbW (h : Fin 8) : ∀ a, (![h.val, 0, 0] : Fin 3 → Nat) a + S1x1024x256.size a ≤ S8x1024x256.size a := by revert h; decide
theorem inbB (h : Fin 8) : ∀ a, (![0, h.val * 256] : Fin 2 → Nat) a + S1x256.size a ≤ S1x2048.size a := by revert h; decide

/-- The modulation row of the batch. -/
def ldR (i : grid0.Coords) (x1 : Vec F S8x6144 .f32) : Vec F S1x6144 .f32 :=
  View.ld x1 (Rect.unit (s := S8x6144) (k0_off1 i) S1x6144.size (k0_off1_inb i))

/-- The part's rows of the input. -/
def ldX (p : Fin 4) (x0 : Vec F S1x1024x1024 .f32) : Vec F S1x256x1024 .f32 :=
  View.ld x0 (Rect.unit (s := S1x1024x1024) ![0, p.val * 256, 0] S1x256x1024.size (inbX p))

/-- The part's columns of a table of angles. -/
def ldC (p : Fin 4) (x : Vec F S32x1024 .f32) : Vec F S32x256 .f32 :=
  View.ld x (Rect.unit (s := S32x1024) ![0, p.val * 256] S32x256.size (inbC p))

/-- A chunk of the gates' weights. -/
def ldW (h : Fin 8) (x5 : Vec F S8x1024x256 .bf16) : Vec F S1x1024x256 .bf16 :=
  View.ld x5 (Rect.unit (s := S8x1024x256) ![h.val, 0, 0] S1x1024x256.size (inbW h))

/-- A chunk of the gates' biases. -/
def ldB (h : Fin 8) (x6 : Vec F S1x2048 .f32) : Vec F S1x256 .f32 :=
  View.ld x6 (Rect.unit (s := S1x2048) ![0, h.val * 256] S1x256.size (inbB h))

/-! ## Where the tiles lie -/

theorem inbQ (p : Fin 4) (h : Fin 8) : ∀ a, (![0, h.val, 0, p.val * 256] : Fin 4 → Nat) a + S1x1x128x256.size a ≤ S1x8x128x1024.size a := by
  revert p h; decide
theorem inbK (p : Fin 4) (h : Fin 8) : ∀ a, (![0, h.val, p.val * 256, 0] : Fin 4 → Nat) a + S1x1x256x128.size a ≤ S1x8x1024x128.size a := by
  revert p h; decide
theorem inbV (p : Fin 4) (h : Fin 8) : ∀ a, (![0, h.val, 0, p.val * 256] : Fin 4 → Nat) a + S1x1x80x256.size a ≤ S1x8x80x1024.size a := by
  revert p h; decide
theorem inbG (p : Fin 4) (h : Fin 8) : ∀ a, (![0, p.val * 256, h.val * 256] : Fin 3 → Nat) a + S1x256x256.size a ≤ S1x1024x2048.size a := by
  revert p h; decide
theorem inbZ (p : Fin 4) (h : Fin 8) : ∀ a, (![0, (reim h).val, p.val * 256, (grp h).val * 128] : Fin 4 → Nat) a + S1x1x256x128.size a ≤ S1x2x1024x512.size a := by
  revert p h; decide

/-- A family over parts and heads, listed. -/
theorem ofFn_pieces {α : Type*} (g : Fin 4 → Fin 8 → α) : (List.ofFn fun k : Fin 32 => g (pt k.val) (hd k.val)) =
    [g 3 7, g 3 6, g 3 5, g 3 4, g 3 3, g 3 2, g 3 1, g 3 0, g 2 7, g 2 6, g 2 5, g 2 4, g 2 3, g 2 2, g 2 1, g 2 0,
      g 1 7, g 1 6, g 1 5, g 1 4, g 1 3, g 1 2, g 1 1, g 1 0, g 0 7, g 0 6, g 0 5, g 0 4, g 0 3, g 0 2, g 0 1, g 0 0] := rfl

theorem cons_of {α : Type*} {a b : α} {L M : List α} (h : a = b) (hL : L = M) : a :: L = b :: M := by rw [h, hL]

end Proj

end
-- ==== Proof.Proj.Blocks.lean ====
/- The third call's blocks at grid point `t` (batch `t / 4`, tokens from `1024 * (t % 4)`), and what a part of the token tile
   loads of them, at an index. -/
module

public import proofs.«01_k».proof.Proof.Proj.Host
public import proofs.«01_k».proof.Proof.Proj.Angles
public import proofs.«01_k».proof.Proof.Proj.Load
public import Idealize.ShloMosaic.Lib.Pipeline.ValueKit.Geometry

@[expose] public section

set_option maxRecDepth 16384

noncomputable section

namespace Proj

open Cert.Kernel3Ideal Cert.Kernel3Ideal.Gen Idealize.ShloMosaic Idealize.ShloMosaic.TcCoe Idealize.SL.Sem

variable (m : (ℓ : Loc nD τ sig) → Buf (Elt Ideal) ℓ) (d : Dev nD)

/-- The batch of a grid point, and the token at place `s` of part `p` of its tile. -/
def tb (t : Fin cfg0.N) : Fin 4 := ⟨t.val / 4, by have h := t.isLt; have : cfg0.N = 16 := N_0; omega⟩
def tok (t : Fin cfg0.N) (s : Fin 1024) : Fin 4096 := ⟨t.val % 4 * 1024 + s.val, by omega⟩
abbrev tokp (t : Fin cfg0.N) (p : Fin 4) (s : Fin 256) : Fin 4096 := tok t ⟨p.val * 256 + s.val, by omega⟩

theorem i0 : ∀ t : Fin cfg0.N, win0_0.index t = ![t.val / 4, t.val % 4, 0] :=
  (by decide +kernel : ∀ t : Fin grid0.N, win0_0.index t = ![t.val / 4, t.val % 4, 0])
theorem i1 : ∀ t : Fin cfg0.N, win0_1.index t = ![0, 0] :=
  (by decide +kernel : ∀ t : Fin grid0.N, win0_1.index t = ![0, 0])
theorem i2 : ∀ t : Fin cfg0.N, win0_2.index t = ![0, 0] :=
  (by decide +kernel : ∀ t : Fin grid0.N, win0_2.index t = ![0, 0])
theorem i3 : ∀ t : Fin cfg0.N, win0_3.index t = ![0, 0] :=
  (by decide +kernel : ∀ t : Fin grid0.N, win0_3.index t = ![0, 0])
theorem i4 : ∀ t : Fin cfg0.N, win0_4.index t = ![0, 0] :=
  (by decide +kernel : ∀ t : Fin grid0.N, win0_4.index t = ![0, 0])
theorem i5 : ∀ t : Fin cfg0.N, win0_5.index t = ![0, 0, 0] :=
  (by decide +kernel : ∀ t : Fin grid0.N, win0_5.index t = ![0, 0, 0])
theorem i6 : ∀ t : Fin cfg0.N, win0_6.index t = ![0, 0] :=
  (by decide +kernel : ∀ t : Fin grid0.N, win0_6.index t = ![0, 0])
theorem i7 : ∀ t : Fin cfg0.N, win0_7.index t = ![0, 0] :=
  (by decide +kernel : ∀ t : Fin grid0.N, win0_7.index t = ![0, 0])
theorem i8 : ∀ t : Fin cfg0.N, win0_8.index t = ![0, 0] :=
  (by decide +kernel : ∀ t : Fin grid0.N, win0_8.index t = ![0, 0])
theorem i9 : ∀ t : Fin cfg0.N, win0_9.index t = ![0, 0] :=
  (by decide +kernel : ∀ t : Fin grid0.N, win0_9.index t = ![0, 0])
theorem i10 : ∀ t : Fin cfg0.N, win0_10.index t = ![0, 0] :=
  (by decide +kernel : ∀ t : Fin grid0.N, win0_10.index t = ![0, 0])
theorem i11 : ∀ t : Fin cfg0.N, win0_11.index t = ![0, 0] :=
  (by decide +kernel : ∀ t : Fin grid0.N, win0_11.index t = ![0, 0])
theorem i12 : ∀ t : Fin cfg0.N, win0_12.index t = ![0, 0] :=
  (by decide +kernel : ∀ t : Fin grid0.N, win0_12.index t = ![0, 0])
theorem i13 : ∀ t : Fin cfg0.N, win0_13.index t = ![0, 0] :=
  (by decide +kernel : ∀ t : Fin grid0.N, win0_13.index t = ![0, 0])
theorem i14 : ∀ t : Fin cfg0.N, win0_14.index t = ![0, 0] :=
  (by decide +kernel : ∀ t : Fin grid0.N, win0_14.index t = ![0, 0])
theorem i15 : ∀ t : Fin cfg0.N, win0_15.index t = ![0, 0] :=
  (by decide +kernel : ∀ t : Fin grid0.N, win0_15.index t = ![0, 0])
theorem i16 : ∀ t : Fin cfg0.N, win0_16.index t = ![0, 0] :=
  (by decide +kernel : ∀ t : Fin grid0.N, win0_16.index t = ![0, 0])
theorem i17 : ∀ t : Fin cfg0.N, win0_17.index t = ![0, t.val % 4] :=
  (by decide +kernel : ∀ t : Fin grid0.N, win0_17.index t = ![0, t.val % 4])
theorem i18 : ∀ t : Fin cfg0.N, win0_18.index t = ![0, t.val % 4] :=
  (by decide +kernel : ∀ t : Fin grid0.N, win0_18.index t = ![0, t.val % 4])
theorem i19 : ∀ t : Fin cfg0.N, win0_19.index t = ![t.val / 4, 0, t.val % 4, 0] :=
  (by decide +kernel : ∀ t : Fin grid0.N, win0_19.index t = ![t.val / 4, 0, t.val % 4, 0])
theorem i20 : ∀ t : Fin cfg0.N, win0_20.index t = ![t.val / 4, t.val % 4, 0] :=
  (by decide +kernel : ∀ t : Fin grid0.N, win0_20.index t = ![t.val / 4, t.val % 4, 0])
theorem i21 : ∀ t : Fin cfg0.N, win0_21.index t = ![t.val / 4, 0, 0, t.val % 4] :=
  (by decide +kernel : ∀ t : Fin grid0.N, win0_21.index t = ![t.val / 4, 0, 0, t.val % 4])
theorem i22 : ∀ t : Fin cfg0.N, win0_22.index t = ![t.val / 4, 0, t.val % 4, 0] :=
  (by decide +kernel : ∀ t : Fin grid0.N, win0_22.index t = ![t.val / 4, 0, t.val % 4, 0])
theorem i23 : ∀ t : Fin cfg0.N, win0_23.index t = ![t.val / 4, 0, 0, t.val % 4] :=
  (by decide +kernel : ∀ t : Fin grid0.N, win0_23.index t = ![t.val / 4, 0, 0, t.val % 4])

/-- The row of the modulation table a grid point loads. -/
theorem off1 : ∀ t : Fin cfg0.N, k0_off1 (grid0.coords t) = ![t.val / 4, 0] :=
  (by decide +kernel : ∀ t : Fin grid0.N, k0_off1 (grid0.coords t) = ![t.val / 4, 0])

theorem blk_x (t : Fin cfg0.N) (s : Fin 1024) (j : Fin 1024) : iblk m d 0 t (ix3 0 s j) = ax m d (ix3 (tb t) (tok t s) j) := by
  refine Eq.trans ?_ (congrFun (V_x m d) _)
  blk_simp [iblk]
  refine congrArg (V m d main_arg0) ?_
  funext a
  refine Fin.ext ?_
  fin_cases a <;> blk_simp [i0] <;> simp [tb, tok]

theorem blk_mo (t : Fin cfg0.N) (b : Fin 8) (j : Fin 6144) : iblk m d 1 t (ix2 b j) = amo m d (ix2 b j) := by
  refine Eq.trans ?_ (congrFun (V_mo m d) _)
  blk_simp [iblk]
  refine congrArg (V m d main_arg1) ?_
  funext a
  refine Fin.ext ?_
  fin_cases a <;> blk_simp [i1] <;> simp

theorem blk_n (t : Fin cfg0.N) (j : Fin 1024) : iblk m d 2 t (ix2 0 j) = an m d (ix2 0 j) := by
  refine Eq.trans ?_ (V_n m d j)
  blk_simp [iblk]
  refine congrArg (V m d main_v82) ?_
  funext a
  refine Fin.ext ?_
  fin_cases a <;> blk_simp [i2] <;> simp

theorem blk_wf (t : Fin cfg0.N) (k : Fin 1024) (c : Fin 512) : iblk m d 3 t (ix2 k c) = aw m d (ix3 0 k ⟨c.val, by omega⟩) := by
  refine Eq.trans ?_ (V_wf m d k c)
  blk_simp [iblk]
  refine congrArg (V m d main_v2) ?_
  funext a
  refine Fin.ext ?_
  fin_cases a <;> blk_simp [i3] <;> simp

theorem blk_dft (t : Fin cfg0.N) (i : Fin 128) (p : Fin 2) (j : Fin 128) : iblk m d 4 t (ix2 i ⟨p.val * 128 + j.val, by omega⟩) = Ref.dft i p j := by
  refine Eq.trans ?_ (V_dft m d i p j)
  blk_simp [iblk]
  refine congrArg (V m d main_v80) ?_
  funext a
  refine Fin.ext ?_
  fin_cases a <;> blk_simp [i4] <;> simp

theorem blk_wg (t : Fin cfg0.N) (h : Fin 8) (k : Fin 1024) (c : Fin 256) : iblk m d 5 t (ix3 h k c) = aw m d (ix3 0 k ⟨928 + (h.val * 256 + c.val), by omega⟩) := by
  refine Eq.trans ?_ (V_wg m d h k c)
  blk_simp [iblk]
  refine congrArg (V m d main_v10) ?_
  funext a
  refine Fin.ext ?_
  fin_cases a <;> blk_simp [i5] <;> simp

theorem blk_bg (t : Fin cfg0.N) (j : Fin 2048) : iblk m d 6 t (ix2 0 j) = abg m d (ix2 0 j) := by
  refine Eq.trans ?_ (V_bg m d j)
  blk_simp [iblk]
  refine congrArg (V m d main_v84) ?_
  funext a
  refine Fin.ext ?_
  fin_cases a <;> blk_simp [i6] <;> simp

theorem blk_wq (t : Fin cfg0.N) (k : Fin 1024) (c : Fin 256) : iblk m d 7 t (ix2 k c) = aw m d (ix3 0 k ⟨512 + c.val, by omega⟩) := by
  refine Eq.trans ?_ (V_wq m d k c)
  blk_simp [iblk]
  refine congrArg (V m d main_v4) ?_
  funext a
  refine Fin.ext ?_
  fin_cases a <;> blk_simp [i7] <;> simp

theorem blk_qn (t : Fin cfg0.N) (j : Fin 256) : iblk m d 8 t (ix2 0 j) = aqn m d (ix2 0 j) := by
  refine Eq.trans ?_ (V_qn m d j)
  blk_simp [iblk]
  refine congrArg (V m d main_v86) ?_
  funext a
  refine Fin.ext ?_
  fin_cases a <;> blk_simp [i8] <;> simp

theorem blk_wqb (t : Fin cfg0.N) (c : Fin 768) (k : Fin 256) : iblk m d 9 t (ix2 c k) = awq m d (ix3 0 k c) := by
  refine Eq.trans ?_ (V_wqb m d c k)
  blk_simp [iblk]
  refine congrArg (V m d main_v89) ?_
  funext a
  refine Fin.ext ?_
  fin_cases a <;> blk_simp [i9] <;> simp

theorem blk_qg (t : Fin cfg0.N) (c : Fin 96) (l : Fin 128) : iblk m d 10 t (ix2 c l) = Ideal.div (aqg m d (ix2 0 c)) Ref.scale := by
  refine Eq.trans ?_ (V_qg m d c l)
  blk_simp [iblk]
  refine congrArg (V m d main_v27) ?_
  funext a
  refine Fin.ext ?_
  fin_cases a <;> blk_simp [i10] <;> simp

theorem blk_wkv (t : Fin cfg0.N) (k : Fin 1024) (c : Fin 256) : iblk m d 11 t (ix2 k c) = aw m d (ix3 0 k ⟨768 + c.val, by omega⟩) := by
  refine Eq.trans ?_ (V_wkv m d k c)
  blk_simp [iblk]
  refine congrArg (V m d main_v6) ?_
  funext a
  refine Fin.ext ?_
  fin_cases a <;> blk_simp [i11] <;> simp

theorem blk_kn (t : Fin cfg0.N) (j : Fin 128) : iblk m d 12 t (ix2 0 j) = akn m d (ix2 0 j) := by
  refine Eq.trans ?_ (V_kn m d j)
  blk_simp [iblk]
  refine congrArg (V m d main_v91) ?_
  funext a
  refine Fin.ext ?_
  fin_cases a <;> blk_simp [i12] <;> simp

theorem blk_wkb (t : Fin cfg0.N) (h : Fin 8) (c : Fin 64) (k : Fin 128) : iblk m d 13 t (ix2 ⟨h.val * 64 + c.val, by omega⟩ k) = awk m d (ix3 0 k ⟨h.val * 128 + c.val, by omega⟩) := by
  refine Eq.trans ?_ (V_wkb m d h c k)
  blk_simp [iblk]
  refine congrArg (V m d main_v16) ?_
  funext a
  refine Fin.ext ?_
  fin_cases a <;> blk_simp [i13] <;> simp

theorem blk_wv (t : Fin cfg0.N) (h : Fin 8) (c : Fin 64) (k : Fin 128) : iblk m d 14 t (ix2 ⟨h.val * 64 + c.val, by omega⟩ k) = awk m d (ix3 0 k ⟨h.val * 128 + (64 + c.val), by omega⟩) := by
  refine Eq.trans ?_ (V_wv m d h c k)
  blk_simp [iblk]
  refine congrArg (V m d main_v19) ?_
  funext a
  refine Fin.ext ?_
  fin_cases a <;> blk_simp [i14] <;> simp

theorem blk_kgn (t : Fin cfg0.N) (c : Fin 64) (l : Fin 128) : iblk m d 15 t (ix2 c l) = akg m d (ix2 0 ⟨c.val, by omega⟩) := by
  refine Eq.trans ?_ (V_kgn m d c l)
  blk_simp [iblk]
  refine congrArg (V m d main_v31) ?_
  funext a
  refine Fin.ext ?_
  fin_cases a <;> blk_simp [i15] <;> simp

theorem blk_kgr (t : Fin cfg0.N) (c : Fin 32) (l : Fin 128) : iblk m d 16 t (ix2 c l) = akg m d (ix2 0 ⟨64 + c.val, by omega⟩) := by
  refine Eq.trans ?_ (V_kgr m d c l)
  blk_simp [iblk]
  refine congrArg (V m d main_v35) ?_
  funext a
  refine Fin.ext ?_
  fin_cases a <;> blk_simp [i16] <;> simp

theorem blk_cos (t : Fin cfg0.N) (i : Fin 32) (s : Fin 1024) : iblk m d 17 t (ix2 i s) = Ideal.cos (Ref.ang (tok t s) i) := by
  refine Eq.trans ?_ (V_cos m d i (tok t s))
  blk_simp [iblk]
  refine congrArg (V m d main_v92) ?_
  funext a
  refine Fin.ext ?_
  fin_cases a <;> blk_simp [i17] <;> simp [tb, tok]

theorem blk_sin (t : Fin cfg0.N) (i : Fin 32) (s : Fin 1024) : iblk m d 18 t (ix2 i s) = Ideal.sin (Ref.ang (tok t s) i) := by
  refine Eq.trans ?_ (V_sin m d i (tok t s))
  blk_simp [iblk]
  refine congrArg (V m d main_v93) ?_
  funext a
  refine Fin.ext ?_
  fin_cases a <;> blk_simp [i18] <;> simp [tb, tok]

/-! ## What a part loads -/

theorem in_row (t : Fin cfg0.N) (k : Fin 6144) :
    ldR (grid0.coords t) (iblk m d 1 t) (ix2 0 k) = amo m d (ix2 ⟨(tb t).val, by omega⟩ k) := by
  refine Eq.trans ?_ (blk_mo m d t ⟨(tb t).val, by omega⟩ k)
  refine congrArg (iblk m d 1 t) (funext fun a => Fin.ext ?_)
  have h0 : k0_off1 (grid0.coords t) 0 = t.val / 4 := congrFun (off1 t) 0
  have h1 : k0_off1 (grid0.coords t) 1 = 0 := congrFun (off1 t) 1
  fin_cases a
  · show k0_off1 (grid0.coords t) 0 + 1 * 0 = t.val / 4
    omega
  · show k0_off1 (grid0.coords t) 1 + 1 * k.val = k.val
    omega

theorem in_x (t : Fin cfg0.N) (p : Fin 4) (s : Fin 256) (j : Fin 1024) :
    ldX p (iblk m d 0 t) (ix3 0 s j) = ax m d (ix3 (tb t) (tokp t p s) j) := by
  refine Eq.trans ?_ (blk_x m d t ⟨p.val * 256 + s.val, by omega⟩ j)
  refine congrArg (iblk m d 0 t) (funext fun a => Fin.ext ?_)
  fin_cases a
  · rfl
  · show p.val * 256 + 1 * s.val = p.val * 256 + s.val
    omega
  · show 0 + 1 * j.val = j.val
    omega

theorem ld_cols (w : Vec Ideal S32x1024 .f32) (p : Fin 4) (i : Fin 32) (s : Fin 256) :
    ldC p w (ix2 i s) = w (ix2 i ⟨p.val * 256 + s.val, by omega⟩) := by
  refine congrArg w (funext fun a => Fin.ext ?_)
  fin_cases a
  · show 0 + 1 * i.val = i.val
    omega
  · show p.val * 256 + 1 * s.val = p.val * 256 + s.val
    omega

theorem in_cos (t : Fin cfg0.N) (p : Fin 4) (i : Fin 32) (s : Fin 256) :
    ldC p (iblk m d 17 t) (ix2 i s) = Ideal.cos (Ref.ang (tokp t p s) i) := (ld_cols _ p i s).trans (blk_cos m d t i _)

theorem in_sin (t : Fin cfg0.N) (p : Fin 4) (i : Fin 32) (s : Fin 256) :
    ldC p (iblk m d 18 t) (ix2 i s) = Ideal.sin (Ref.ang (tokp t p s) i) := (ld_cols _ p i s).trans (blk_sin m d t i _)

theorem in_wg (t : Fin cfg0.N) (h : Fin 8) (k : Fin 1024) (c : Fin 256) :
    ldW h (iblk m d 5 t) (ix3 0 k c) = aw m d (ix3 0 k ⟨928 + (h.val * 256 + c.val), by omega⟩) := by
  refine Eq.trans ?_ (blk_wg m d t h k c)
  refine congrArg (iblk m d 5 t) (funext fun a => Fin.ext ?_)
  fin_cases a
  · show h.val + 1 * 0 = h.val
    omega
  · show 0 + 1 * k.val = k.val
    omega
  · show 0 + 1 * c.val = c.val
    omega

theorem in_bg (t : Fin cfg0.N) (h : Fin 8) (c : Fin 256) :
    ldB h (iblk m d 6 t) (ix2 0 c) = abg m d (ix2 0 ⟨h.val * 256 + c.val, by omega⟩) := by
  refine Eq.trans ?_ (blk_bg m d t ⟨h.val * 256 + c.val, by omega⟩)
  refine congrArg (iblk m d 6 t) (funext fun a => Fin.ext ?_)
  fin_cases a
  · rfl
  · show h.val * 256 + 1 * c.val = h.val * 256 + c.val
    omega

end Proj

end
-- ==== Proof.Proj.Part.lean ====
/- What a part of the third call's token tile computes before the heads, at an index: the projections, the latents' normalisation
   and the heads' raw channels, of rows of the arguments that its loads hold. -/
module

public import proofs.«01_k».proof.Proof.Proj.Heads

@[expose] public section

set_option maxRecDepth 16384

noncomputable section

namespace Proj

open Cert.Kernel3Ideal Cert.Kernel3Ideal.Gen Idealize.ShloMosaic Idealize.ShloMosaic.TcCoe Idealize.SL.Sem

/-- A mean over `n` elements as a product with the pattern of `1 / n`. -/
theorem div_of (N M : BitVec 32) (n : ℝ) (hn : n ≠ 0) (e : Ideal.ofBits .f32 N = (n : EReal)) (e' : Ideal.ofBits .f32 M = ((n⁻¹ : ℝ) : EReal)) (x : EReal) :
    Ideal.div x (Ideal.ofBits .f32 N) = x * Ideal.ofBits .f32 M := by
  rw [e, e']
  unfold Ideal.div
  rw [if_neg (by exact_mod_cast hn), EReal.coe_inv]

theorem div_1024 (x : EReal) : Ideal.div x (Ideal.ofBits .f32 0x44800000#32) = x * Ideal.ofBits .f32 0x3A800000#32 := by
  refine div_of _ _ 1024 (by norm_num) ?_ ?_ x
  · simp [Ideal.ofBits, Ideal.ieee]
    rw [← EReal.coe_mul]
    norm_num
  · simp [Ideal.ofBits, Ideal.ieee]
    rw [← EReal.coe_mul]
    norm_num

theorem div_256 (x : EReal) : Ideal.div x (Ideal.ofBits .f32 0x43800000#32) = x * Ideal.ofBits .f32 0x3B800000#32 := by
  refine div_of _ _ 256 (by norm_num) ?_ ?_ x
  · simp [Ideal.ofBits, Ideal.ieee]
    rw [← EReal.coe_mul]
    norm_num
  · simp [Ideal.ofBits, Ideal.ieee]
    rw [← EReal.coe_mul]
    norm_num

theorem div_128 (x : EReal) : Ideal.div x (Ideal.ofBits .f32 0x43000000#32) = x * Ideal.ofBits .f32 0x3C000000#32 := by
  refine div_of _ _ 128 (by norm_num) ?_ ?_ x
  · simp [Ideal.ofBits, Ideal.ieee]
    rw [← EReal.coe_mul]
    norm_num
  · simp [Ideal.ofBits, Ideal.ieee]
    rw [← EReal.coe_mul]
    norm_num

theorem div_96 (x : EReal) : Ideal.div x (Ideal.ofBits .f32 0x42C00000#32) = x * inv96 := by
  have e : Ideal.ofBits .f32 0x42C00000#32 = ((96 : ℝ) : EReal) := by
    simp [Ideal.ofBits, Ideal.ieee]
    rw [← EReal.coe_mul]
    norm_num
  rw [e]
  unfold Ideal.div inv96
  rw [if_neg (by exact_mod_cast (by norm_num : (96 : ℝ) ≠ 0)), ← EReal.coe_inv, one_div]

theorem row0 (r : Vec Ideal S1x6144 .f32) (j : Fin 1024) : k0_pay1 r (ix2 0 j) = r (ix2 0 ⟨j.val, by omega⟩) := by
  pointwise [k0_pay1]
theorem row1 (r : Vec Ideal S1x6144 .f32) (j : Fin 1024) : k0_pay1 r (ix2 1 j) = r (ix2 0 ⟨1024 + j.val, by omega⟩) := by
  pointwise [k0_pay1]

theorem pay2_at (r : Vec Ideal S1x6144 .f32) (x : Vec Ideal S1x256x1024 .f32) (n : Vec Ideal S1x1024 .f32) (s : Fin 256) (j : Fin 1024) :
    k0_pay2 r x n (ix2 s j) = x (ix3 0 s j) *
      Ideal.rsqrt ((∑ k : Fin 1024, x (ix3 0 s k) * x (ix3 0 s k)) * Ideal.ofBits .f32 0x3A800000#32 + Ref.eps)
      * (n (ix2 0 j) * (1 + r (ix2 0 ⟨1024 + j.val, by omega⟩))) + r (ix2 0 ⟨j.val, by omega⟩) := by
  rw [← row0 r j, ← row1 r j]
  unfold k0_pay2
  generalize k0_pay1 r = v8
  pointwise [Ideal.ofBits_one_f32, Ref.eps]

theorem pay3_at (r : Vec Ideal S1x6144 .f32) (x : Vec Ideal S1x256x1024 .f32) (n : Vec Ideal S1x1024 .f32) (w : Vec Ideal S1024x256 .bf16)
    (s j : Fin 256) : k0_pay3 r x n w (ix2 s j) = ∑ k : Fin 1024, k0_pay2 r x n (ix2 s k) * w (ix2 k j) := by
  unfold k0_pay3
  generalize k0_pay2 r x n = H
  pointwise

theorem pay4_at (r : Vec Ideal S1x6144 .f32) (x : Vec Ideal S1x256x1024 .f32) (n : Vec Ideal S1x1024 .f32) (w : Vec Ideal S1024x256 .bf16)
    (s j : Fin 256) : k0_pay4 r x n w (ix2 s j) = ∑ k : Fin 1024, k0_pay2 r x n (ix2 s k) * w (ix2 k j) := by
  unfold k0_pay4
  generalize k0_pay2 r x n = H
  pointwise

theorem pay5_at (H : FVec Ideal S256x1024 .bf16) (w : Vec Ideal S1024x512 .bf16) (s : Fin 256) (j : Fin 512) :
    k0_pay5 H w (ix2 s j) = ∑ k : Fin 1024, H (ix2 s k) * w (ix2 k j) := by
  pointwise [k0_pay5]

theorem pay6_at (P : FVec Ideal S256x256 .f32) (g : Vec Ideal S1x256 .f32) (k s : Fin 256) :
    k0_pay6 P g (ix2 k s) = Ref.rms 0x43800000#32 (fun k : Fin 256 => P (ix2 s k)) (fun k => g (ix2 0 k)) k := by
  unfold Ref.rms
  rw [div_256]
  pointwise [k0_pay6, Ref.eps]

theorem pay7_at (P : FVec Ideal S256x256 .f32) (g : Vec Ideal S1x128 .f32) (k : Fin 128) (s : Fin 256) :
    k0_pay7 P g (ix2 k s) = Ref.rms 0x43000000#32 (fun k : Fin 128 => P (ix2 s ⟨k.val, by omega⟩)) (fun k => g (ix2 0 k)) k := by
  unfold Ref.rms
  rw [div_128]
  pointwise [k0_pay7, Ref.eps]

theorem pay8_at (P : FVec Ideal S256x256 .f32) (i : Fin 32) (s : Fin 256) :
    k0_pay8 P (ix2 i s) = P (ix2 s ⟨128 + i.val, by omega⟩) := by
  pointwise [k0_pay8]

theorem pay11_at (Q : FVec Ideal S256x256 .bf16) (w : Vec Ideal S768x256 .bf16) (c : Fin 768) (s : Fin 256) :
    k0_pay11 Q w (ix2 c s) = ∑ k : Fin 256, Q (ix2 k s) * w (ix2 c k) := by
  pointwise [k0_pay11]
  exact Finset.sum_congr rfl fun k _ => mul_comm _ _

theorem pay12_at (Q : FVec Ideal S128x256 .bf16) (w : Vec Ideal S512x128 .bf16) (c : Fin 512) (s : Fin 256) :
    k0_pay12 Q w (ix2 c s) = ∑ k : Fin 128, Q (ix2 k s) * w (ix2 c k) := by
  pointwise [k0_pay12]
  exact Finset.sum_congr rfl fun k _ => mul_comm _ _

theorem pay13_at (Q : FVec Ideal S128x256 .bf16) (w : Vec Ideal S512x128 .bf16) (c : Fin 512) (s : Fin 256) :
    k0_pay13 Q w (ix2 c s) = ∑ k : Fin 128, Q (ix2 k s) * w (ix2 c k) := by
  pointwise [k0_pay13]
  exact Finset.sum_congr rfl fun k _ => mul_comm _ _

end Proj

end
-- ==== Proof.Proj.Algebra.lean ====
/- What the third call's heads rest on: the rotation of a scaled vector is the scaled rotation, for a finite factor that is not
   negative; and the two such factors, a head's inverse root and the inverse of the queries' scale. -/
module

public import proofs.«01_k».proof.Proof.Proj.Part

@[expose] public section

noncomputable section

namespace Proj

open Idealize.ShloMosaic Idealize.ShloMosaic.TcCoe

theorem rope_mul (a : Fin 96 → EReal) (co si : Fin 32 → EReal) (r : EReal) (h0 : 0 ≤ r) (ht : r ≠ ⊤) (c : Fin 96) :
    Ref.rope (fun c => a c * r) co si c = Ref.rope a co si c * r := by
  have hturn : ∀ i, Ref.turned (fun c => a c * r) i = Ref.turned a i * r := by
    intro i
    unfold Ref.turned
    by_cases h1 : i.val < 8
    · rw [dif_pos h1, dif_pos h1, EReal.neg_mul]
    rw [dif_neg h1, dif_neg h1]
    by_cases h2 : i.val < 16
    · rw [dif_pos h2, dif_pos h2]
    rw [dif_neg h2, dif_neg h2]
    by_cases h3 : i.val < 24
    · rw [dif_pos h3, dif_pos h3, EReal.neg_mul]
    rw [dif_neg h3, dif_neg h3]
  unfold Ref.rope
  by_cases h : c.val < 64
  · rw [dif_pos h, dif_pos h]
  · rw [dif_neg h, dif_neg h, hturn, EReal.right_distrib_of_nonneg_of_ne_top h0 ht, mul_right_comm, mul_right_comm (Ref.turned a _)]

theorem sq_nonneg' (x : EReal) : 0 ≤ x * x := by
  rcases le_total 0 x with h | h
  · exact mul_nonneg h h
  · rw [← neg_mul_neg]
    have h' : 0 ≤ -x := EReal.neg_nonneg.2 h
    exact mul_nonneg h' h'

theorem rsqrt_ok (y : EReal) (h : 0 < y) : 0 ≤ Ideal.rsqrt y ∧ Ideal.rsqrt y ≠ ⊤ := by
  induction y with
  | bot => exact absurd h (by simp)
  | top => simp
  | coe r =>
    have hr : 0 < r := by exact_mod_cast h
    rw [Ideal.rsqrt_coe, if_neg (by linarith), if_neg (by linarith)]
    exact ⟨by exact_mod_cast inv_nonneg.2 (Real.sqrt_nonneg r), EReal.coe_ne_top _⟩

theorem eps_pos : 0 < Ref.eps := by
  unfold Ref.eps
  simp [Ideal.ofBits, Ideal.ieee]
  rw [← EReal.coe_mul]
  norm_num

theorem inv96_nonneg : 0 ≤ inv96 := by
  unfold inv96
  exact_mod_cast (by norm_num : (0 : ℝ) ≤ 1 / 96)

/-- A head's inverse root is finite and not negative. -/
theorem root_ok (a : Fin 96 → EReal) :
    0 ≤ Ideal.rsqrt ((∑ k, a k * a k) * inv96 + Ref.eps) ∧ Ideal.rsqrt ((∑ k, a k * a k) * inv96 + Ref.eps) ≠ ⊤ := by
  refine rsqrt_ok _ (lt_of_lt_of_le eps_pos ?_)
  exact le_add_of_nonneg_left (mul_nonneg (Finset.sum_nonneg fun k _ => sq_nonneg' _) inv96_nonneg)

theorem scale_eq : Ref.scale = ((Real.sqrt 96 * Real.log 2 : ℝ) : EReal) := by
  unfold Ref.scale
  have e : Ideal.ofBits .f32 0x42C00000#32 = ((96 : ℝ) : EReal) := by
    simp [Ideal.ofBits, Ideal.ieee]
    rw [← EReal.coe_mul]
    norm_num
  have e' : Ideal.ofBits .f32 0x40000000#32 = ((2 : ℝ) : EReal) := by
    simp [Ideal.ofBits, Ideal.ieee]
    rw [← EReal.coe_mul]
    norm_num
  rw [e, e', Ideal.sqrt_coe, Ideal.log_coe, if_neg (by norm_num), if_neg (by norm_num), EReal.coe_mul]

theorem scale_pos : (0 : ℝ) < Real.sqrt 96 * Real.log 2 :=
  mul_pos (Real.sqrt_pos.2 (by norm_num)) (Real.log_pos (by norm_num))

theorem div_scale (x : EReal) : Ideal.div x Ref.scale = x * (((Real.sqrt 96 * Real.log 2)⁻¹ : ℝ) : EReal) := by
  rw [scale_eq]
  unfold Ideal.div
  rw [if_neg (by exact_mod_cast scale_pos.ne'), EReal.coe_inv]

theorem rms96 (a G : Fin 96 → EReal) (c : Fin 96) :
    Ref.rms 0x42C00000#32 a G c = a c * Ideal.rsqrt ((∑ k, a k * a k) * inv96 + Ref.eps) * G c := by
  unfold Ref.rms
  rw [div_96]

/-- A query head: the gain over the scale before the rotation is the rotation over the scale. -/
theorem q_head (a G : Fin 96 → EReal) (co si : Fin 32 → EReal) (c : Fin 96) :
    Ref.rope (fun c => a c * Ideal.div (G c) Ref.scale * Ideal.rsqrt ((∑ k, a k * a k) * inv96 + Ref.eps)) co si c =
      Ideal.div (Ref.rope (Ref.rms 0x42C00000#32 a G) co si c) Ref.scale := by
  rw [div_scale]
  have hk : (0 : EReal) ≤ (((Real.sqrt 96 * Real.log 2)⁻¹ : ℝ) : EReal) := by exact_mod_cast (inv_pos.2 scale_pos).le
  rw [← rope_mul _ co si _ hk (EReal.coe_ne_top _)]
  refine congrArg (fun f => Ref.rope f co si c) (funext fun c => ?_)
  rw [rms96, div_scale]
  ac_rfl

/-- A key head: its inverse root applied after the rotation. -/
theorem k_head (a G : Fin 96 → EReal) (co si : Fin 32 → EReal) (c : Fin 96) :
    Ref.rope (fun c => a c * G c) co si c * Ideal.rsqrt ((∑ k, a k * a k) * inv96 + Ref.eps) =
      Ref.rope (Ref.rms 0x42C00000#32 a G) co si c := by
  rw [← rope_mul _ co si _ (root_ok a).1 (root_ok a).2]
  refine congrArg (fun f => Ref.rope f co si c) (funext fun c => ?_)
  rw [rms96]
  ac_rfl

theorem sum_96 (f : Fin 96 → EReal) :
    ∑ k, f k = (∑ k : Fin 64, f ⟨k.val, by omega⟩) + ∑ k : Fin 32, f ⟨64 + k.val, by omega⟩ :=
  Fin.sum_univ_add (a := 64) (b := 32) f

end Proj

end
-- ==== Proof.Proj.Point.lean ====
/- What a part of the third call's token tile stores, at an index: the results of `Out` of the token's projections. -/
module

public import proofs.«01_k».proof.Proof.Proj.Blocks
public import proofs.«01_k».proof.Proof.Proj.Part
public import proofs.«01_k».proof.Proof.Proj.Algebra
public import proofs.«01_k».proof.Proof.Proj.Out

@[expose] public section

set_option maxRecDepth 16384

noncomputable section

namespace Proj

open Cert.Kernel3Ideal Cert.Kernel3Ideal.Gen Idealize.ShloMosaic Idealize.ShloMosaic.TcCoe Idealize.SL.Sem

variable (m : (ℓ : Loc nD τ sig) → Buf (Elt Ideal) ℓ) (d : Dev nD)

/-- The projections of the kernel's arguments. -/
abbrev aP : Fin 4 → Fin 4096 → Fin 2976 → EReal := Ref.prj (ax m d) (amo m d) (an m d) (aw m d)

variable (t : Fin cfg0.N) (p : Fin 4)

/-! ## The projections -/

theorem hid_pt (s : Fin 256) (j : Fin 1024) :
    k0_pay2 (ldR (grid0.coords t) (iblk m d 1 t)) (ldX p (iblk m d 0 t)) (iblk m d 2 t) (ix2 s j) =
      Ref.hid (ax m d) (amo m d) (an m d) (tb t) (tokp t p s) j := by
  rw [pay2_at]
  simp only [in_x, in_row, blk_n]
  unfold Ref.hid Ref.rms Ref.modRow
  rw [div_1024, ← mul_assoc]
  have e0 : (⟨j.val, by omega⟩ : Fin 6144) = ⟨(0 : Fin 6).val * 1024 + j.val, by omega⟩ := Fin.ext (by show j.val = 0 * 1024 + j.val; omega)
  have e1 : (⟨1024 + j.val, by omega⟩ : Fin 6144) = ⟨(1 : Fin 6).val * 1024 + j.val, by omega⟩ :=
    Fin.ext (by show 1024 + j.val = 1 * 1024 + j.val; omega)
  rw [e0, e1]

/-- The part's rows projected on the queries' columns. -/
abbrev PQ := k0_pay3 (ldR (grid0.coords t) (iblk m d 1 t)) (ldX p (iblk m d 0 t)) (iblk m d 2 t) (iblk m d 7 t)

/-- The part's rows projected on the columns of the keys and values. -/
abbrev PK := k0_pay4 (ldR (grid0.coords t) (iblk m d 1 t)) (ldX p (iblk m d 0 t)) (iblk m d 2 t) (iblk m d 11 t)

/-- The part's rows projected on the transform's columns. -/
abbrev PZ := k0_pay5 (k0_pay2 (ldR (grid0.coords t) (iblk m d 1 t)) (ldX p (iblk m d 0 t)) (iblk m d 2 t)) (iblk m d 3 t)

theorem PQ_pt (s j : Fin 256) : PQ m d t p (ix2 s j) = aP m d (tb t) (tokp t p s) ⟨512 + j.val, by omega⟩ := by
  refine (pay3_at _ _ _ _ _ _).trans ?_
  simp only [hid_pt, blk_wq]
  rfl

theorem PK_pt (s j : Fin 256) : PK m d t p (ix2 s j) = aP m d (tb t) (tokp t p s) ⟨768 + j.val, by omega⟩ := by
  refine (pay4_at _ _ _ _ _ _).trans ?_
  simp only [hid_pt, blk_wkv]
  rfl

theorem PZ_pt (s : Fin 256) (j : Fin 512) : PZ m d t p (ix2 s j) = aP m d (tb t) (tokp t p s) ⟨j.val, by omega⟩ := by
  refine (pay5_at _ _ _ _).trans ?_
  simp only [hid_pt, blk_wf]
  rfl

/-! ## The heads' raw channels -/

/-- The part's query heads, raw. -/
abbrev QD := k0_pay11 (k0_pay6 (PQ m d t p) (iblk m d 8 t)) (iblk m d 9 t)

/-- The part's keys, raw, and its values. -/
abbrev KN := k0_pay12 (k0_pay7 (PK m d t p) (iblk m d 12 t)) (iblk m d 13 t)
abbrev VN := k0_pay13 (k0_pay7 (PK m d t p) (iblk m d 12 t)) (iblk m d 14 t)

/-- The channels of the part's keys that all heads share. -/
abbrev KR := k0_pay8 (PK m d t p)

theorem QD_pt (h : Fin 8) (c : Fin 96) (s : Fin 256) : QD m d t p (ix2 ⟨h.val * 96 + c.val, by omega⟩ s) =
    Ref.qraw (aP m d (tb t) (tokp t p s)) (aqn m d) (awq m d) h c := by
  refine (pay11_at _ _ _ _).trans ?_
  simp only [pay6_at, PQ_pt, blk_qn, blk_wqb]
  rfl

theorem KN_pt (h : Fin 8) (c : Fin 64) (s : Fin 256) : KN m d t p (ix2 ⟨h.val * 64 + c.val, by omega⟩ s) =
    Ref.kvraw (aP m d (tb t) (tokp t p s)) (akn m d) (awk m d) h ⟨c.val, by omega⟩ := by
  refine (pay12_at _ _ _ _).trans ?_
  simp only [pay7_at, PK_pt, blk_kn, blk_wkb]
  rfl

theorem VN_pt (h : Fin 8) (c : Fin 64) (s : Fin 256) : VN m d t p (ix2 ⟨h.val * 64 + c.val, by omega⟩ s) =
    Ref.kvraw (aP m d (tb t) (tokp t p s)) (akn m d) (awk m d) h ⟨64 + c.val, by omega⟩ := by
  refine (pay13_at _ _ _ _).trans ?_
  simp only [pay7_at, PK_pt, blk_kn, blk_wv]
  rfl

theorem KR_pt (i : Fin 32) (s : Fin 256) : KR m d t p (ix2 i s) = aP m d (tb t) (tokp t p s) ⟨896 + i.val, by omega⟩ := by
  refine (pay8_at _ _ _).trans ((PK_pt m d t p s _).trans ?_)
  exact congrArg _ (Fin.ext (by show 768 + (128 + i.val) = 896 + i.val; omega))

/-! ## What is stored -/

theorem q_pt (h : Fin 8) (c : Fin 128) (s : Fin 256) :
    qTile (QD m d t p) (iblk m d 10 t) (ldC p (iblk m d 17 t)) (ldC p (iblk m d 18 t)) h (ix4 0 0 c s) =
      Ref.qOut (aP m d (tb t) (tokp t p s)) (aqn m d) (awq m d) (aqg m d) (tokp t p s) h c := by
  rw [qTile_at, qRope_at]
  unfold Ref.qOut
  simp only [qNorm_at, gain_at _ _ (blk_qg m d t), QD_pt, in_cos, in_sin]
  by_cases k : c.val < 96
  · rw [dif_pos k, dif_pos k]
    exact q_head _ _ _ _ _
  · rw [dif_neg k, dif_neg k]

theorem kroot_pt (h : Fin 8) (s : Fin 256) : kRoot (KN m d t p) (KR m d t p) h (ix2 0 s) =
    Ideal.rsqrt ((∑ k, Ref.kraw (aP m d (tb t) (tokp t p s)) (akn m d) (awk m d) h k *
      Ref.kraw (aP m d (tb t) (tokp t p s)) (akn m d) (awk m d) h k) * inv96 + Ref.eps) := by
  rw [kRoot_at, sum_96]
  simp only [KN_pt, KR_pt]
  have e0 : ∀ k : Fin 64, Ref.kraw (aP m d (tb t) (tokp t p s)) (akn m d) (awk m d) h ⟨k.val, by omega⟩ =
      Ref.kvraw (aP m d (tb t) (tokp t p s)) (akn m d) (awk m d) h ⟨k.val, by omega⟩ := fun k => dif_pos k.isLt
  have e1 : ∀ k : Fin 32, Ref.kraw (aP m d (tb t) (tokp t p s)) (akn m d) (awk m d) h ⟨64 + k.val, by omega⟩ =
      aP m d (tb t) (tokp t p s) ⟨896 + k.val, by omega⟩ := fun k =>
    (dif_neg (by show ¬ 64 + k.val < 64; omega)).trans
      (congrArg _ (Fin.ext (by show 896 + (64 + k.val - 64) = 896 + k.val; omega)))
  simp only [e0, e1]

theorem k_pt (h : Fin 8) (s : Fin 256) (c : Fin 128) :
    kTile (KN m d t p) (KR m d t p) (iblk m d 15 t) (iblk m d 16 t) (ldC p (iblk m d 17 t)) (ldC p (iblk m d 18 t)) h (ix4 0 0 s c) =
      Ref.kOut (aP m d (tb t) (tokp t p s)) (akn m d) (awk m d) (akg m d) (tokp t p s) h c := by
  rw [kTile_at _ _ _ _ (fun c => akg m d (ix2 0 c)) (blk_kgn m d t), kroot_pt]
  have hk : ∀ c, Ref.rope (Ref.rms 0x42C00000#32 (Ref.kraw (aP m d (tb t) (tokp t p s)) (akn m d) (awk m d) h) (fun c => akg m d (ix2 0 c)))
      (fun i => Ideal.cos (Ref.ang (tokp t p s) i)) (fun i => Ideal.sin (Ref.ang (tokp t p s) i)) c = _ := fun c => (k_head _ _ _ _ c).symm
  have ha : ∀ i : Fin 32, (fun c => Ref.kraw (aP m d (tb t) (tokp t p s)) (akn m d) (awk m d) h c * akg m d (ix2 0 c)) ⟨64 + i.val, by omega⟩ =
      kGain (KR m d t p) (iblk m d 16 t) (ix2 i s) := fun i => by
    rw [kGain_at _ _ _ (blk_kgr m d t), KR_pt]
    refine congrArg (fun z => z * akg m d (ix2 0 ⟨64 + i.val, by omega⟩)) ?_
    exact (dif_neg (by show ¬ 64 + i.val < 64; omega)).trans
      (congrArg _ (Fin.ext (by show 896 + (64 + i.val - 64) = 896 + i.val; omega)))
  unfold Ref.kOut
  simp only [hk]
  by_cases h64 : c.val < 64
  · rw [dif_pos h64, dif_pos (by omega)]
    refine congrArg (fun z => z * _) ?_
    refine (congrArg (fun z => z * _) (KN_pt m d t p h ⟨c.val, h64⟩ s)).trans ?_
    refine Eq.trans ?_ (dif_pos h64).symm
    have hr : Ref.kraw (aP m d (tb t) (tokp t p s)) (akn m d) (awk m d) h ⟨c.val, by omega⟩ =
        Ref.kvraw (aP m d (tb t) (tokp t p s)) (akn m d) (awk m d) h ⟨c.val, by omega⟩ := dif_pos h64
    exact congrArg (fun z => z * _) hr.symm
  rw [dif_neg h64]
  by_cases h96 : c.val < 96
  · rw [dif_pos h96, dif_pos h96, pay40_at _ _ _ _ _ _
      (fun c => Ref.kraw (aP m d (tb t) (tokp t p s)) (akn m d) (awk m d) h c * akg m d (ix2 0 c)) ha]
    simp only [in_cos, in_sin]
    rw [show (⟨64 + (c.val - 64), by omega⟩ : Fin 96) = ⟨c.val, h96⟩ from Fin.ext (by show 64 + (c.val - 64) = c.val; omega)]
  rw [dif_neg h96, dif_neg h96]

theorem v_pt (h : Fin 8) (c : Fin 80) (s : Fin 256) :
    vTile (VN m d t p) h (ix4 0 0 c s) = Ref.vOut (aP m d (tb t) (tokp t p s)) (akn m d) (awk m d) h c := by
  rw [vTile_at]
  unfold Ref.vOut
  by_cases k : c.val < 64
  · rw [dif_pos k, dif_pos k]
    exact VN_pt m d t p h ⟨c.val, k⟩ s
  · rw [dif_neg k, dif_neg k]

theorem g_pt (h : Fin 8) (s j : Fin 256) :
    gTile (k0_pay2 (ldR (grid0.coords t) (iblk m d 1 t)) (ldX p (iblk m d 0 t)) (iblk m d 2 t)) (ldW h (iblk m d 5 t)) (ldB h (iblk m d 6 t))
        (ix3 0 s j) = Ref.gOut (aP m d (tb t) (tokp t p s)) (abg m d) ⟨h.val * 256 + j.val, by omega⟩ := by
  rw [gTile_at]
  simp only [hid_pt, in_wg, in_bg]
  rfl

theorem z_pt (h : Fin 8) (s : Fin 256) (j : Fin 128) :
    zTile (PZ m d t p) (iblk m d 4 t) (grp h) (reim h) (ix4 0 0 s j) =
      Ref.zOut (aP m d (tb t) (tokp t p s)) (reim h) ⟨(grp h).val * 128 + j.val, by omega⟩ := by
  rw [zTile_at]
  unfold Ref.zOut
  simp only [PZ_pt, blk_dft]
  have e : (⟨((grp h).val * 128 + j.val) % 128, by omega⟩ : Fin 128) = j := Fin.ext (by show ((grp h).val * 128 + j.val) % 128 = j.val; omega)
  have e' : ((grp h).val * 128 + j.val) / 128 = (grp h).val := by omega
  simp only [e, e']

end Proj

end
-- ==== Proof.Proj.Whole.lean ====
/- The third call's whole-block loads, and the piece that a part's head is stored as. -/
module

public import proofs.«01_k».proof.Proof.Proj.Load
public import Idealize.ShloMosaic.Lib.Pipeline.ValueKit.Geometry

@[expose] public section

set_option maxRecDepth 16384

noncomputable section

namespace Proj

open Cert.Kernel3Ideal Cert.Kernel3Ideal.Gen Idealize.ShloMosaic Idealize.ShloMosaic.TcCoe Idealize.SL.Sem

variable {F : FTy → Type} [FloatOps F] [Named F]

/-- A load of a whole block is the block. -/
theorem rd_whole {S : Shape} {φ : EltTy} (arg : Memref sig .tc .vmem S φ) (h : arg.IsWhole) (x : Vec F S φ) {off : Fin S.rank → ℕ}
    (inb : ∀ a, off a + S.size a ≤ S.size a) (h0 : ∀ a, off a = 0) :
    View.ld (View.read (Elt F) arg.view (h.unread x)) (Rect.unit (s := S) off S.size inb) = x := by
  rw [h.read_unread]
  exact View.ld_unit_lit' inb x h0

/-- The piece whose tile holds part `p`'s head `h`. -/
def pc (p : Fin 4) (h : Fin 8) : Fin 32 := ⟨31 - (p.val * 8 + h.val), by omega⟩

theorem pt_pc (p : Fin 4) (h : Fin 8) : pt (pc p h).val = p := Fin.ext (by show (31 - (31 - (p.val * 8 + h.val))) / 8 = p.val; omega)
theorem hd_pc (p : Fin 4) (h : Fin 8) : hd (pc p h).val = h := Fin.ext (by show (31 - (31 - (p.val * 8 + h.val))) % 8 = h.val; omega)

end Proj

end
-- ==== Proof.Proj.TilesQ.lean ====
/- The third call's query heads after its body, as one family of tiles. -/
module

public import proofs.«01_k».proof.Proof.Proj.RunKI
public import proofs.«01_k».proof.Proof.Proj.Load
public import Idealize.ShloMosaic.Lib.Pipeline.ValueKit.Tiles

@[expose] public section

set_option maxRecDepth 16384

noncomputable section

namespace Proj

open Cert.Kernel3Ideal Cert.Kernel3Ideal.Gen Idealize.ShloMosaic Idealize.ShloMosaic.TcCoe Idealize.SL.Sem

variable {F : FTy → Type} [FloatOps F] [Named F]

set_option maxHeartbeats 40000000

/-- The query heads. -/
theorem out_Q (c : Dev nD) (i : grid0.Coords) (arg2 : Memref sig .tc .vmem S1x1024x1024 .f32) (harg2 : arg2.IsWhole) (arg3 : Memref sig .tc .vmem S8x6144 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S128x256 .bf16) (harg6 : arg6.IsWhole) (arg7 : Memref sig .tc .vmem S8x1024x256 .bf16) (harg7 : arg7.IsWhole) (arg8 : Memref sig .tc .vmem S1x2048 .f32) (harg8 : arg8.IsWhole) (arg9 : Memref sig .tc .vmem S1024x256 .bf16) (harg9 : arg9.IsWhole) (arg10 : Memref sig .tc .vmem S1x256 .f32) (harg10 : arg10.IsWhole) (arg11 : Memref sig .tc .vmem S768x256 .bf16) (harg11 : arg11.IsWhole) (arg12 : Memref sig .tc .vmem S96x128 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S512x128 .bf16) (harg15 : arg15.IsWhole) (arg16 : Memref sig .tc .vmem S512x128 .bf16) (harg16 : arg16.IsWhole) (arg17 : Memref sig .tc .vmem S64x128 .f32) (harg17 : arg17.IsWhole) (arg18 : Memref sig .tc .vmem S32x128 .f32) (harg18 : arg18.IsWhole) (arg19 : Memref sig .tc .vmem S32x1024 .f32) (harg19 : arg19.IsWhole) (arg20 : Memref sig .tc .vmem S32x1024 .f32) (harg20 : arg20.IsWhole) (arg21 : Memref sig .tc .vmem S1x2x1024x512 .bf16) (harg21 : arg21.IsWhole) (arg22 : Memref sig .tc .vmem S1x1024x2048 .bf16) (harg22 : arg22.IsWhole) (arg23 : Memref sig .tc .vmem S1x8x128x1024 .bf16) (harg23 : arg23.IsWhole) (arg24 : Memref sig .tc .vmem S1x8x1024x128 .bf16) (harg24 : arg24.IsWhole) (arg25 : Memref sig .tc .vmem S1x8x80x1024 .bf16) (harg25 : arg25.IsWhole)
    (x0 : Vec F S1x1024x1024 .f32) (x1 : Vec F S8x6144 .f32) (x2 : Vec F S1x1024 .f32) (x3 : Vec F S1024x512 .bf16) (x4 : Vec F S128x256 .bf16) (x5 : Vec F S8x1024x256 .bf16) (x6 : Vec F S1x2048 .f32) (x7 : Vec F S1024x256 .bf16) (x8 : Vec F S1x256 .f32) (x9 : Vec F S768x256 .bf16) (x10 : Vec F S96x128 .f32) (x11 : Vec F S1024x256 .bf16) (x12 : Vec F S1x128 .f32) (x13 : Vec F S512x128 .bf16) (x14 : Vec F S512x128 .bf16) (x15 : Vec F S64x128 .f32) (x16 : Vec F S32x128 .f32) (x17 : Vec F S32x1024 .f32) (x18 : Vec F S32x1024 .f32)
    (y0 : Vec F S1x1024x1024 .f32) (y1 : Vec F S8x6144 .f32) (y2 : Vec F S1x1024 .f32) (y7 : Vec F S1024x256 .bf16) (y8 : Vec F S1x256 .f32) (y9 : Vec F S768x256 .bf16) (y10 : Vec F S96x128 .f32) (y17 : Vec F S32x1024 .f32) (y18 : Vec F S32x1024 .f32)
    (e0 : View.read (Elt F) arg2.view (harg2.unread x0) = y0) (e1 : View.read (Elt F) arg3.view (harg3.unread x1) = y1) (e2 : View.ld (View.read (Elt F) arg4.view (harg4.unread x2)) (Rect.unit (s := S1x1024) ![0, 0] S1x1024.size (by decide)) = y2) (e7 : View.ld (View.read (Elt F) arg9.view (harg9.unread x7)) (Rect.unit (s := S1024x256) ![0, 0] S1024x256.size (by decide)) = y7) (e8 : View.ld (View.read (Elt F) arg10.view (harg10.unread x8)) (Rect.unit (s := S1x256) ![0, 0] S1x256.size (by decide)) = y8) (e9 : View.ld (View.read (Elt F) arg11.view (harg11.unread x9)) (Rect.unit (s := S768x256) ![0, 0] S768x256.size (by decide)) = y9) (e10 : View.ld (View.read (Elt F) arg12.view (harg12.unread x10)) (Rect.unit (s := S96x128) ![0, 0] S96x128.size (by decide)) = y10) (e17 : View.read (Elt F) arg19.view (harg19.unread x17) = y17) (e18 : View.read (Elt F) arg20.view (harg20.unread x18) = y18) :
    out0_A_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 =
      View.canon (List.ofFn fun k : Fin 32 => ⟨Rect.unit (s := S1x8x128x1024) ![0, (hd k.val).val, 0, (pt k.val).val * 256] S1x1x128x256.size (inbQ (pt k.val) (hd k.val)),
        qTile (k0_pay11 (k0_pay6 (k0_pay3 (ldR i y1) (ldX (pt k.val) y0) y2 y7) y8) y9) y10 (ldC (pt k.val) y17) (ldC (pt k.val) y18) (hd k.val)⟩) := by
  subst e0 e1 e2 e7 e8 e9 e10 e17 e18
  unfold out0_A_21
  rw [View.read_writes_eq_canon _ _ _ (cover0_A_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18)]
  unfold kernelRun0_A
  dsimp only
  refine congrArg View.canon ?_
  refine Eq.trans ?_ (ofFn_pieces fun p h => (⟨Rect.unit (s := S1x8x128x1024) ![0, h.val, 0, p.val * 256] S1x1x128x256.size (inbQ p h),
        qTile (k0_pay11 (k0_pay6 (k0_pay3 (ldR i (View.read (Elt F) arg3.view (harg3.unread x1))) (ldX p (View.read (Elt F) arg2.view (harg2.unread x0))) (View.ld (View.read (Elt F) arg4.view (harg4.unread x2)) (Rect.unit (s := S1x1024) ![0, 0] S1x1024.size (by decide))) (View.ld (View.read (Elt F) arg9.view (harg9.unread x7)) (Rect.unit (s := S1024x256) ![0, 0] S1024x256.size (by decide)))) (View.ld (View.read (Elt F) arg10.view (harg10.unread x8)) (Rect.unit (s := S1x256) ![0, 0] S1x256.size (by decide)))) (View.ld (View.read (Elt F) arg11.view (harg11.unread x9)) (Rect.unit (s := S768x256) ![0, 0] S768x256.size (by decide)))) (View.ld (View.read (Elt F) arg12.view (harg12.unread x10)) (Rect.unit (s := S96x128) ![0, 0] S96x128.size (by decide))) (ldC p (View.read (Elt F) arg19.view (harg19.unread x17))) (ldC p (View.read (Elt F) arg20.view (harg20.unread x18))) h⟩ : View.Piece (Elt F) S1x8x128x1024 .bf16)).symm
  repeat' refine cons_of ?_ ?_
  all_goals first | rfl | exact congrArg (Sigma.mk _) rfl

end Proj

end
-- ==== Proof.Proj.FinalQ.lean ====
/- The third call's results as arrays: the queries. -/
module

public import proofs.«01_k».proof.Proof.Proj.Point
public import proofs.«01_k».proof.Proof.Proj.Whole
public import proofs.«01_k».proof.Proof.Proj.TilesQ

@[expose] public section

set_option maxRecDepth 16384

noncomputable section

namespace Proj

open Cert.Kernel3Ideal Cert.Kernel3Ideal.Gen Idealize.ShloMosaic Idealize.ShloMosaic.TcCoe Idealize.SL.Sem

variable (m : (ℓ : Loc nD τ sig) → Buf (Elt Ideal) ℓ) (d : Dev nD)

set_option maxHeartbeats 4000000 in
/-- Window 21 ends at the array of `Out`. -/
theorem final_Q : (dats m 0 d).arrAt 21 cfg0.N = Ref.qA (aP m d) (aqn m d) (awq m d) (aqg m d) := by
  refine (dats m 0 d).arrAt_eq_of_covers 21 _ (by decide +kernel) fun t hf y => ?_
  blk_simp
  rw [after0_21]
  unfold outsAt0
  dsimp only
  rw [out_Q (e0 := Memref.IsWhole.read_unread _ _)
    (e1 := Memref.IsWhole.read_unread _ _)
    (e2 := rd_whole _ _ _ _ (by decide))
    (e7 := rd_whole _ _ _ _ (by decide))
    (e8 := rd_whole _ _ _ _ (by decide))
    (e9 := rd_whole _ _ _ _ (by decide))
    (e10 := rd_whole _ _ _ _ (by decide))
    (e17 := Memref.IsWhole.read_unread _ _)
    (e18 := Memref.IsWhole.read_unread _ _)]
  idx_vars y
  have ht : t.val < 16 := lt_of_lt_of_eq t.isLt N_0
  have h0 : y0 = 0 := by omega
  subst h0
  have e : (win0_21.blk t).view.emb (ix4 0 y1 y2 y3) = ix4 (tb t) y1 y2 (tok t y3) := by
    funext a
    refine Fin.ext ?_
    fin_cases a <;> blk_simp [i21] <;> simp [tb, tok]
  rw [e, Ref.qA_at]
  refine View.canon_ofFn_unit_eq_of_forall (S := S1x8x128x1024) (fun k : Fin 32 => ![0, (hd k.val).val, 0, (pt k.val).val * 256]) S1x1x128x256.size
    (fun k => inbQ (pt k.val) (hd k.val)) _ _ _ ?_ fun k => ?_
  · refine ⟨pc ⟨y3.val / 256, by omega⟩ y1, ?_⟩
    rw [pt_pc, hd_pc]
    intro a
    fin_cases a <;> simp [grp, reim] <;> omega
  · tile_intro z h
    idx_vars z
    have hz : z0 = 0 := by omega
    subst hz
    have hz1 : z1 = 0 := by omega
    subst hz1
    have q1 : y1.val = (hd k.val).val := h1
    have q3 : y3.val = (pt k.val).val * 256 + z3.val := h3
    refine (q_pt m d t (pt k.val) (hd k.val) z2 z3).trans ?_
    rw [show tok t y3 = tokp t (pt k.val) z3 from congrArg (tok t) (Fin.ext q3)]
    rw [show y1 = hd k.val from Fin.ext (q1)]
    rw [show y2 = z2 from Fin.ext (h2)]

end Proj

end
-- ==== Proof.Proj.TilesK.lean ====
/- The third call's key heads after its body, as one family of tiles. -/
module

public import proofs.«01_k».proof.Proof.Proj.RunKI
public import proofs.«01_k».proof.Proof.Proj.Load
public import Idealize.ShloMosaic.Lib.Pipeline.ValueKit.Tiles

@[expose] public section

set_option maxRecDepth 16384

noncomputable section

namespace Proj

open Cert.Kernel3Ideal Cert.Kernel3Ideal.Gen Idealize.ShloMosaic Idealize.ShloMosaic.TcCoe Idealize.SL.Sem

variable {F : FTy → Type} [FloatOps F] [Named F]

set_option maxHeartbeats 40000000

/-- The key heads. -/
theorem out_K (c : Dev nD) (i : grid0.Coords) (arg2 : Memref sig .tc .vmem S1x1024x1024 .f32) (harg2 : arg2.IsWhole) (arg3 : Memref sig .tc .vmem S8x6144 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S128x256 .bf16) (harg6 : arg6.IsWhole) (arg7 : Memref sig .tc .vmem S8x1024x256 .bf16) (harg7 : arg7.IsWhole) (arg8 : Memref sig .tc .vmem S1x2048 .f32) (harg8 : arg8.IsWhole) (arg9 : Memref sig .tc .vmem S1024x256 .bf16) (harg9 : arg9.IsWhole) (arg10 : Memref sig .tc .vmem S1x256 .f32) (harg10 : arg10.IsWhole) (arg11 : Memref sig .tc .vmem S768x256 .bf16) (harg11 : arg11.IsWhole) (arg12 : Memref sig .tc .vmem S96x128 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S512x128 .bf16) (harg15 : arg15.IsWhole) (arg16 : Memref sig .tc .vmem S512x128 .bf16) (harg16 : arg16.IsWhole) (arg17 : Memref sig .tc .vmem S64x128 .f32) (harg17 : arg17.IsWhole) (arg18 : Memref sig .tc .vmem S32x128 .f32) (harg18 : arg18.IsWhole) (arg19 : Memref sig .tc .vmem S32x1024 .f32) (harg19 : arg19.IsWhole) (arg20 : Memref sig .tc .vmem S32x1024 .f32) (harg20 : arg20.IsWhole) (arg21 : Memref sig .tc .vmem S1x2x1024x512 .bf16) (harg21 : arg21.IsWhole) (arg22 : Memref sig .tc .vmem S1x1024x2048 .bf16) (harg22 : arg22.IsWhole) (arg23 : Memref sig .tc .vmem S1x8x128x1024 .bf16) (harg23 : arg23.IsWhole) (arg24 : Memref sig .tc .vmem S1x8x1024x128 .bf16) (harg24 : arg24.IsWhole) (arg25 : Memref sig .tc .vmem S1x8x80x1024 .bf16) (harg25 : arg25.IsWhole)
    (x0 : Vec F S1x1024x1024 .f32) (x1 : Vec F S8x6144 .f32) (x2 : Vec F S1x1024 .f32) (x3 : Vec F S1024x512 .bf16) (x4 : Vec F S128x256 .bf16) (x5 : Vec F S8x1024x256 .bf16) (x6 : Vec F S1x2048 .f32) (x7 : Vec F S1024x256 .bf16) (x8 : Vec F S1x256 .f32) (x9 : Vec F S768x256 .bf16) (x10 : Vec F S96x128 .f32) (x11 : Vec F S1024x256 .bf16) (x12 : Vec F S1x128 .f32) (x13 : Vec F S512x128 .bf16) (x14 : Vec F S512x128 .bf16) (x15 : Vec F S64x128 .f32) (x16 : Vec F S32x128 .f32) (x17 : Vec F S32x1024 .f32) (x18 : Vec F S32x1024 .f32)
    (y0 : Vec F S1x1024x1024 .f32) (y1 : Vec F S8x6144 .f32) (y2 : Vec F S1x1024 .f32) (y11 : Vec F S1024x256 .bf16) (y12 : Vec F S1x128 .f32) (y13 : Vec F S512x128 .bf16) (y15 : Vec F S64x128 .f32) (y16 : Vec F S32x128 .f32) (y17 : Vec F S32x1024 .f32) (y18 : Vec F S32x1024 .f32)
    (e0 : View.read (Elt F) arg2.view (harg2.unread x0) = y0) (e1 : View.read (Elt F) arg3.view (harg3.unread x1) = y1) (e2 : View.ld (View.read (Elt F) arg4.view (harg4.unread x2)) (Rect.unit (s := S1x1024) ![0, 0] S1x1024.size (by decide)) = y2) (e11 : View.ld (View.read (Elt F) arg13.view (harg13.unread x11)) (Rect.unit (s := S1024x256) ![0, 0] S1024x256.size (by decide)) = y11) (e12 : View.ld (View.read (Elt F) arg14.view (harg14.unread x12)) (Rect.unit (s := S1x128) ![0, 0] S1x128.size (by decide)) = y12) (e13 : View.ld (View.read (Elt F) arg15.view (harg15.unread x13)) (Rect.unit (s := S512x128) ![0, 0] S512x128.size (by decide)) = y13) (e15 : View.ld (View.read (Elt F) arg17.view (harg17.unread x15)) (Rect.unit (s := S64x128) ![0, 0] S64x128.size (by decide)) = y15) (e16 : View.ld (View.read (Elt F) arg18.view (harg18.unread x16)) (Rect.unit (s := S32x128) ![0, 0] S32x128.size (by decide)) = y16) (e17 : View.read (Elt F) arg19.view (harg19.unread x17) = y17) (e18 : View.read (Elt F) arg20.view (harg20.unread x18) = y18) :
    out0_A_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 =
      View.canon (List.ofFn fun k : Fin 32 => ⟨Rect.unit (s := S1x8x1024x128) ![0, (hd k.val).val, (pt k.val).val * 256, 0] S1x1x256x128.size (inbK (pt k.val) (hd k.val)),
        kTile (k0_pay12 (k0_pay7 (k0_pay4 (ldR i y1) (ldX (pt k.val) y0) y2 y11) y12) y13) (k0_pay8 (k0_pay4 (ldR i y1) (ldX (pt k.val) y0) y2 y11)) y15 y16 (ldC (pt k.val) y17) (ldC (pt k.val) y18) (hd k.val)⟩) := by
  subst e0 e1 e2 e11 e12 e13 e15 e16 e17 e18
  unfold out0_A_22
  rw [View.read_writes_eq_canon _ _ _ (cover0_A_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18)]
  unfold kernelRun0_A
  dsimp only
  refine congrArg View.canon ?_
  refine Eq.trans ?_ (ofFn_pieces fun p h => (⟨Rect.unit (s := S1x8x1024x128) ![0, h.val, p.val * 256, 0] S1x1x256x128.size (inbK p h),
        kTile (k0_pay12 (k0_pay7 (k0_pay4 (ldR i (View.read (Elt F) arg3.view (harg3.unread x1))) (ldX p (View.read (Elt F) arg2.view (harg2.unread x0))) (View.ld (View.read (Elt F) arg4.view (harg4.unread x2)) (Rect.unit (s := S1x1024) ![0, 0] S1x1024.size (by decide))) (View.ld (View.read (Elt F) arg13.view (harg13.unread x11)) (Rect.unit (s := S1024x256) ![0, 0] S1024x256.size (by decide)))) (View.ld (View.read (Elt F) arg14.view (harg14.unread x12)) (Rect.unit (s := S1x128) ![0, 0] S1x128.size (by decide)))) (View.ld (View.read (Elt F) arg15.view (harg15.unread x13)) (Rect.unit (s := S512x128) ![0, 0] S512x128.size (by decide)))) (k0_pay8 (k0_pay4 (ldR i (View.read (Elt F) arg3.view (harg3.unread x1))) (ldX p (View.read (Elt F) arg2.view (harg2.unread x0))) (View.ld (View.read (Elt F) arg4.view (harg4.unread x2)) (Rect.unit (s := S1x1024) ![0, 0] S1x1024.size (by decide))) (View.ld (View.read (Elt F) arg13.view (harg13.unread x11)) (Rect.unit (s := S1024x256) ![0, 0] S1024x256.size (by decide))))) (View.ld (View.read (Elt F) arg17.view (harg17.unread x15)) (Rect.unit (s := S64x128) ![0, 0] S64x128.size (by decide))) (View.ld (View.read (Elt F) arg18.view (harg18.unread x16)) (Rect.unit (s := S32x128) ![0, 0] S32x128.size (by decide))) (ldC p (View.read (Elt F) arg19.view (harg19.unread x17))) (ldC p (View.read (Elt F) arg20.view (harg20.unread x18))) h⟩ : View.Piece (Elt F) S1x8x1024x128 .bf16)).symm
  repeat' refine cons_of ?_ ?_
  all_goals first | rfl | exact congrArg (Sigma.mk _) rfl

end Proj

end
-- ==== Proof.Proj.FinalK.lean ====
/- The third call's results as arrays: the keys. -/
module

public import proofs.«01_k».proof.Proof.Proj.Point
public import proofs.«01_k».proof.Proof.Proj.Whole
public import proofs.«01_k».proof.Proof.Proj.TilesK

@[expose] public section

set_option maxRecDepth 16384

noncomputable section

namespace Proj

open Cert.Kernel3Ideal Cert.Kernel3Ideal.Gen Idealize.ShloMosaic Idealize.ShloMosaic.TcCoe Idealize.SL.Sem

variable (m : (ℓ : Loc nD τ sig) → Buf (Elt Ideal) ℓ) (d : Dev nD)

set_option maxHeartbeats 4000000 in
/-- Window 22 ends at the array of `Out`. -/
theorem final_K : (dats m 0 d).arrAt 22 cfg0.N = Ref.kA (aP m d) (akn m d) (awk m d) (akg m d) := by
  refine (dats m 0 d).arrAt_eq_of_covers 22 _ (by decide +kernel) fun t hf y => ?_
  blk_simp
  rw [after0_22]
  unfold outsAt0
  dsimp only
  rw [out_K (e0 := Memref.IsWhole.read_unread _ _)
    (e1 := Memref.IsWhole.read_unread _ _)
    (e2 := rd_whole _ _ _ _ (by decide))
    (e11 := rd_whole _ _ _ _ (by decide))
    (e12 := rd_whole _ _ _ _ (by decide))
    (e13 := rd_whole _ _ _ _ (by decide))
    (e15 := rd_whole _ _ _ _ (by decide))
    (e16 := rd_whole _ _ _ _ (by decide))
    (e17 := Memref.IsWhole.read_unread _ _)
    (e18 := Memref.IsWhole.read_unread _ _)]
  idx_vars y
  have ht : t.val < 16 := lt_of_lt_of_eq t.isLt N_0
  have h0 : y0 = 0 := by omega
  subst h0
  have e : (win0_22.blk t).view.emb (ix4 0 y1 y2 y3) = ix4 (tb t) y1 (tok t y2) y3 := by
    funext a
    refine Fin.ext ?_
    fin_cases a <;> blk_simp [i22] <;> simp [tb, tok]
  rw [e, Ref.kA_at]
  refine View.canon_ofFn_unit_eq_of_forall (S := S1x8x1024x128) (fun k : Fin 32 => ![0, (hd k.val).val, (pt k.val).val * 256, 0]) S1x1x256x128.size
    (fun k => inbK (pt k.val) (hd k.val)) _ _ _ ?_ fun k => ?_
  · refine ⟨pc ⟨y2.val / 256, by omega⟩ y1, ?_⟩
    rw [pt_pc, hd_pc]
    intro a
    fin_cases a <;> simp [grp, reim] <;> omega
  · tile_intro z h
    idx_vars z
    have hz : z0 = 0 := by omega
    subst hz
    have hz1 : z1 = 0 := by omega
    subst hz1
    have q1 : y1.val = (hd k.val).val := h1
    have q2 : y2.val = (pt k.val).val * 256 + z2.val := h2
    refine (k_pt m d t (pt k.val) (hd k.val) z2 z3).trans ?_
    rw [show tok t y2 = tokp t (pt k.val) z2 from congrArg (tok t) (Fin.ext q2)]
    rw [show y1 = hd k.val from Fin.ext (q1)]
    rw [show y3 = z3 from Fin.ext (h3)]

end Proj

end
-- ==== Proof.Proj.TilesV.lean ====
/- The third call's value heads after its body, as one family of tiles. -/
module

public import proofs.«01_k».proof.Proof.Proj.RunKI
public import proofs.«01_k».proof.Proof.Proj.Load
public import Idealize.ShloMosaic.Lib.Pipeline.ValueKit.Tiles

@[expose] public section

set_option maxRecDepth 16384

noncomputable section

namespace Proj

open Cert.Kernel3Ideal Cert.Kernel3Ideal.Gen Idealize.ShloMosaic Idealize.ShloMosaic.TcCoe Idealize.SL.Sem

variable {F : FTy → Type} [FloatOps F] [Named F]

set_option maxHeartbeats 40000000

/-- The value heads. -/
theorem out_V (c : Dev nD) (i : grid0.Coords) (arg2 : Memref sig .tc .vmem S1x1024x1024 .f32) (harg2 : arg2.IsWhole) (arg3 : Memref sig .tc .vmem S8x6144 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S128x256 .bf16) (harg6 : arg6.IsWhole) (arg7 : Memref sig .tc .vmem S8x1024x256 .bf16) (harg7 : arg7.IsWhole) (arg8 : Memref sig .tc .vmem S1x2048 .f32) (harg8 : arg8.IsWhole) (arg9 : Memref sig .tc .vmem S1024x256 .bf16) (harg9 : arg9.IsWhole) (arg10 : Memref sig .tc .vmem S1x256 .f32) (harg10 : arg10.IsWhole) (arg11 : Memref sig .tc .vmem S768x256 .bf16) (harg11 : arg11.IsWhole) (arg12 : Memref sig .tc .vmem S96x128 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S512x128 .bf16) (harg15 : arg15.IsWhole) (arg16 : Memref sig .tc .vmem S512x128 .bf16) (harg16 : arg16.IsWhole) (arg17 : Memref sig .tc .vmem S64x128 .f32) (harg17 : arg17.IsWhole) (arg18 : Memref sig .tc .vmem S32x128 .f32) (harg18 : arg18.IsWhole) (arg19 : Memref sig .tc .vmem S32x1024 .f32) (harg19 : arg19.IsWhole) (arg20 : Memref sig .tc .vmem S32x1024 .f32) (harg20 : arg20.IsWhole) (arg21 : Memref sig .tc .vmem S1x2x1024x512 .bf16) (harg21 : arg21.IsWhole) (arg22 : Memref sig .tc .vmem S1x1024x2048 .bf16) (harg22 : arg22.IsWhole) (arg23 : Memref sig .tc .vmem S1x8x128x1024 .bf16) (harg23 : arg23.IsWhole) (arg24 : Memref sig .tc .vmem S1x8x1024x128 .bf16) (harg24 : arg24.IsWhole) (arg25 : Memref sig .tc .vmem S1x8x80x1024 .bf16) (harg25 : arg25.IsWhole)
    (x0 : Vec F S1x1024x1024 .f32) (x1 : Vec F S8x6144 .f32) (x2 : Vec F S1x1024 .f32) (x3 : Vec F S1024x512 .bf16) (x4 : Vec F S128x256 .bf16) (x5 : Vec F S8x1024x256 .bf16) (x6 : Vec F S1x2048 .f32) (x7 : Vec F S1024x256 .bf16) (x8 : Vec F S1x256 .f32) (x9 : Vec F S768x256 .bf16) (x10 : Vec F S96x128 .f32) (x11 : Vec F S1024x256 .bf16) (x12 : Vec F S1x128 .f32) (x13 : Vec F S512x128 .bf16) (x14 : Vec F S512x128 .bf16) (x15 : Vec F S64x128 .f32) (x16 : Vec F S32x128 .f32) (x17 : Vec F S32x1024 .f32) (x18 : Vec F S32x1024 .f32)
    (y0 : Vec F S1x1024x1024 .f32) (y1 : Vec F S8x6144 .f32) (y2 : Vec F S1x1024 .f32) (y11 : Vec F S1024x256 .bf16) (y12 : Vec F S1x128 .f32) (y14 : Vec F S512x128 .bf16)
    (e0 : View.read (Elt F) arg2.view (harg2.unread x0) = y0) (e1 : View.read (Elt F) arg3.view (harg3.unread x1) = y1) (e2 : View.ld (View.read (Elt F) arg4.view (harg4.unread x2)) (Rect.unit (s := S1x1024) ![0, 0] S1x1024.size (by decide)) = y2) (e11 : View.ld (View.read (Elt F) arg13.view (harg13.unread x11)) (Rect.unit (s := S1024x256) ![0, 0] S1024x256.size (by decide)) = y11) (e12 : View.ld (View.read (Elt F) arg14.view (harg14.unread x12)) (Rect.unit (s := S1x128) ![0, 0] S1x128.size (by decide)) = y12) (e14 : View.ld (View.read (Elt F) arg16.view (harg16.unread x14)) (Rect.unit (s := S512x128) ![0, 0] S512x128.size (by decide)) = y14) :
    out0_A_23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 =
      View.canon (List.ofFn fun k : Fin 32 => ⟨Rect.unit (s := S1x8x80x1024) ![0, (hd k.val).val, 0, (pt k.val).val * 256] S1x1x80x256.size (inbV (pt k.val) (hd k.val)),
        vTile (k0_pay13 (k0_pay7 (k0_pay4 (ldR i y1) (ldX (pt k.val) y0) y2 y11) y12) y14) (hd k.val)⟩) := by
  subst e0 e1 e2 e11 e12 e14
  unfold out0_A_23
  rw [View.read_writes_eq_canon _ _ _ (cover0_A_23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18)]
  unfold kernelRun0_A
  dsimp only
  refine congrArg View.canon ?_
  refine Eq.trans ?_ (ofFn_pieces fun p h => (⟨Rect.unit (s := S1x8x80x1024) ![0, h.val, 0, p.val * 256] S1x1x80x256.size (inbV p h),
        vTile (k0_pay13 (k0_pay7 (k0_pay4 (ldR i (View.read (Elt F) arg3.view (harg3.unread x1))) (ldX p (View.read (Elt F) arg2.view (harg2.unread x0))) (View.ld (View.read (Elt F) arg4.view (harg4.unread x2)) (Rect.unit (s := S1x1024) ![0, 0] S1x1024.size (by decide))) (View.ld (View.read (Elt F) arg13.view (harg13.unread x11)) (Rect.unit (s := S1024x256) ![0, 0] S1024x256.size (by decide)))) (View.ld (View.read (Elt F) arg14.view (harg14.unread x12)) (Rect.unit (s := S1x128) ![0, 0] S1x128.size (by decide)))) (View.ld (View.read (Elt F) arg16.view (harg16.unread x14)) (Rect.unit (s := S512x128) ![0, 0] S512x128.size (by decide)))) h⟩ : View.Piece (Elt F) S1x8x80x1024 .bf16)).symm
  repeat' refine cons_of ?_ ?_
  all_goals first | rfl | exact congrArg (Sigma.mk _) rfl

end Proj

end
-- ==== Proof.Proj.FinalV.lean ====
/- The third call's results as arrays: the values. -/
module

public import proofs.«01_k».proof.Proof.Proj.Point
public import proofs.«01_k».proof.Proof.Proj.Whole
public import proofs.«01_k».proof.Proof.Proj.TilesV

@[expose] public section

set_option maxRecDepth 16384

noncomputable section

namespace Proj

open Cert.Kernel3Ideal Cert.Kernel3Ideal.Gen Idealize.ShloMosaic Idealize.ShloMosaic.TcCoe Idealize.SL.Sem

variable (m : (ℓ : Loc nD τ sig) → Buf (Elt Ideal) ℓ) (d : Dev nD)

set_option maxHeartbeats 4000000 in
/-- Window 23 ends at the array of `Out`. -/
theorem final_V : (dats m 0 d).arrAt 23 cfg0.N = Ref.vA (aP m d) (akn m d) (awk m d) := by
  refine (dats m 0 d).arrAt_eq_of_covers 23 _ (by decide +kernel) fun t hf y => ?_
  blk_simp
  rw [after0_23]
  unfold outsAt0
  dsimp only
  rw [out_V (e0 := Memref.IsWhole.read_unread _ _)
    (e1 := Memref.IsWhole.read_unread _ _)
    (e2 := rd_whole _ _ _ _ (by decide))
    (e11 := rd_whole _ _ _ _ (by decide))
    (e12 := rd_whole _ _ _ _ (by decide))
    (e14 := rd_whole _ _ _ _ (by decide))]
  idx_vars y
  have ht : t.val < 16 := lt_of_lt_of_eq t.isLt N_0
  have h0 : y0 = 0 := by omega
  subst h0
  have e : (win0_23.blk t).view.emb (ix4 0 y1 y2 y3) = ix4 (tb t) y1 y2 (tok t y3) := by
    funext a
    refine Fin.ext ?_
    fin_cases a <;> blk_simp [i23] <;> simp [tb, tok]
  rw [e, Ref.vA_at]
  refine View.canon_ofFn_unit_eq_of_forall (S := S1x8x80x1024) (fun k : Fin 32 => ![0, (hd k.val).val, 0, (pt k.val).val * 256]) S1x1x80x256.size
    (fun k => inbV (pt k.val) (hd k.val)) _ _ _ ?_ fun k => ?_
  · refine ⟨pc ⟨y3.val / 256, by omega⟩ y1, ?_⟩
    rw [pt_pc, hd_pc]
    intro a
    fin_cases a <;> simp [grp, reim] <;> omega
  · tile_intro z h
    idx_vars z
    have hz : z0 = 0 := by omega
    subst hz
    have hz1 : z1 = 0 := by omega
    subst hz1
    have q1 : y1.val = (hd k.val).val := h1
    have q3 : y3.val = (pt k.val).val * 256 + z3.val := h3
    refine (v_pt m d t (pt k.val) (hd k.val) z2 z3).trans ?_
    rw [show tok t y3 = tokp t (pt k.val) z3 from congrArg (tok t) (Fin.ext q3)]
    rw [show y1 = hd k.val from Fin.ext (q1)]
    rw [show y2 = z2 from Fin.ext (h2)]

end Proj

end
-- ==== Proof.Proj.TilesG.lean ====
/- The third call's gates after its body, as one family of tiles. -/
module

public import proofs.«01_k».proof.Proof.Proj.RunKI
public import proofs.«01_k».proof.Proof.Proj.Load
public import Idealize.ShloMosaic.Lib.Pipeline.ValueKit.Tiles

@[expose] public section

set_option maxRecDepth 16384

noncomputable section

namespace Proj

open Cert.Kernel3Ideal Cert.Kernel3Ideal.Gen Idealize.ShloMosaic Idealize.ShloMosaic.TcCoe Idealize.SL.Sem

variable {F : FTy → Type} [FloatOps F] [Named F]

set_option maxHeartbeats 40000000

/-- The gates. -/
theorem out_G (c : Dev nD) (i : grid0.Coords) (arg2 : Memref sig .tc .vmem S1x1024x1024 .f32) (harg2 : arg2.IsWhole) (arg3 : Memref sig .tc .vmem S8x6144 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S128x256 .bf16) (harg6 : arg6.IsWhole) (arg7 : Memref sig .tc .vmem S8x1024x256 .bf16) (harg7 : arg7.IsWhole) (arg8 : Memref sig .tc .vmem S1x2048 .f32) (harg8 : arg8.IsWhole) (arg9 : Memref sig .tc .vmem S1024x256 .bf16) (harg9 : arg9.IsWhole) (arg10 : Memref sig .tc .vmem S1x256 .f32) (harg10 : arg10.IsWhole) (arg11 : Memref sig .tc .vmem S768x256 .bf16) (harg11 : arg11.IsWhole) (arg12 : Memref sig .tc .vmem S96x128 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S512x128 .bf16) (harg15 : arg15.IsWhole) (arg16 : Memref sig .tc .vmem S512x128 .bf16) (harg16 : arg16.IsWhole) (arg17 : Memref sig .tc .vmem S64x128 .f32) (harg17 : arg17.IsWhole) (arg18 : Memref sig .tc .vmem S32x128 .f32) (harg18 : arg18.IsWhole) (arg19 : Memref sig .tc .vmem S32x1024 .f32) (harg19 : arg19.IsWhole) (arg20 : Memref sig .tc .vmem S32x1024 .f32) (harg20 : arg20.IsWhole) (arg21 : Memref sig .tc .vmem S1x2x1024x512 .bf16) (harg21 : arg21.IsWhole) (arg22 : Memref sig .tc .vmem S1x1024x2048 .bf16) (harg22 : arg22.IsWhole) (arg23 : Memref sig .tc .vmem S1x8x128x1024 .bf16) (harg23 : arg23.IsWhole) (arg24 : Memref sig .tc .vmem S1x8x1024x128 .bf16) (harg24 : arg24.IsWhole) (arg25 : Memref sig .tc .vmem S1x8x80x1024 .bf16) (harg25 : arg25.IsWhole)
    (x0 : Vec F S1x1024x1024 .f32) (x1 : Vec F S8x6144 .f32) (x2 : Vec F S1x1024 .f32) (x3 : Vec F S1024x512 .bf16) (x4 : Vec F S128x256 .bf16) (x5 : Vec F S8x1024x256 .bf16) (x6 : Vec F S1x2048 .f32) (x7 : Vec F S1024x256 .bf16) (x8 : Vec F S1x256 .f32) (x9 : Vec F S768x256 .bf16) (x10 : Vec F S96x128 .f32) (x11 : Vec F S1024x256 .bf16) (x12 : Vec F S1x128 .f32) (x13 : Vec F S512x128 .bf16) (x14 : Vec F S512x128 .bf16) (x15 : Vec F S64x128 .f32) (x16 : Vec F S32x128 .f32) (x17 : Vec F S32x1024 .f32) (x18 : Vec F S32x1024 .f32)
    (y0 : Vec F S1x1024x1024 .f32) (y1 : Vec F S8x6144 .f32) (y2 : Vec F S1x1024 .f32) (y5 : Vec F S8x1024x256 .bf16) (y6 : Vec F S1x2048 .f32)
    (e0 : View.read (Elt F) arg2.view (harg2.unread x0) = y0) (e1 : View.read (Elt F) arg3.view (harg3.unread x1) = y1) (e2 : View.ld (View.read (Elt F) arg4.view (harg4.unread x2)) (Rect.unit (s := S1x1024) ![0, 0] S1x1024.size (by decide)) = y2) (e5 : View.read (Elt F) arg7.view (harg7.unread x5) = y5) (e6 : View.read (Elt F) arg8.view (harg8.unread x6) = y6) :
    out0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 =
      View.canon (List.ofFn fun k : Fin 32 => ⟨Rect.unit (s := S1x1024x2048) ![0, (pt k.val).val * 256, (hd k.val).val * 256] S1x256x256.size (inbG (pt k.val) (hd k.val)),
        gTile (k0_pay2 (ldR i y1) (ldX (pt k.val) y0) y2) (ldW (hd k.val) y5) (ldB (hd k.val) y6)⟩) := by
  subst e0 e1 e2 e5 e6
  unfold out0_A_20
  rw [View.read_writes_eq_canon _ _ _ (cover0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18)]
  unfold kernelRun0_A
  dsimp only
  refine congrArg View.canon ?_
  refine Eq.trans ?_ (ofFn_pieces fun p h => (⟨Rect.unit (s := S1x1024x2048) ![0, p.val * 256, h.val * 256] S1x256x256.size (inbG p h),
        gTile (k0_pay2 (ldR i (View.read (Elt F) arg3.view (harg3.unread x1))) (ldX p (View.read (Elt F) arg2.view (harg2.unread x0))) (View.ld (View.read (Elt F) arg4.view (harg4.unread x2)) (Rect.unit (s := S1x1024) ![0, 0] S1x1024.size (by decide)))) (ldW h (View.read (Elt F) arg7.view (harg7.unread x5))) (ldB h (View.read (Elt F) arg8.view (harg8.unread x6)))⟩ : View.Piece (Elt F) S1x1024x2048 .bf16)).symm
  repeat' refine cons_of ?_ ?_
  all_goals first | rfl | exact congrArg (Sigma.mk _) rfl

end Proj

end
-- ==== Proof.Proj.FinalG.lean ====
/- The third call's results as arrays: the gates. -/
module

public import proofs.«01_k».proof.Proof.Proj.Point
public import proofs.«01_k».proof.Proof.Proj.Whole
public import proofs.«01_k».proof.Proof.Proj.TilesG

@[expose] public section

set_option maxRecDepth 16384

noncomputable section

namespace Proj

open Cert.Kernel3Ideal Cert.Kernel3Ideal.Gen Idealize.ShloMosaic Idealize.ShloMosaic.TcCoe Idealize.SL.Sem

variable (m : (ℓ : Loc nD τ sig) → Buf (Elt Ideal) ℓ) (d : Dev nD)

set_option maxHeartbeats 4000000 in
/-- Window 20 ends at the array of `Out`. -/
theorem final_G : (dats m 0 d).arrAt 20 cfg0.N = Ref.gA (aP m d) (abg m d) := by
  refine (dats m 0 d).arrAt_eq_of_covers 20 _ (by decide +kernel) fun t hf y => ?_
  blk_simp
  rw [after0_20]
  unfold outsAt0
  dsimp only
  rw [out_G (e0 := Memref.IsWhole.read_unread _ _)
    (e1 := Memref.IsWhole.read_unread _ _)
    (e2 := rd_whole _ _ _ _ (by decide))
    (e5 := Memref.IsWhole.read_unread _ _)
    (e6 := Memref.IsWhole.read_unread _ _)]
  idx_vars y
  have ht : t.val < 16 := lt_of_lt_of_eq t.isLt N_0
  have h0 : y0 = 0 := by omega
  subst h0
  have e : (win0_20.blk t).view.emb (ix3 0 y1 y2) = ix3 (tb t) (tok t y1) y2 := by
    funext a
    refine Fin.ext ?_
    fin_cases a <;> blk_simp [i20] <;> simp [tb, tok]
  rw [e, Ref.gA_at]
  refine View.canon_ofFn_unit_eq_of_forall (S := S1x1024x2048) (fun k : Fin 32 => ![0, (pt k.val).val * 256, (hd k.val).val * 256]) S1x256x256.size
    (fun k => inbG (pt k.val) (hd k.val)) _ _ _ ?_ fun k => ?_
  · refine ⟨pc ⟨y1.val / 256, by omega⟩ ⟨y2.val / 256, by omega⟩, ?_⟩
    rw [pt_pc, hd_pc]
    intro a
    fin_cases a <;> simp [grp, reim] <;> omega
  · tile_intro z h
    idx_vars z
    have hz : z0 = 0 := by omega
    subst hz
    have q1 : y1.val = (pt k.val).val * 256 + z1.val := h1
    have q2 : y2.val = (hd k.val).val * 256 + z2.val := h2
    refine (g_pt m d t (pt k.val) (hd k.val) z1 z2).trans ?_
    rw [show tok t y1 = tokp t (pt k.val) z1 from congrArg (tok t) (Fin.ext q1)]
    rw [show y2 = ⟨(hd k.val).val * 256 + z2.val, by omega⟩ from Fin.ext (q2)]

end Proj

end
-- ==== Proof.Proj.TilesZ.lean ====
/- The third call's transforms after its body, as one family of tiles. -/
module

public import proofs.«01_k».proof.Proof.Proj.RunKI
public import proofs.«01_k».proof.Proof.Proj.Load
public import Idealize.ShloMosaic.Lib.Pipeline.ValueKit.Tiles

@[expose] public section

set_option maxRecDepth 16384

noncomputable section

namespace Proj

open Cert.Kernel3Ideal Cert.Kernel3Ideal.Gen Idealize.ShloMosaic Idealize.ShloMosaic.TcCoe Idealize.SL.Sem

variable {F : FTy → Type} [FloatOps F] [Named F]

set_option maxHeartbeats 40000000

/-- The transforms. -/
theorem out_Z (c : Dev nD) (i : grid0.Coords) (arg2 : Memref sig .tc .vmem S1x1024x1024 .f32) (harg2 : arg2.IsWhole) (arg3 : Memref sig .tc .vmem S8x6144 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S128x256 .bf16) (harg6 : arg6.IsWhole) (arg7 : Memref sig .tc .vmem S8x1024x256 .bf16) (harg7 : arg7.IsWhole) (arg8 : Memref sig .tc .vmem S1x2048 .f32) (harg8 : arg8.IsWhole) (arg9 : Memref sig .tc .vmem S1024x256 .bf16) (harg9 : arg9.IsWhole) (arg10 : Memref sig .tc .vmem S1x256 .f32) (harg10 : arg10.IsWhole) (arg11 : Memref sig .tc .vmem S768x256 .bf16) (harg11 : arg11.IsWhole) (arg12 : Memref sig .tc .vmem S96x128 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S512x128 .bf16) (harg15 : arg15.IsWhole) (arg16 : Memref sig .tc .vmem S512x128 .bf16) (harg16 : arg16.IsWhole) (arg17 : Memref sig .tc .vmem S64x128 .f32) (harg17 : arg17.IsWhole) (arg18 : Memref sig .tc .vmem S32x128 .f32) (harg18 : arg18.IsWhole) (arg19 : Memref sig .tc .vmem S32x1024 .f32) (harg19 : arg19.IsWhole) (arg20 : Memref sig .tc .vmem S32x1024 .f32) (harg20 : arg20.IsWhole) (arg21 : Memref sig .tc .vmem S1x2x1024x512 .bf16) (harg21 : arg21.IsWhole) (arg22 : Memref sig .tc .vmem S1x1024x2048 .bf16) (harg22 : arg22.IsWhole) (arg23 : Memref sig .tc .vmem S1x8x128x1024 .bf16) (harg23 : arg23.IsWhole) (arg24 : Memref sig .tc .vmem S1x8x1024x128 .bf16) (harg24 : arg24.IsWhole) (arg25 : Memref sig .tc .vmem S1x8x80x1024 .bf16) (harg25 : arg25.IsWhole)
    (x0 : Vec F S1x1024x1024 .f32) (x1 : Vec F S8x6144 .f32) (x2 : Vec F S1x1024 .f32) (x3 : Vec F S1024x512 .bf16) (x4 : Vec F S128x256 .bf16) (x5 : Vec F S8x1024x256 .bf16) (x6 : Vec F S1x2048 .f32) (x7 : Vec F S1024x256 .bf16) (x8 : Vec F S1x256 .f32) (x9 : Vec F S768x256 .bf16) (x10 : Vec F S96x128 .f32) (x11 : Vec F S1024x256 .bf16) (x12 : Vec F S1x128 .f32) (x13 : Vec F S512x128 .bf16) (x14 : Vec F S512x128 .bf16) (x15 : Vec F S64x128 .f32) (x16 : Vec F S32x128 .f32) (x17 : Vec F S32x1024 .f32) (x18 : Vec F S32x1024 .f32)
    (y0 : Vec F S1x1024x1024 .f32) (y1 : Vec F S8x6144 .f32) (y2 : Vec F S1x1024 .f32) (y3 : Vec F S1024x512 .bf16) (y4 : Vec F S128x256 .bf16)
    (e0 : View.read (Elt F) arg2.view (harg2.unread x0) = y0) (e1 : View.read (Elt F) arg3.view (harg3.unread x1) = y1) (e2 : View.ld (View.read (Elt F) arg4.view (harg4.unread x2)) (Rect.unit (s := S1x1024) ![0, 0] S1x1024.size (by decide)) = y2) (e3 : View.ld (View.read (Elt F) arg5.view (harg5.unread x3)) (Rect.unit (s := S1024x512) ![0, 0] S1024x512.size (by decide)) = y3) (e4 : View.ld (View.read (Elt F) arg6.view (harg6.unread x4)) (Rect.unit (s := S128x256) ![0, 0] S128x256.size (by decide)) = y4) :
    out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 =
      View.canon (List.ofFn fun k : Fin 32 => ⟨Rect.unit (s := S1x2x1024x512) ![0, (reim (hd k.val)).val, (pt k.val).val * 256, (grp (hd k.val)).val * 128] S1x1x256x128.size (inbZ (pt k.val) (hd k.val)),
        zTile (k0_pay5 (k0_pay2 (ldR i y1) (ldX (pt k.val) y0) y2) y3) y4 (grp (hd k.val)) (reim (hd k.val))⟩) := by
  subst e0 e1 e2 e3 e4
  unfold out0_A_19
  rw [View.read_writes_eq_canon _ _ _ (cover0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18)]
  unfold kernelRun0_A
  dsimp only
  refine congrArg View.canon ?_
  refine Eq.trans ?_ (ofFn_pieces fun p h => (⟨Rect.unit (s := S1x2x1024x512) ![0, (reim h).val, p.val * 256, (grp h).val * 128] S1x1x256x128.size (inbZ p h),
        zTile (k0_pay5 (k0_pay2 (ldR i (View.read (Elt F) arg3.view (harg3.unread x1))) (ldX p (View.read (Elt F) arg2.view (harg2.unread x0))) (View.ld (View.read (Elt F) arg4.view (harg4.unread x2)) (Rect.unit (s := S1x1024) ![0, 0] S1x1024.size (by decide)))) (View.ld (View.read (Elt F) arg5.view (harg5.unread x3)) (Rect.unit (s := S1024x512) ![0, 0] S1024x512.size (by decide)))) (View.ld (View.read (Elt F) arg6.view (harg6.unread x4)) (Rect.unit (s := S128x256) ![0, 0] S128x256.size (by decide))) (grp h) (reim h)⟩ : View.Piece (Elt F) S1x2x1024x512 .bf16)).symm
  repeat' refine cons_of ?_ ?_
  all_goals first | rfl | exact congrArg (Sigma.mk _) rfl

end Proj

end
-- ==== Proof.Proj.FinalZ.lean ====
/- The third call's results as arrays: the transform. -/
module

public import proofs.«01_k».proof.Proof.Proj.Point
public import proofs.«01_k».proof.Proof.Proj.Whole
public import proofs.«01_k».proof.Proof.Proj.TilesZ

@[expose] public section

set_option maxRecDepth 16384

noncomputable section

namespace Proj

open Cert.Kernel3Ideal Cert.Kernel3Ideal.Gen Idealize.ShloMosaic Idealize.ShloMosaic.TcCoe Idealize.SL.Sem

variable (m : (ℓ : Loc nD τ sig) → Buf (Elt Ideal) ℓ) (d : Dev nD)

set_option maxHeartbeats 4000000 in
/-- Window 19 ends at the array of `Out`. -/
theorem final_Z : (dats m 0 d).arrAt 19 cfg0.N = Ref.zA (aP m d) := by
  refine (dats m 0 d).arrAt_eq_of_covers 19 _ (by decide +kernel) fun t hf y => ?_
  blk_simp
  rw [after0_19]
  unfold outsAt0
  dsimp only
  rw [out_Z (e0 := Memref.IsWhole.read_unread _ _)
    (e1 := Memref.IsWhole.read_unread _ _)
    (e2 := rd_whole _ _ _ _ (by decide))
    (e3 := rd_whole _ _ _ _ (by decide))
    (e4 := rd_whole _ _ _ _ (by decide))]
  idx_vars y
  have ht : t.val < 16 := lt_of_lt_of_eq t.isLt N_0
  have h0 : y0 = 0 := by omega
  subst h0
  have e : (win0_19.blk t).view.emb (ix4 0 y1 y2 y3) = ix4 (tb t) y1 (tok t y2) y3 := by
    funext a
    refine Fin.ext ?_
    fin_cases a <;> blk_simp [i19] <;> simp [tb, tok]
  rw [e, Ref.zA_at]
  refine View.canon_ofFn_unit_eq_of_forall (S := S1x2x1024x512) (fun k : Fin 32 => ![0, (reim (hd k.val)).val, (pt k.val).val * 256, (grp (hd k.val)).val * 128]) S1x1x256x128.size
    (fun k => inbZ (pt k.val) (hd k.val)) _ _ _ ?_ fun k => ?_
  · refine ⟨pc ⟨y2.val / 256, by omega⟩ ⟨y3.val / 128 * 2 + y1.val, by omega⟩, ?_⟩
    rw [pt_pc, hd_pc]
    intro a
    fin_cases a <;> simp [grp, reim] <;> omega
  · tile_intro z h
    idx_vars z
    have hz : z0 = 0 := by omega
    subst hz
    have hz1 : z1 = 0 := by omega
    subst hz1
    have q1 : y1.val = (reim (hd k.val)).val := h1
    have q2 : y2.val = (pt k.val).val * 256 + z2.val := h2
    have q3 : y3.val = (grp (hd k.val)).val * 128 + z3.val := h3
    refine (z_pt m d t (pt k.val) (hd k.val) z2 z3).trans ?_
    rw [show tok t y2 = tokp t (pt k.val) z2 from congrArg (tok t) (Fin.ext q2)]
    rw [show y1 = reim (hd k.val) from Fin.ext (q1)]
    rw [show y3 = ⟨(grp (hd k.val)).val * 128 + z3.val, by omega⟩ from Fin.ext (q3)]

end Proj

end
-- ==== Proof.Proj.Claim.lean ====
/- The third call's claims: the frames, the named constant, and the value claim against the plain reference. -/
module

public import proofs.«01_k».proof.Defs
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Proj.RunK
public import proofs.«01_k».proof.Proof.Proj.RunKI
public import proofs.«01_k».proof.Proof.Proj.RefRun
public import proofs.«01_k».proof.Proof.Proj.FinalQ
public import proofs.«01_k».proof.Proof.Proj.FinalK
public import proofs.«01_k».proof.Proof.Proj.FinalV
public import proofs.«01_k».proof.Proof.Proj.FinalG
public import proofs.«01_k».proof.Proof.Proj.FinalZ
public import Idealize.ShloMosaic.Lib.Pipeline.Value
public import Idealize.ShloMosaic.Adequacy
public import Idealize.ShloMosaic.Init
public import Idealize.ShloMosaic.Lib.Quiescent

@[expose] public section

set_option maxRecDepth 16384

noncomputable section

namespace Proj

open Idealize.ShloMosaic Idealize.ShloMosaic.TcCoe Idealize.SL.Sem

theorem frame_k : Cert.quiescent_Kernel3 := fun m ρ _ => Cert.Kernel3.Gen.frame m ρ
theorem frame_ki : Cert.quiescent_Kernel3Ideal := fun m ρ _ => Cert.Kernel3Ideal.Gen.frame m ρ

/-- The reference's run read at its arguments; it has no semaphore. -/
theorem frame_ri : Cert.quiescent_Reference3Ideal := fun m ρ _ =>
  (θ_run Cert.Reference3Ideal.defs _ _).mono (fun r h => ⟨fun c => (h c).2.2.2.2.2,
      Idealize.ShloMosaic.sem_eq_zero_of_no_sems (by decide) r.2⟩)
    (Cert.Reference3Ideal.Value.run (F := Ideal) m ρ)

/-- The named constant is the number that its name says. -/
theorem preserves : Cert.preserves_Kernel3_Kernel3Ideal :=
  IdealRules.named_const.statement Cert.Kernel3Ideal.κ "inv_head" .f32 0x3C2AAAAB#32 ((1 / 96 : ℝ) : EReal) rfl

section Posts

open Cert.Kernel3Ideal Cert.Kernel3Ideal.Gen

variable (m : (ℓ : Loc nD τ sig) → Buf (Elt Ideal) ℓ) (r : PUnit × MemSt nD τ sig (Elt Ideal))
  (h : Pipeline.FramePost cfgs (dats m) 0 (V m) r) (c : Dev nD)

include h

/-! After the kernel's run its result arrays are those of `Out`. -/

theorem post_Z : r.2.mem ((c : Thread nD τ).loc main_v94_0) = Ref.zA (aP m c) :=
  Eq.trans (show r.2.mem ((c : Thread nD τ).loc main_v94_0) = (dats m 0 c).arrAt 19 cfg0.N from (h c).1 19) (final_Z m c)

theorem post_G : r.2.mem ((c : Thread nD τ).loc main_v94_1) = Ref.gA (aP m c) (abg m c) :=
  Eq.trans (show r.2.mem ((c : Thread nD τ).loc main_v94_1) = (dats m 0 c).arrAt 20 cfg0.N from (h c).1 20) (final_G m c)

theorem post_Q : r.2.mem ((c : Thread nD τ).loc main_v94_2) = Ref.qA (aP m c) (aqn m c) (awq m c) (aqg m c) :=
  Eq.trans (show r.2.mem ((c : Thread nD τ).loc main_v94_2) = (dats m 0 c).arrAt 21 cfg0.N from (h c).1 21) (final_Q m c)

theorem post_K : r.2.mem ((c : Thread nD τ).loc main_v94_3) = Ref.kA (aP m c) (akn m c) (awk m c) (akg m c) :=
  Eq.trans (show r.2.mem ((c : Thread nD τ).loc main_v94_3) = (dats m 0 c).arrAt 22 cfg0.N from (h c).1 22) (final_K m c)

theorem post_V : r.2.mem ((c : Thread nD τ).loc main_v94_4) = Ref.vA (aP m c) (akn m c) (awk m c) :=
  Eq.trans (show r.2.mem ((c : Thread nD τ).loc main_v94_4) = (dats m 0 c).arrAt 23 cfg0.N from (h c).1 23) (final_V m c)

end Posts

/-- The value claim, of all five results: it needs nothing of the arguments. -/
theorem algebraic : Cert.algebraic_Kernel3Ideal_Reference3Ideal := by
  intro m ρ m' ρ' _ hagree
  refine ⟨fun c => Ref.zA (aP m c), fun c => Ref.gA (aP m c) (abg m c), fun c => Ref.qA (aP m c) (aqn m c) (awq m c) (aqg m c),
    fun c => Ref.kA (aP m c) (akn m c) (awk m c) (akg m c), fun c => Ref.vA (aP m c) (akn m c) (awk m c), ?_, ?_⟩
  · refine (θ_run Cert.Kernel3Ideal.defs _ _).mono (fun r h c => ?_)
      (θ_run_and (Cert.Kernel3Ideal.Gen.unchanged (F := Ideal) m ρ) (Cert.Kernel3Ideal.Gen.run_main (F := Ideal) m ρ))
    exact ⟨post_Z m r h.2 c, post_G m r h.2 c, post_Q m r h.2 c, post_K m r h.2 c, post_V m r h.2 c, h.1 c⟩
  · refine (θ_run Cert.Reference3Ideal.defs _ _).mono (fun r h c => ?_) (Cert.Reference3Ideal.Value.run (F := Ideal) m' ρ')
    obtain ⟨a0, a1, a2, a3, a4, a5, a6, a7, a8, a9, a10⟩ := hagree c
    obtain ⟨hz, hg, hq, hk, hv, hrest⟩ := h c
    have e0 : Ref.ux (StableHlo.launchContents m' c) = ax m c := a0
    have e1 : Ref.umo (StableHlo.launchContents m' c) = amo m c := a1
    have e2 : Ref.un (StableHlo.launchContents m' c) = an m c := a2
    have e3 : Ref.uw (StableHlo.launchContents m' c) = aw m c := a3
    have e4 : Ref.ubg (StableHlo.launchContents m' c) = abg m c := a4
    have e5 : Ref.uqn (StableHlo.launchContents m' c) = aqn m c := a5
    have e6 : Ref.uwq (StableHlo.launchContents m' c) = awq m c := a6
    have e7 : Ref.ukn (StableHlo.launchContents m' c) = akn m c := a7
    have e8 : Ref.uwk (StableHlo.launchContents m' c) = awk m c := a8
    have e9 : Ref.uqg (StableHlo.launchContents m' c) = aqg m c := a9
    have e10 : Ref.ukg (StableHlo.launchContents m' c) = akg m c := a10
    have e : Ref.uP (StableHlo.launchContents m' c) = aP m c := by
      unfold Ref.uP aP
      rw [e0, e1, e2, e3]
    have tz := Ref.resZ_eq (StableHlo.launchContents m' c)
    have tg := Ref.resG_eq (StableHlo.launchContents m' c)
    have tq := Ref.resQ_eq (StableHlo.launchContents m' c)
    have tk := Ref.resK_eq (StableHlo.launchContents m' c)
    have tv := Ref.resV_eq (StableHlo.launchContents m' c)
    rw [e] at tz tg tq tk tv
    rw [e4] at tg
    rw [e5, e6, e9] at tq
    rw [e7, e8, e10] at tk
    rw [e7, e8] at tv
    exact ⟨hz.trans tz, hg.trans tg, hq.trans tq, hk.trans tk, hv.trans tv, hrest⟩

end Proj

end
-- ==== Proof.Ctx.Tiles.lean ====
/- The fourth call's tiles, a key head and a value head, with the head as a parameter; their values at an index; and the body's
   two results as the eight tiles laid side by side. -/
module

public import proofs.«01_k».proof.Proof.Gen.Kernel4Ideal.Frame
public import Idealize.ShloMosaic.Lib.Pointwise
public import Idealize.ShloMosaic.Lib.IdealHost
public import Idealize.ShloMosaic.Lib.Pipeline.ValueKit.Tiles
public import proofs.«01_k».proof.Proof.Proj.Algebra

@[expose] public section

set_option maxRecDepth 16384

noncomputable section

namespace Ctx

open Cert.Kernel4Ideal Cert.Kernel4Ideal.Gen Idealize.ShloMosaic Idealize.ShloMosaic.TcCoe Idealize.SL.Sem

theorem sl64 (h : Fin 8) : S512x256.Slices ![h.val * 64, 0] S64x256 := by revert h; decide

section Tiles

variable {F : FTy → Type} [FloatOps F] [Named F]

/-- The inverse root of a head's mean square: its own channels' squares, and `ss` of the shared ones'. -/
def kRoot (kn : FVec F S512x256 .f32) (ss : FVec F S1x256 .f32) (h : Fin 8) : FVec F S1x256 .f32 :=
  rsqrt (addf (mulf (addf (shapeCast S1x256 (multiReduction .add [0] S256
      (mulf (extractStridedSlice S64x256 ![h.val * 64, 0] kn (sl64 h)) (extractStridedSlice S64x256 ![h.val * 64, 0] kn (sl64 h)))
      0x00000000#32 reduces_S64x256_S256 (.inl rfl) rfl) shapeCasts_S256_S1x256) ss)
    (broadcast S1x256 (Named.named κ "inv_head" 0x3C2AAAAB#32))) (broadcast S1x256 (Scalar.ofBits .f32 0x358637BD#32)))

/-- Key head `h` as it is stored, of the heads' own channels `kn` and the shared ones with their gain `kr`. -/
def kTile (kn : FVec F S512x256 .f32) (ss : FVec F S1x256 .f32) (kr : FVec F S32x256 .f32) (gn : Vec F S64x128 .f32) (h : Fin 8) :
    FVec F S1x1x256x128 .bf16 :=
  shapeCast S1x1x256x128 (truncf .bf16 (transpose S256x128 [1, 0] (concatenate S128x256 0
    [⟨S64x256, mulf (mulf (extractStridedSlice S64x256 ![h.val * 64, 0] kn (sl64 h)) (k0_pay13 gn)) (broadcastTo S64x256 (kRoot kn ss h) broadcasts_S1x256_S64x256)⟩,
     ⟨S32x256, mulf kr (broadcastTo S32x256 (kRoot kn ss h) broadcasts_S1x256_S32x256)⟩,
     ⟨S32x256, k0_pay15⟩] concatenates_S64x256_S32x256_S32x256_S128x256_d0) transposes_S128x256_p1_0_S256x128) bitsLt_bf16_f32)
    shapeCasts_S256x128_S1x1x256x128

/-- Value head `h` as it is stored: its 64 rows and 16 of ones. -/
def vTile (vT : FVec F S512x256 .f32) (h : Fin 8) : FVec F S1x1x80x256 .bf16 :=
  shapeCast S1x1x80x256 (truncf .bf16 (concatenate S80x256 0 [⟨S64x256, extractStridedSlice S64x256 ![h.val * 64, 0] vT (sl64 h)⟩,
    ⟨S16x256, k0_pay14⟩] concatenates_S64x256_S16x256_S80x256_d0) bitsLt_bf16_f32) shapeCasts_S80x256_S1x1x80x256

/-! ## The body's results -/

/-- The head that piece `k` of 8 (the last store first) holds. -/
def hd (k : ℕ) : Fin 8 := ⟨(7 - k) % 8, by omega⟩

theorem inbK (h : Fin 8) : ∀ a, (![0, h.val, 0, 0] : Fin 4 → Nat) a + S1x1x256x128.size a ≤ S1x8x256x128.size a := by revert h; decide
theorem inbV (h : Fin 8) : ∀ a, (![0, h.val, 0, 0] : Fin 4 → Nat) a + S1x1x80x256.size a ≤ S1x8x80x256.size a := by revert h; decide

/-- A family over the heads, listed. -/
theorem ofFn_heads {α : Type*} (g : Fin 8 → α) : (List.ofFn fun k : Fin 8 => g (hd k.val)) = [g 7, g 6, g 5, g 4, g 3, g 2, g 1, g 0] := rfl

/-- The token tile's latents and shared channels, raw, of what the body loads. -/
abbrev proj (x : Vec F S1x256x1024 .f32) (r : Vec F S1x6144 .f32) (n : Vec F S1x1024 .f32) (w : Vec F S1024x256 .bf16) : FVec F S256x256 .f32 :=
  k0_pay3 x r n w

/-- The keys' (or the values') channels of the eight heads. -/
abbrev heads (x : Vec F S1x256x1024 .f32) (r : Vec F S1x6144 .f32) (n : Vec F S1x1024 .f32) (w : Vec F S1024x256 .bf16) (g : Vec F S1x128 .f32)
    (wk : Vec F S512x128 .bf16) : FVec F S512x256 .f32 :=
  k0_pay9 (k0_pay4 x r n w) (k0_pay5 x r n w) k0_pay6 g wk

variable (x0 : Vec F S1x256x1024 .f32) (x1 : Vec F S8x6144 .f32) (x2 : Vec F S1x1024 .f32) (x3 : Vec F S1024x256 .bf16) (x4 : Vec F S1x128 .f32)
  (x5 x6 : Vec F S512x128 .bf16) (x7 : Vec F S64x128 .f32) (x8 : Vec F S32x128 .f32) (x9 x10 : Vec F S32x256 .f32)

/-- The modulation table's row for the context. -/
def ldR : Vec F S1x6144 .f32 := View.ld x1 r0_1

theorem out_K : out0_11 x0 x1 x2 x3 x4 x5 x6 x7 x8 x9 x10 =
    View.canon (List.ofFn fun k : Fin 8 => ⟨Rect.unit (s := S1x8x256x128) ![0, (hd k.val).val, 0, 0] S1x1x256x128.size (inbK (hd k.val)),
      kTile (heads (View.ld x0 r0_0) (ldR x1) (View.ld x2 r0_2) (View.ld x3 r0_3) (View.ld x4 r0_4) (View.ld x5 r0_5))
        (k0_pay11 (proj (View.ld x0 r0_0) (ldR x1) (View.ld x2 r0_2) (View.ld x3 r0_3)))
        (k0_pay12 (proj (View.ld x0 r0_0) (ldR x1) (View.ld x2 r0_2) (View.ld x3 r0_3)) (View.ld x8 r0_6) (View.ld x9 r0_7) (View.ld x10 r0_7))
        (View.ld x7 r0_8) (hd k.val)⟩) := by
  refine Eq.trans ?_ (congrArg View.canon (ofFn_heads fun h => (⟨Rect.unit (s := S1x8x256x128) ![0, h.val, 0, 0] S1x1x256x128.size (inbK h),
      kTile (heads (View.ld x0 r0_0) (ldR x1) (View.ld x2 r0_2) (View.ld x3 r0_3) (View.ld x4 r0_4) (View.ld x5 r0_5))
        (k0_pay11 (proj (View.ld x0 r0_0) (ldR x1) (View.ld x2 r0_2) (View.ld x3 r0_3)))
        (k0_pay12 (proj (View.ld x0 r0_0) (ldR x1) (View.ld x2 r0_2) (View.ld x3 r0_3)) (View.ld x8 r0_6) (View.ld x9 r0_7) (View.ld x10 r0_7))
        (View.ld x7 r0_8) h⟩ : View.Piece (Elt F) S1x8x256x128 .bf16))).symm
  unfold_out out0_11
  rfl

theorem out_V : out0_12 x0 x1 x2 x3 x4 x5 x6 x7 x8 x9 x10 =
    View.canon (List.ofFn fun k : Fin 8 => ⟨Rect.unit (s := S1x8x80x256) ![0, (hd k.val).val, 0, 0] S1x1x80x256.size (inbV (hd k.val)),
      vTile (heads (View.ld x0 r0_0) (ldR x1) (View.ld x2 r0_2) (View.ld x3 r0_3) (View.ld x4 r0_4) (View.ld x6 r0_5)) (hd k.val)⟩) := by
  refine Eq.trans ?_ (congrArg View.canon (ofFn_heads fun h => (⟨Rect.unit (s := S1x8x80x256) ![0, h.val, 0, 0] S1x1x80x256.size (inbV h),
      vTile (heads (View.ld x0 r0_0) (ldR x1) (View.ld x2 r0_2) (View.ld x3 r0_3) (View.ld x4 r0_4) (View.ld x6 r0_5)) h⟩ :
        View.Piece (Elt F) S1x8x80x256 .bf16))).symm
  unfold_out out0_12
  rfl

end Tiles

/-! ## Values at an index -/

open Proj (inv96 div_1024 div_128)
open Proj.Ref (eps rms)

/-- The rows of the body's own copy of the modulation row that are used: the shift, then the scale. -/
def modT (v2 : Vec Ideal S1x6144 .f32) : FVec Ideal S6x1024 .f32 :=
  concatenate S6x1024 0 [⟨S1x1024, extractStridedSlice S1x1024 ![0, 0] v2 slices_S1x6144_o0_0_S1x1024⟩,
    ⟨S1x1024, extractStridedSlice S1x1024 ![0, 1024] v2 slices_S1x6144_o0_1024_S1x1024⟩,
    ⟨S1x1024, extractStridedSlice S1x1024 ![0, 2048] v2 slices_S1x6144_o0_2048_S1x1024⟩,
    ⟨S1x1024, extractStridedSlice S1x1024 ![0, 3072] v2 slices_S1x6144_o0_3072_S1x1024⟩,
    ⟨S1x1024, extractStridedSlice S1x1024 ![0, 4096] v2 slices_S1x6144_o0_4096_S1x1024⟩,
    ⟨S1x1024, extractStridedSlice S1x1024 ![0, 5120] v2 slices_S1x6144_o0_5120_S1x1024⟩]
    concatenates_S1x1024_S1x1024_S1x1024_S1x1024_S1x1024_S1x1024_S6x1024_d0

theorem modT_0 (r : Vec Ideal S1x6144 .f32) (j : Fin 1024) : modT r (ix2 0 j) = r (ix2 0 ⟨j.val, by omega⟩) := by
  pointwise [modT]

theorem modT_1 (r : Vec Ideal S1x6144 .f32) (j : Fin 1024) : modT r (ix2 1 j) = r (ix2 0 ⟨1024 + j.val, by omega⟩) := by
  pointwise [modT]

theorem pay3_at (x : Vec Ideal S1x256x1024 .f32) (r : Vec Ideal S1x6144 .f32) (n : Vec Ideal S1x1024 .f32) (w : Vec Ideal S1024x256 .bf16)
    (s j : Fin 256) : k0_pay3 x r n w (ix2 s j) = ∑ k : Fin 1024, (x (ix3 0 s k) *
      Ideal.rsqrt ((∑ k : Fin 1024, x (ix3 0 s k) * x (ix3 0 s k)) * Ideal.ofBits .f32 0x3A800000#32 + eps)
      * (n (ix2 0 k) * (1 + r (ix2 0 ⟨1024 + k.val, by omega⟩))) + r (ix2 0 ⟨k.val, by omega⟩)) * w (ix2 k j) := by
  simp only [← modT_0 r, ← modT_1 r]
  unfold k0_pay3
  dsimp only
  have e : concatenate S6x1024 0 [⟨S1x1024, extractStridedSlice S1x1024 ![0, 0] r slices_S1x6144_o0_0_S1x1024⟩,
    ⟨S1x1024, extractStridedSlice S1x1024 ![0, 1024] r slices_S1x6144_o0_1024_S1x1024⟩,
    ⟨S1x1024, extractStridedSlice S1x1024 ![0, 2048] r slices_S1x6144_o0_2048_S1x1024⟩,
    ⟨S1x1024, extractStridedSlice S1x1024 ![0, 3072] r slices_S1x6144_o0_3072_S1x1024⟩,
    ⟨S1x1024, extractStridedSlice S1x1024 ![0, 4096] r slices_S1x6144_o0_4096_S1x1024⟩,
    ⟨S1x1024, extractStridedSlice S1x1024 ![0, 5120] r slices_S1x6144_o0_5120_S1x1024⟩]
    concatenates_S1x1024_S1x1024_S1x1024_S1x1024_S1x1024_S1x1024_S6x1024_d0 = modT r := rfl
  rw [e]
  generalize modT r = M
  pointwise [Ideal.ofBits_one_f32, eps]

theorem pay4_at (x : Vec Ideal S1x256x1024 .f32) (r : Vec Ideal S1x6144 .f32) (n : Vec Ideal S1x1024 .f32) (w : Vec Ideal S1024x256 .bf16)
    (s : Fin 256) (k : Fin 128) : k0_pay4 x r n w (ix2 s k) = k0_pay3 x r n w (ix2 s ⟨k.val, by omega⟩) := by
  unfold k0_pay4
  generalize k0_pay3 x r n w = P
  pointwise

theorem pay5_at (x : Vec Ideal S1x256x1024 .f32) (r : Vec Ideal S1x6144 .f32) (n : Vec Ideal S1x1024 .f32) (w : Vec Ideal S1024x256 .bf16)
    (s : Fin 256) : k0_pay5 x r n w (ix2 s 0) =
      (∑ k : Fin 128, k0_pay3 x r n w (ix2 s ⟨k.val, by omega⟩) * k0_pay3 x r n w (ix2 s ⟨k.val, by omega⟩)) * Ideal.ofBits .f32 0x3C000000#32 := by
  simp only [← pay4_at]
  unfold k0_pay5
  generalize k0_pay4 x r n w = P
  pointwise

theorem pay7_at (a : FVec Ideal S256x128 .f32) (q : FVec Ideal S256x1 .f32) (g : Vec Ideal S1x128 .f32) (k : Fin 128) (s : Fin 256) :
    k0_pay7 a q k0_pay6 g (ix2 k s) = a (ix2 s k) * Ideal.rsqrt (q (ix2 s 0) + eps) * g (ix2 0 k) := by
  pointwise [k0_pay7, k0_pay6, eps]

theorem pay8_at (P : FVec Ideal S256x256 .f32) (i : Fin 32) (s : Fin 256) : k0_pay8 P (ix2 i s) = P (ix2 s ⟨128 + i.val, by omega⟩) := by
  pointwise [k0_pay8]

theorem heads_at (x : Vec Ideal S1x256x1024 .f32) (r : Vec Ideal S1x6144 .f32) (n : Vec Ideal S1x1024 .f32) (w : Vec Ideal S1024x256 .bf16)
    (g : Vec Ideal S1x128 .f32) (wk : Vec Ideal S512x128 .bf16) (c : Fin 512) (s : Fin 256) : heads x r n w g wk (ix2 c s) =
      ∑ k : Fin 128, rms 0x43000000#32 (fun k : Fin 128 => proj x r n w (ix2 s ⟨k.val, by omega⟩)) (fun k => g (ix2 0 k)) k * wk (ix2 c k) := by
  have e : ∀ k, rms 0x43000000#32 (fun k : Fin 128 => proj x r n w (ix2 s ⟨k.val, by omega⟩)) (fun k => g (ix2 0 k)) k =
      k0_pay7 (k0_pay4 x r n w) (k0_pay5 x r n w) k0_pay6 g (ix2 k s) := fun k => by
    rw [pay7_at, pay5_at, pay4_at]
    unfold rms
    rw [div_128]
  simp only [e]
  unfold heads k0_pay9
  generalize k0_pay7 (k0_pay4 x r n w) (k0_pay5 x r n w) k0_pay6 g = L
  pointwise
  exact Finset.sum_congr rfl fun k _ => mul_comm _ _

theorem pay11_at (P : FVec Ideal S256x256 .f32) (s : Fin 256) :
    k0_pay11 P (ix2 0 s) = ∑ k : Fin 32, P (ix2 s ⟨128 + k.val, by omega⟩) * P (ix2 s ⟨128 + k.val, by omega⟩) := by
  simp only [← pay8_at P]
  unfold k0_pay11
  generalize k0_pay8 P = K
  pointwise

/-- The shared channels with their gain; the tables are of ones and of zeros, so that nothing turns. -/
theorem pay12_at (P : FVec Ideal S256x256 .f32) (gr : Vec Ideal S32x128 .f32) (co si : Vec Ideal S32x256 .f32) (G : Fin 32 → EReal)
    (hg : ∀ c l, gr (ix2 c l) = G c) (hco : ∀ i s, co (ix2 i s) = 1) (hsi : ∀ i s, si (ix2 i s) = 0) (i : Fin 32) (s : Fin 256) :
    k0_pay12 P gr co si (ix2 i s) = P (ix2 s ⟨128 + i.val, by omega⟩) * G i := by
  rw [← pay8_at P]
  unfold k0_pay12
  generalize k0_pay8 P = K
  pointwise [hg, hco, hsi]
  simp only [mul_one, mul_zero, add_zero, ite_self, dite_eq_ite]

theorem pay13_at (g : Vec Ideal S64x128 .f32) (G : Fin 64 → EReal) (hg : ∀ c l, g (ix2 c l) = G c) (c : Fin 64) (s : Fin 256) :
    k0_pay13 g (ix2 c s) = G c := by
  pointwise [k0_pay13, hg]
  exact ite_self _

theorem kRoot_at (kn : FVec Ideal S512x256 .f32) (ss : FVec Ideal S1x256 .f32) (h : Fin 8) (s : Fin 256) :
    kRoot kn ss h (ix2 0 s) = Ideal.rsqrt (((∑ k : Fin 64, kn (ix2 ⟨h.val * 64 + k.val, by omega⟩ s) * kn (ix2 ⟨h.val * 64 + k.val, by omega⟩ s))
      + ss (ix2 0 s)) * inv96 + eps) := by
  have e : ∀ z : FVec Ideal S1x256 .f32, rsqrt (addf (mulf z (broadcast S1x256 (Named.named κ "inv_head" 0x3C2AAAAB#32)))
      (broadcast S1x256 (Scalar.ofBits .f32 0x358637BD#32))) (ix2 0 s) = Ideal.rsqrt (z (ix2 0 s) * inv96 + eps) := fun z => rfl
  refine (e _).trans ?_
  pointwise

theorem kTile_at (kn : FVec Ideal S512x256 .f32) (ss : FVec Ideal S1x256 .f32) (kr : FVec Ideal S32x256 .f32) (gn : Vec Ideal S64x128 .f32)
    (h : Fin 8) (s : Fin 256) (c : Fin 128) : kTile kn ss kr gn h (ix4 0 0 s c) =
      if g : c.val < 64 then kn (ix2 ⟨h.val * 64 + c.val, by omega⟩ s) * k0_pay13 gn (ix2 ⟨c.val, g⟩ s) * kRoot kn ss h (ix2 0 s)
      else if g' : c.val < 96 then kr (ix2 ⟨c.val - 64, by omega⟩ s) * kRoot kn ss h (ix2 0 s)
      else 0 := by
  unfold kTile
  generalize k0_pay13 gn = GN
  generalize kRoot kn ss h = R
  pointwise [k0_pay15]
  by_cases h64 : c.val < 64
  · rw [dif_pos h64, dif_pos h64]
  rw [dif_neg h64, dif_neg h64]
  by_cases h96 : c.val < 96
  · rw [dif_pos (by omega), dif_pos h96]
  rw [dif_neg (by omega), dif_neg h96]

theorem vTile_at (vT : FVec Ideal S512x256 .f32) (h : Fin 8) (c : Fin 80) (s : Fin 256) :
    vTile vT h (ix4 0 0 c s) = if g : c.val < 64 then vT (ix2 ⟨h.val * 64 + c.val, by omega⟩ s) else 1 := by
  pointwise [vTile, k0_pay14, Ideal.ofBits_one_f32]

end Ctx

end
-- ==== Proof.Ctx.Blocks.lean ====
/- The arrays the fourth call is handed, read at an index, and their blocks at grid point `t`, which is batch `t`. -/
module

public import proofs.«01_k».proof.Proof.Ctx.Tiles
public import Idealize.ShloMosaic.Lib.Claim
public import Idealize.ShloMosaic.Lib.Pipeline.ValueKit.Geometry

@[expose] public section

set_option maxRecDepth 16384

noncomputable section

namespace Ctx

open Cert.Kernel4Ideal Cert.Kernel4Ideal.Gen Idealize.ShloMosaic Idealize.ShloMosaic.TcCoe Idealize.SL.Sem

variable (m : (ℓ : Loc nD τ sig) → Buf (Elt Ideal) ℓ) (d : Dev nD)

/-- The arguments on device `d`. -/
abbrev ax : FVec Ideal S4x256x1024 .f32 := m ((d.tc : Thread nD τ).loc main_arg0)
abbrev amo : FVec Ideal S8x6144 .f32 := m ((d.tc : Thread nD τ).loc main_arg1)
abbrev an : FVec Ideal S1x1024 .f32 := m ((d.tc : Thread nD τ).loc main_arg2)
abbrev aw : FVec Ideal S1x1024x2976 .f32 := m ((d.tc : Thread nD τ).loc main_arg3)
abbrev akn : FVec Ideal S1x128 .f32 := m ((d.tc : Thread nD τ).loc main_arg4)
abbrev awk : FVec Ideal S1x128x1024 .f32 := m ((d.tc : Thread nD τ).loc main_arg5)
abbrev akg : FVec Ideal S1x96 .f32 := m ((d.tc : Thread nD τ).loc main_arg6)

/-! ## The arrays -/

theorem V_n (j : Fin 1024) : V m d main_v21 (ix2 0 j) = an m d (ix2 0 j) := by
  entry_read
  pointwise [an]

theorem V_w (k : Fin 1024) (c : Fin 256) : V m d main_v2 (ix2 k c) = aw m d (ix3 0 k ⟨768 + c.val, by omega⟩) := by
  entry_read
  pointwise [aw]

theorem V_kn (j : Fin 128) : V m d main_v23 (ix2 0 j) = akn m d (ix2 0 j) := by
  entry_read
  pointwise [akn]

theorem V_wkb (h : Fin 8) (c : Fin 64) (k : Fin 128) : V m d main_v8 (ix2 ⟨h.val * 64 + c.val, by omega⟩ k) = awk m d (ix3 0 k ⟨h.val * 128 + c.val, by omega⟩) := by
  entry_read
  pointwise [awk]
  refine congrArg (fun j => awk m d (ix3 0 k j)) (Fin.ext ?_)
  show (h.val * 64 + c.val) / 64 * 128 + (h.val * 64 + c.val) % 64 = h.val * 128 + c.val
  omega

theorem V_wv (h : Fin 8) (c : Fin 64) (k : Fin 128) : V m d main_v11 (ix2 ⟨h.val * 64 + c.val, by omega⟩ k) = awk m d (ix3 0 k ⟨h.val * 128 + (64 + c.val), by omega⟩) := by
  entry_read
  pointwise [awk]
  refine congrArg (fun j => awk m d (ix3 0 k j)) (Fin.ext ?_)
  show (h.val * 64 + c.val) / 64 * 128 + (64 + (h.val * 64 + c.val) % 64) = h.val * 128 + (64 + c.val)
  omega

theorem V_kgn (c : Fin 64) (l : Fin 128) : V m d main_v15 (ix2 c l) = akg m d (ix2 0 ⟨c.val, by omega⟩) := by
  entry_read
  pointwise [akg]

theorem V_kgr (c : Fin 32) (l : Fin 128) : V m d main_v19 (ix2 c l) = akg m d (ix2 0 ⟨64 + c.val, by omega⟩) := by
  entry_read
  pointwise [akg]

theorem V_co (i : Fin 32) (s : Fin 256) : V m d main_v24 (ix2 i s) = (1 : EReal) := by
  entry_read
  pointwise [Ideal.ofBits_one_f32]

theorem V_si (i : Fin 32) (s : Fin 256) : V m d main_v25 (ix2 i s) = (0 : EReal) := by
  entry_read
  pointwise

/-! ## The blocks -/

/-- The batch of a grid point. -/
def tb (t : Fin cfg0.N) : Fin 4 := ⟨t.val, lt_of_lt_of_eq t.isLt N_0⟩

theorem i0 : ∀ t : Fin cfg0.N, win0_0.index t = ![t.val, 0, 0] :=
  (by decide +kernel : ∀ t : Fin grid0.N, win0_0.index t = ![t.val, 0, 0])
theorem i1 : ∀ t : Fin cfg0.N, win0_1.index t = ![0, 0] :=
  (by decide +kernel : ∀ t : Fin grid0.N, win0_1.index t = ![0, 0])
theorem i2 : ∀ t : Fin cfg0.N, win0_2.index t = ![0, 0] :=
  (by decide +kernel : ∀ t : Fin grid0.N, win0_2.index t = ![0, 0])
theorem i3 : ∀ t : Fin cfg0.N, win0_3.index t = ![0, 0] :=
  (by decide +kernel : ∀ t : Fin grid0.N, win0_3.index t = ![0, 0])
theorem i4 : ∀ t : Fin cfg0.N, win0_4.index t = ![0, 0] :=
  (by decide +kernel : ∀ t : Fin grid0.N, win0_4.index t = ![0, 0])
theorem i5 : ∀ t : Fin cfg0.N, win0_5.index t = ![0, 0] :=
  (by decide +kernel : ∀ t : Fin grid0.N, win0_5.index t = ![0, 0])
theorem i6 : ∀ t : Fin cfg0.N, win0_6.index t = ![0, 0] :=
  (by decide +kernel : ∀ t : Fin grid0.N, win0_6.index t = ![0, 0])
theorem i7 : ∀ t : Fin cfg0.N, win0_7.index t = ![0, 0] :=
  (by decide +kernel : ∀ t : Fin grid0.N, win0_7.index t = ![0, 0])
theorem i8 : ∀ t : Fin cfg0.N, win0_8.index t = ![0, 0] :=
  (by decide +kernel : ∀ t : Fin grid0.N, win0_8.index t = ![0, 0])
theorem i9 : ∀ t : Fin cfg0.N, win0_9.index t = ![0, 0] :=
  (by decide +kernel : ∀ t : Fin grid0.N, win0_9.index t = ![0, 0])
theorem i10 : ∀ t : Fin cfg0.N, win0_10.index t = ![0, 0] :=
  (by decide +kernel : ∀ t : Fin grid0.N, win0_10.index t = ![0, 0])
theorem i11 : ∀ t : Fin cfg0.N, win0_11.index t = ![t.val, 0, 0, 0] :=
  (by decide +kernel : ∀ t : Fin grid0.N, win0_11.index t = ![t.val, 0, 0, 0])
theorem i12 : ∀ t : Fin cfg0.N, win0_12.index t = ![t.val, 0, 0, 0] :=
  (by decide +kernel : ∀ t : Fin grid0.N, win0_12.index t = ![t.val, 0, 0, 0])

theorem blk_x (t : Fin cfg0.N) (s : Fin 256) (j : Fin 1024) : iblk m d 0 t (ix3 0 s j) = ax m d (ix3 (tb t) s j) := by
  refine Eq.trans ?_ (congrFun (V_main_arg0 m d) _)
  blk_simp [iblk]
  refine congrArg (V m d main_arg0) ?_
  funext a
  refine Fin.ext ?_
  fin_cases a <;> blk_simp [i0] <;> simp [tb]

theorem blk_mo (t : Fin cfg0.N) (b : Fin 8) (j : Fin 6144) : iblk m d 1 t (ix2 b j) = amo m d (ix2 b j) := by
  refine Eq.trans ?_ (congrFun (V_main_arg1 m d) _)
  blk_simp [iblk]
  refine congrArg (V m d main_arg1) ?_
  funext a
  refine Fin.ext ?_
  fin_cases a <;> blk_simp [i1] <;> simp

theorem blk_n (t : Fin cfg0.N) (j : Fin 1024) : iblk m d 2 t (ix2 0 j) = an m d (ix2 0 j) := by
  refine Eq.trans ?_ (V_n m d j)
  blk_simp [iblk]
  refine congrArg (V m d main_v21) ?_
  funext a
  refine Fin.ext ?_
  fin_cases a <;> blk_simp [i2] <;> simp

theorem blk_w (t : Fin cfg0.N) (k : Fin 1024) (c : Fin 256) : iblk m d 3 t (ix2 k c) = aw m d (ix3 0 k ⟨768 + c.val, by omega⟩) := by
  refine Eq.trans ?_ (V_w m d k c)
  blk_simp [iblk]
  refine congrArg (V m d main_v2) ?_
  funext a
  refine Fin.ext ?_
  fin_cases a <;> blk_simp [i3] <;> simp

theorem blk_kn (t : Fin cfg0.N) (j : Fin 128) : iblk m d 4 t (ix2 0 j) = akn m d (ix2 0 j) := by
  refine Eq.trans ?_ (V_kn m d j)
  blk_simp [iblk]
  refine congrArg (V m d main_v23) ?_
  funext a
  refine Fin.ext ?_
  fin_cases a <;> blk_simp [i4] <;> simp

theorem blk_wkb (t : Fin cfg0.N) (h : Fin 8) (c : Fin 64) (k : Fin 128) : iblk m d 5 t (ix2 ⟨h.val * 64 + c.val, by omega⟩ k) = awk m d (ix3 0 k ⟨h.val * 128 + c.val, by omega⟩) := by
  refine Eq.trans ?_ (V_wkb m d h c k)
  blk_simp [iblk]
  refine congrArg (V m d main_v8) ?_
  funext a
  refine Fin.ext ?_
  fin_cases a <;> blk_simp [i5] <;> simp

theorem blk_wv (t : Fin cfg0.N) (h : Fin 8) (c : Fin 64) (k : Fin 128) : iblk m d 6 t (ix2 ⟨h.val * 64 + c.val, by omega⟩ k) = awk m d (ix3 0 k ⟨h.val * 128 + (64 + c.val), by omega⟩) := by
  refine Eq.trans ?_ (V_wv m d h c k)
  blk_simp [iblk]
  refine congrArg (V m d main_v11) ?_
  funext a
  refine Fin.ext ?_
  fin_cases a <;> blk_simp [i6] <;> simp

theorem blk_kgn (t : Fin cfg0.N) (c : Fin 64) (l : Fin 128) : iblk m d 7 t (ix2 c l) = akg m d (ix2 0 ⟨c.val, by omega⟩) := by
  refine Eq.trans ?_ (V_kgn m d c l)
  blk_simp [iblk]
  refine congrArg (V m d main_v15) ?_
  funext a
  refine Fin.ext ?_
  fin_cases a <;> blk_simp [i7] <;> simp

theorem blk_kgr (t : Fin cfg0.N) (c : Fin 32) (l : Fin 128) : iblk m d 8 t (ix2 c l) = akg m d (ix2 0 ⟨64 + c.val, by omega⟩) := by
  refine Eq.trans ?_ (V_kgr m d c l)
  blk_simp [iblk]
  refine congrArg (V m d main_v19) ?_
  funext a
  refine Fin.ext ?_
  fin_cases a <;> blk_simp [i8] <;> simp

theorem blk_co (t : Fin cfg0.N) (i : Fin 32) (s : Fin 256) : iblk m d 9 t (ix2 i s) = (1 : EReal) := by
  refine Eq.trans ?_ (V_co m d i s)
  blk_simp [iblk]
  refine congrArg (V m d main_v24) ?_
  funext a
  refine Fin.ext ?_
  fin_cases a <;> blk_simp [i9] <;> simp

theorem blk_si (t : Fin cfg0.N) (i : Fin 32) (s : Fin 256) : iblk m d 10 t (ix2 i s) = (0 : EReal) := by
  refine Eq.trans ?_ (V_si m d i s)
  blk_simp [iblk]
  refine congrArg (V m d main_v25) ?_
  funext a
  refine Fin.ext ?_
  fin_cases a <;> blk_simp [i10] <;> simp

/-! ## The loads -/

theorem in_row (t : Fin cfg0.N) (k : Fin 6144) : ldR (iblk m d 1 t) (ix2 0 k) = amo m d (ix2 4 k) := by
  refine Eq.trans ?_ (blk_mo m d t 4 k)
  refine congrArg (iblk m d 1 t) (funext fun a => Fin.ext ?_)
  fin_cases a
  · rfl
  · show 0 + 1 * k.val = k.val
    omega

/-- A load of a whole block is the block. -/
theorem ld_whole {S : Shape} {φ : EltTy} (x : Vec Ideal S φ) {off : Fin S.rank → ℕ} (inb : ∀ a, off a + S.size a ≤ S.size a)
    (h0 : ∀ a, off a = 0) : View.ld x (Rect.unit (s := S) off S.size inb) = x := View.ld_unit_lit' inb x h0

end Ctx

end
-- ==== Proof.Ctx.Ref.lean ====
/- The mathematics of the fourth call: the keys and values of the context's tokens, and that the plain reference computes them. -/
module

public import proofs.«01_k».proof.Proof.Gen.Reference4Ideal.Run
public import proofs.«01_k».proof.Proof.Proj.Ref
public import Idealize.ShloMosaic.Lib.Pipeline.ValueKit.Geometry

@[expose] public section

set_option maxRecDepth 16384

noncomputable section

namespace Ctx.Ref

open Cert.Reference4Ideal Cert.Reference4Ideal.Gen Idealize.ShloMosaic Idealize.ShloMosaic.TcCoe Idealize.SL.Sem
open Cert.Reference4Ideal.Facts
open Proj.Ref (eps rms kvraw kraw)

/-! ## At an index -/

/-- The context normalised and modulated by the table's row for it. -/
def hid (x : FVec Ideal S4x256x1024 .f32) (mo : FVec Ideal S8x6144 .f32) (n : FVec Ideal S1x1024 .f32) (b : Fin 4) (s : Fin 256)
    (j : Fin 1024) : EReal :=
  rms 0x44800000#32 (fun k => x (ix3 b s k)) (fun k => n (ix2 0 k)) j * (1 + mo (ix2 4 ⟨1024 + j.val, by omega⟩)) + mo (ix2 4 ⟨j.val, by omega⟩)

/-- Column `c` of the input projection of a context token. -/
def prj (x : FVec Ideal S4x256x1024 .f32) (mo : FVec Ideal S8x6144 .f32) (n : FVec Ideal S1x1024 .f32)
    (w : FVec Ideal S1x1024x2976 .f32) (b : Fin 4) (s : Fin 256) (c : Fin 2976) : EReal :=
  ∑ k : Fin 1024, hid x mo n b s k * w (ix3 0 k c)

/-- A context token's key head, without a rotation, in 128 channels of which 96 are used. -/
def kOut (P : Fin 2976 → EReal) (g : FVec Ideal S1x128 .f32) (w : FVec Ideal S1x128x1024 .f32) (G : FVec Ideal S1x96 .f32)
    (h : Fin 8) (c : Fin 128) : EReal :=
  if k : c.val < 96 then rms 0x42C00000#32 (kraw P g w h) (fun c => G (ix2 0 c)) ⟨c.val, k⟩ else 0

/-- A context token's value head: 64 channels, then 16 ones. -/
def vOut (P : Fin 2976 → EReal) (g : FVec Ideal S1x128 .f32) (w : FVec Ideal S1x128x1024 .f32) (h : Fin 8) (c : Fin 80) : EReal :=
  if k : c.val < 64 then kvraw P g w h ⟨64 + c.val, by omega⟩ else 1

/-! ## The arrays -/

def kA (P : Fin 4 → Fin 256 → Fin 2976 → EReal) (g : FVec Ideal S1x128 .f32) (w : FVec Ideal S1x128x1024 .f32) (G : FVec Ideal S1x96 .f32) :
    FVec Ideal S4x8x256x128 .bf16 := fun y => kOut (P (y 0) (y 2)) g w G (y 1) (y 3)

def vA (P : Fin 4 → Fin 256 → Fin 2976 → EReal) (g : FVec Ideal S1x128 .f32) (w : FVec Ideal S1x128x1024 .f32) :
    FVec Ideal S4x8x80x256 .bf16 := fun y => vOut (P (y 0) (y 3)) g w (y 1) (y 2)

theorem kA_at (P : Fin 4 → Fin 256 → Fin 2976 → EReal) (g : FVec Ideal S1x128 .f32) (w : FVec Ideal S1x128x1024 .f32)
    (G : FVec Ideal S1x96 .f32) (b : Fin 4) (h : Fin 8) (s : Fin 256) (c : Fin 128) : kA P g w G (ix4 b h s c) = kOut (P b s) g w G h c := rfl

theorem vA_at (P : Fin 4 → Fin 256 → Fin 2976 → EReal) (g : FVec Ideal S1x128 .f32) (w : FVec Ideal S1x128x1024 .f32)
    (b : Fin 4) (h : Fin 8) (c : Fin 80) (s : Fin 256) : vA P g w (ix4 b h c s) = vOut (P b s) g w h c := rfl

/-! ## The reference's steps -/

/-- The reference's modulated context. -/
def hidT (x : FVec Ideal S4x256x1024 .f32) (mo : FVec Ideal S8x6144 .f32) (n : FVec Ideal S1x1024 .f32) : FVec Ideal S4x256x1024 .f32 :=
  addf (mulf (mulf (mulf x (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf x x) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![2] bcast_S1024_S1x1x1024_2 (shapeCast _ n shapeCasts_S1x1024_S1024)))) (broadcastInDim S4x256x1024 ![0, 1, 2] bcast_S1x1x1024_S4x256x1024_0_1_2 (broadcastInDim S1x1x1024 ![2] bcast_S1024_S1x1x1024_2 (addf (broadcastInDim S1024 ![] bcast_S_S1024 (constant S_ .f32 0x3F800000#32)) (extractStridedSlice S1024 ![1024] (shapeCast _ (extractStridedSlice S1x6144 ![4, 0] mo slices_S8x6144_S1x6144_4_0) shapeCasts_S1x6144_S6144) slices_S6144_S1024_1024))))) (broadcastInDim S4x256x1024 ![0, 1, 2] bcast_S1x1x1024_S4x256x1024_0_1_2 (broadcastInDim S1x1x1024 ![2] bcast_S1024_S1x1x1024_2 (extractStridedSlice S1024 ![0] (shapeCast _ (extractStridedSlice S1x6144 ![4, 0] mo slices_S8x6144_S1x6144_4_0) shapeCasts_S1x6144_S6144) slices_S6144_S1024_0)))

theorem hidT_at (x : FVec Ideal S4x256x1024 .f32) (mo : FVec Ideal S8x6144 .f32) (n : FVec Ideal S1x1024 .f32) (b : Fin 4) (s : Fin 256)
    (j : Fin 1024) : hidT x mo n (ix3 b s j) = hid x mo n b s j := by
  pointwise [hidT, hid, rms, eps, Ideal.ofBits_one_f32]

/-- The reference's input projection of a modulated context. -/
def prjT (H : FVec Ideal S4x256x1024 .f32) (w : FVec Ideal S1x1024x2976 .f32) : FVec Ideal S4x256x2976 .f32 :=
  Host.dotGeneral (φ₁ := .f32) (φ₂ := .f32) dot_S4x256x1024_S1024x2976_S4x256x2976_2_0_01_1_n_n none H (shapeCast _ w shapeCasts_S1x1024x2976_S1024x2976)

theorem prjT_at (H : FVec Ideal S4x256x1024 .f32) (w : FVec Ideal S1x1024x2976 .f32) (b : Fin 4) (s : Fin 256) (c : Fin 2976) :
    prjT H w (ix3 b s c) = ∑ k : Fin 1024, H (ix3 b s k) * w (ix3 0 k c) := by
  pointwise [prjT]

/-- The reference's normalised latent of the keys and values. -/
def latT (P : FVec Ideal S4x256x2976 .f32) (g : FVec Ideal S1x128 .f32) : FVec Ideal S4x256x128 .f32 :=
  mulf (mulf (extractStridedSlice S4x256x128 ![0, 0, 768] P slices_S4x256x2976_S4x256x128_0_0_768) (broadcastInDim S4x256x128 ![0, 1, 2] bcast_S4x256x1_S4x256x128_0_1_2 (Host.rsqrt (addf (Host.divf (broadcastInDim S4x256x1 ![0, 1] bcast_S4x256_S4x256x1_0_1 (Host.reduceAdd (mulf (extractStridedSlice S4x256x128 ![0, 0, 768] P slices_S4x256x2976_S4x256x128_0_0_768) (extractStridedSlice S4x256x128 ![0, 0, 768] P slices_S4x256x2976_S4x256x128_0_0_768)) (constant S_ .f32 0x00000000#32) reducesTo_S4x256x128_S4x256_d2 h_S_)) (broadcastInDim S4x256x1 ![] bcast_S_S4x256x1 (constant S_ .f32 0x43000000#32))) (broadcastInDim S4x256x1 ![] bcast_S_S4x256x1 (constant S_ .f32 0x358637BD#32)))))) (broadcastInDim S4x256x128 ![0, 1, 2] bcast_S1x1x128_S4x256x128_0_1_2 (broadcastInDim S1x1x128 ![2] bcast_S128_S1x1x128_2 (shapeCast _ g shapeCasts_S1x128_S128)))

theorem latT_at (P : FVec Ideal S4x256x2976 .f32) (g : FVec Ideal S1x128 .f32) (b : Fin 4) (s : Fin 256) (k : Fin 128) :
    latT P g (ix3 b s k) = rms 0x43000000#32 (fun k : Fin 128 => P (ix3 b s ⟨768 + k.val, by omega⟩)) (fun k => g (ix2 0 k)) k := by
  pointwise [latT, rms, eps]

/-- The reference's keys and values of the eight heads. -/
def kvT (L : FVec Ideal S4x256x128 .f32) (wk : FVec Ideal S1x128x1024 .f32) : FVec Ideal S4x256x8x128 .f32 :=
  shapeCast _ (Host.dotGeneral (φ₁ := .f32) (φ₂ := .f32) dot_S4x256x128_S128x1024_S4x256x1024_2_0_01_1_n_n none L (shapeCast _ wk shapeCasts_S1x128x1024_S128x1024)) shapeCasts_S4x256x1024_S4x256x8x128

theorem kvT_at (L : FVec Ideal S4x256x128 .f32) (wk : FVec Ideal S1x128x1024 .f32) (b : Fin 4) (s : Fin 256) (h : Fin 8) (c : Fin 128) :
    kvT L wk (ix4 b s h c) = ∑ k : Fin 128, L (ix3 b s k) * wk (ix3 0 k ⟨h.val * 128 + c.val, by omega⟩) := by
  pointwise [kvT]

/-- The reference's raw keys: each head's own channels and the shared ones. -/
def rawT (P : FVec Ideal S4x256x2976 .f32) (KV : FVec Ideal S4x256x8x128 .f32) : FVec Ideal S4x256x8x96 .f32 :=
  concatenate S4x256x8x96 3 [⟨S4x256x8x64, (extractStridedSlice S4x256x8x64 ![0, 0, 0, 0] KV slices_S4x256x8x128_S4x256x8x64_0_0_0_0)⟩, ⟨S4x256x8x32, (broadcastInDim S4x256x8x32 ![0, 1, 2, 3] bcast_S4x256x1x32_S4x256x8x32_0_1_2_3 (broadcastInDim S4x256x1x32 ![0, 1, 3] bcast_S4x256x32_S4x256x1x32_0_1_3 (extractStridedSlice S4x256x32 ![0, 0, 896] P slices_S4x256x2976_S4x256x32_0_0_896)))⟩] concatenates_S4x256x8x64_S4x256x8x32_S4x256x8x96_d3

theorem rawT_at (P : FVec Ideal S4x256x2976 .f32) (KV : FVec Ideal S4x256x8x128 .f32) (b : Fin 4) (s : Fin 256) (h : Fin 8) (c : Fin 96) :
    rawT P KV (ix4 b s h c) = if k : c.val < 64 then KV (ix4 b s h ⟨c.val, by omega⟩) else P (ix3 b s ⟨896 + (c.val - 64), by omega⟩) := by
  pointwise [rawT]

/-- The reference's normalised keys. -/
def nrmT (C : FVec Ideal S4x256x8x96 .f32) (G : FVec Ideal S1x96 .f32) : FVec Ideal S4x256x8x96 .f32 :=
  mulf (mulf C (broadcastInDim S4x256x8x96 ![0, 1, 2, 3] bcast_S4x256x8x1_S4x256x8x96_0_1_2_3 (Host.rsqrt (addf (Host.divf (broadcastInDim S4x256x8x1 ![0, 1, 2] bcast_S4x256x8_S4x256x8x1_0_1_2 (Host.reduceAdd (mulf C C) (constant S_ .f32 0x00000000#32) reducesTo_S4x256x8x96_S4x256x8_d3 h_S_)) (broadcastInDim S4x256x8x1 ![] bcast_S_S4x256x8x1 (constant S_ .f32 0x42C00000#32))) (broadcastInDim S4x256x8x1 ![] bcast_S_S4x256x8x1 (constant S_ .f32 0x358637BD#32)))))) (broadcastInDim S4x256x8x96 ![0, 1, 2, 3] bcast_S1x1x1x96_S4x256x8x96_0_1_2_3 (broadcastInDim S1x1x1x96 ![3] bcast_S96_S1x1x1x96_3 (shapeCast _ G shapeCasts_S1x96_S96)))

theorem nrmT_at (C : FVec Ideal S4x256x8x96 .f32) (G : FVec Ideal S1x96 .f32) (b : Fin 4) (s : Fin 256) (h : Fin 8) (c : Fin 96) :
    nrmT C G (ix4 b s h c) = rms 0x42C00000#32 (fun c => C (ix4 b s h c)) (fun c => G (ix2 0 c)) c := by
  pointwise [nrmT, rms, eps]

/-- The reference's stored keys and values. -/
def keyT (N : FVec Ideal S4x256x8x96 .f32) : FVec Ideal S4x8x256x128 .bf16 :=
  truncf .bf16 (concatenate S4x8x256x128 3 [⟨S4x8x256x96, (transpose S4x8x256x96 [0, 2, 1, 3] N transposes_S4x256x8x96_S4x8x256x96_0_2_1_3)⟩, ⟨S4x8x256x32, (broadcastInDim S4x8x256x32 ![] bcast_S_S4x8x256x32 (constant S_ .f32 0x00000000#32))⟩] concatenates_S4x8x256x96_S4x8x256x32_S4x8x256x128_d3) bitsLt_bf16_f32

def valT (KV : FVec Ideal S4x256x8x128 .f32) : FVec Ideal S4x8x80x256 .bf16 :=
  truncf .bf16 (concatenate S4x8x80x256 2 [⟨S4x8x64x256, (transpose S4x8x64x256 [0, 2, 3, 1] (extractStridedSlice S4x256x8x64 ![0, 0, 0, 64] KV slices_S4x256x8x128_S4x256x8x64_0_0_0_64) transposes_S4x256x8x64_S4x8x64x256_0_2_3_1)⟩, ⟨S4x8x16x256, (broadcastInDim S4x8x16x256 ![] bcast_S_S4x8x16x256 (constant S_ .f32 0x3F800000#32))⟩] concatenates_S4x8x64x256_S4x8x16x256_S4x8x80x256_d2) bitsLt_bf16_f32

theorem keyT_at (N : FVec Ideal S4x256x8x96 .f32) (b : Fin 4) (h : Fin 8) (s : Fin 256) (c : Fin 128) :
    keyT N (ix4 b h s c) = if k : c.val < 96 then N (ix4 b s h ⟨c.val, k⟩) else 0 := by
  pointwise [keyT]

theorem valT_at (KV : FVec Ideal S4x256x8x128 .f32) (b : Fin 4) (h : Fin 8) (c : Fin 80) (s : Fin 256) :
    valT KV (ix4 b h c s) = if k : c.val < 64 then KV (ix4 b s h ⟨64 + c.val, by omega⟩) else 1 := by
  pointwise [valT, Ideal.ofBits_one_f32]

/-! ## The two results -/

variable (m : (ℓ : Loc nD τ sig) → Buf (Elt Ideal) ℓ) (d : Dev nD)

/-- The reference's arguments on device `d`. -/
abbrev ux : FVec Ideal S4x256x1024 .f32 := m ((d.tc : Thread nD τ).loc main_arg0)
abbrev umo : FVec Ideal S8x6144 .f32 := m ((d.tc : Thread nD τ).loc main_arg1)
abbrev un : FVec Ideal S1x1024 .f32 := m ((d.tc : Thread nD τ).loc main_arg2)
abbrev uw : FVec Ideal S1x1024x2976 .f32 := m ((d.tc : Thread nD τ).loc main_arg3)
abbrev ukn : FVec Ideal S1x128 .f32 := m ((d.tc : Thread nD τ).loc main_arg4)
abbrev uwk : FVec Ideal S1x128x1024 .f32 := m ((d.tc : Thread nD τ).loc main_arg5)
abbrev ukg : FVec Ideal S1x96 .f32 := m ((d.tc : Thread nD τ).loc main_arg6)

/-- The projections of the reference's arguments, at a token. -/
abbrev uP : Fin 4 → Fin 256 → Fin 2976 → EReal := prj (ux m d) (umo m d) (un m d) (uw m d)

abbrev PT := prjT (hidT (ux m d) (umo m d) (un m d)) (uw m d)
abbrev KVT := kvT (latT (PT m d) (ukn m d)) (uwk m d)

theorem PT_at (b : Fin 4) (s : Fin 256) (c : Fin 2976) : PT m d (ix3 b s c) = uP m d b s c := by
  refine (prjT_at _ _ _ _ _).trans ?_
  simp only [hidT_at]
  rfl

theorem KVT_at (b : Fin 4) (s : Fin 256) (h : Fin 8) (c : Fin 128) :
    KVT m d (ix4 b s h c) = kvraw (uP m d b s) (ukn m d) (uwk m d) h c := by
  refine (kvT_at _ _ _ _ _ _).trans ?_
  simp only [latT_at, PT_at]
  rfl

theorem RAWT_at (b : Fin 4) (s : Fin 256) (h : Fin 8) (c : Fin 96) :
    rawT (PT m d) (KVT m d) (ix4 b s h c) = kraw (uP m d b s) (ukn m d) (uwk m d) h c := by
  refine (rawT_at _ _ _ _ _ _).trans ?_
  simp only [KVT_at, PT_at]
  rfl

theorem res0_eq : Value.res_main_v73 m d = keyT (nrmT (rawT (PT m d) (KVT m d)) (ukg m d)) := by
  unfold Value.res_main_v73
  rfl

theorem res1_eq : Value.res_main_v77 m d = valT (KVT m d) := by
  unfold Value.res_main_v77
  rfl

theorem resK_eq : Value.res_main_v73 m d = kA (uP m d) (ukn m d) (uwk m d) (ukg m d) := by
  rw [res0_eq]
  funext y
  idx_vars y
  rw [keyT_at, kA_at]
  unfold kOut
  simp only [nrmT_at, RAWT_at]

theorem resV_eq : Value.res_main_v77 m d = vA (uP m d) (ukn m d) (uwk m d) := by
  rw [res1_eq]
  funext y
  idx_vars y
  rw [valT_at, vA_at]
  unfold vOut
  simp only [KVT_at]

end Ctx.Ref

end
-- ==== Proof.Ctx.Final.lean ====
/- What the fourth call stores, at an index, and its two results as arrays. -/
module

public import proofs.«01_k».proof.Proof.Ctx.Blocks
public import proofs.«01_k».proof.Proof.Ctx.Ref

@[expose] public section

set_option maxRecDepth 16384

noncomputable section

namespace Ctx

open Cert.Kernel4Ideal Cert.Kernel4Ideal.Gen Idealize.ShloMosaic Idealize.ShloMosaic.TcCoe Idealize.SL.Sem

open Proj (inv96 div_1024 rms96 sum_96)
open Proj.Ref (eps rms kvraw kraw)

variable (m : (ℓ : Loc nD τ sig) → Buf (Elt Ideal) ℓ) (d : Dev nD)

/-- The projections of the kernel's arguments. -/
abbrev aP : Fin 4 → Fin 256 → Fin 2976 → EReal := Ref.prj (ax m d) (amo m d) (an m d) (aw m d)

variable (t : Fin cfg0.N)

/-- The batch's rows projected on the columns of the keys and values. -/
abbrev PK := proj (iblk m d 0 t) (ldR (iblk m d 1 t)) (iblk m d 2 t) (iblk m d 3 t)

/-- The batch's keys, raw, and its values. -/
abbrev KN := heads (iblk m d 0 t) (ldR (iblk m d 1 t)) (iblk m d 2 t) (iblk m d 3 t) (iblk m d 4 t) (iblk m d 5 t)
abbrev VN := heads (iblk m d 0 t) (ldR (iblk m d 1 t)) (iblk m d 2 t) (iblk m d 3 t) (iblk m d 4 t) (iblk m d 6 t)

theorem PK_pt (s j : Fin 256) : PK m d t (ix2 s j) = aP m d (tb t) s ⟨768 + j.val, by omega⟩ := by
  refine (pay3_at _ _ _ _ _ _).trans ?_
  simp only [blk_x, in_row, blk_n, blk_w]
  unfold aP Ref.prj Ref.hid rms
  rw [div_1024]
  exact Finset.sum_congr rfl fun k _ => by rw [← mul_assoc]

theorem KN_pt (h : Fin 8) (c : Fin 64) (s : Fin 256) : KN m d t (ix2 ⟨h.val * 64 + c.val, by omega⟩ s) =
    kvraw (aP m d (tb t) s) (akn m d) (awk m d) h ⟨c.val, by omega⟩ := by
  refine (heads_at _ _ _ _ _ _ _ _).trans ?_
  simp only [PK_pt, blk_kn, blk_wkb]
  rfl

theorem VN_pt (h : Fin 8) (c : Fin 64) (s : Fin 256) : VN m d t (ix2 ⟨h.val * 64 + c.val, by omega⟩ s) =
    kvraw (aP m d (tb t) s) (akn m d) (awk m d) h ⟨64 + c.val, by omega⟩ := by
  refine (heads_at _ _ _ _ _ _ _ _).trans ?_
  simp only [PK_pt, blk_kn, blk_wv]
  rfl

theorem raw_lo (P : Fin 2976 → EReal) (g : FVec Ideal S1x128 .f32) (w : FVec Ideal S1x128x1024 .f32) (h : Fin 8) (k : Fin 64) :
    kraw P g w h ⟨k.val, by omega⟩ = kvraw P g w h ⟨k.val, by omega⟩ := dif_pos k.isLt

theorem raw_hi (P : Fin 2976 → EReal) (g : FVec Ideal S1x128 .f32) (w : FVec Ideal S1x128x1024 .f32) (h : Fin 8) (k : Fin 32) :
    kraw P g w h ⟨64 + k.val, by omega⟩ = P ⟨768 + (128 + k.val), by omega⟩ :=
  (dif_neg (by show ¬ 64 + k.val < 64; omega)).trans (congrArg P (Fin.ext (by show 896 + (64 + k.val - 64) = 768 + (128 + k.val); omega)))

theorem kroot_pt (h : Fin 8) (s : Fin 256) : kRoot (KN m d t) (k0_pay11 (PK m d t)) h (ix2 0 s) =
    Ideal.rsqrt ((∑ k, kraw (aP m d (tb t) s) (akn m d) (awk m d) h k * kraw (aP m d (tb t) s) (akn m d) (awk m d) h k) * inv96 + eps) := by
  rw [kRoot_at, sum_96, pay11_at]
  simp only [KN_pt, PK_pt, raw_lo, raw_hi]

theorem k_pt (h : Fin 8) (s : Fin 256) (c : Fin 128) :
    kTile (KN m d t) (k0_pay11 (PK m d t)) (k0_pay12 (PK m d t) (iblk m d 8 t) (iblk m d 9 t) (iblk m d 10 t)) (iblk m d 7 t) h (ix4 0 0 s c) =
      Ref.kOut (aP m d (tb t) s) (akn m d) (awk m d) (akg m d) h c := by
  rw [kTile_at, kroot_pt]
  unfold Ref.kOut
  by_cases h64 : c.val < 64
  · rw [dif_pos h64, dif_pos (by omega), rms96, pay13_at _ _ (blk_kgn m d t), mul_right_comm]
    refine congrArg (fun z => z * _ * _) ?_
    exact (KN_pt m d t h ⟨c.val, h64⟩ s).trans (raw_lo _ _ _ h ⟨c.val, h64⟩).symm
  rw [dif_neg h64]
  by_cases h96 : c.val < 96
  · rw [dif_pos h96, dif_pos h96, rms96, pay12_at _ _ _ _ _ (blk_kgr m d t) (blk_co m d t) (blk_si m d t), PK_pt, mul_right_comm]
    have e := raw_hi (aP m d (tb t) s) (akn m d) (awk m d) h ⟨c.val - 64, by omega⟩
    have e' : (⟨64 + (c.val - 64), by omega⟩ : Fin 96) = ⟨c.val, h96⟩ := Fin.ext (by show 64 + (c.val - 64) = c.val; omega)
    rw [← e]
    simp only [e']
  rw [dif_neg h96, dif_neg h96]

theorem v_pt (h : Fin 8) (c : Fin 80) (s : Fin 256) :
    vTile (VN m d t) h (ix4 0 0 c s) = Ref.vOut (aP m d (tb t) s) (akn m d) (awk m d) h c := by
  rw [vTile_at]
  unfold Ref.vOut
  by_cases k : c.val < 64
  · rw [dif_pos k, dif_pos k]
    exact VN_pt m d t h ⟨c.val, k⟩ s
  · rw [dif_neg k, dif_neg k]

/-! ## The arrays -/

/-- The piece that holds head `h`. -/
def pc (h : Fin 8) : Fin 8 := ⟨7 - h.val, by omega⟩

theorem hd_pc (h : Fin 8) : hd (pc h).val = h := Fin.ext (by show (7 - (7 - h.val)) % 8 = h.val; omega)

set_option maxHeartbeats 4000000 in
/-- The keys' window ends at the reference's array. -/
theorem final_K : (dats m 0 d).arrAt 11 cfg0.N = Ref.kA (aP m d) (akn m d) (awk m d) (akg m d) := by
  refine (dats m 0 d).arrAt_eq_of_covers 11 _ (by decide +kernel) fun t hf y => ?_
  blk_simp
  rw [after0_11, out_K, ld_whole _ _ (by decide), ld_whole _ _ (by decide), ld_whole _ _ (by decide), ld_whole _ _ (by decide),
    ld_whole _ _ (by decide), ld_whole _ _ (by decide), ld_whole _ _ (by decide), ld_whole _ _ (by decide), ld_whole _ _ (by decide)]
  idx_vars y
  have h0 : y0 = 0 := by omega
  subst h0
  have e : (win0_11.blk t).view.emb (ix4 0 y1 y2 y3) = ix4 (tb t) y1 y2 y3 := by
    funext a
    refine Fin.ext ?_
    fin_cases a <;> blk_simp [i11] <;> simp [tb]
  refine Eq.trans ?_ (congrArg (Ref.kA (aP m d) (akn m d) (awk m d) (akg m d)) e).symm
  rw [Ref.kA_at]
  refine View.canon_ofFn_unit_eq_of_forall (S := S1x8x256x128) (fun k : Fin 8 => ![0, (hd k.val).val, 0, 0]) S1x1x256x128.size
    (fun k => inbK (hd k.val)) _ _ _ ?_ fun k => ?_
  · refine ⟨pc y1, ?_⟩
    rw [hd_pc]
    intro a
    fin_cases a <;> simp
  · tile_intro z h
    idx_vars z
    have hz : z0 = 0 := by omega
    subst hz
    have hz1 : z1 = 0 := by omega
    subst hz1
    have q1 : y1.val = (hd k.val).val := h1
    refine (k_pt m d t (hd k.val) z2 z3).trans ?_
    rw [show y2 = z2 from Fin.ext h2, show y1 = hd k.val from Fin.ext q1, show y3 = z3 from Fin.ext h3]

set_option maxHeartbeats 4000000 in
/-- The values' window ends at the reference's array. -/
theorem final_V : (dats m 0 d).arrAt 12 cfg0.N = Ref.vA (aP m d) (akn m d) (awk m d) := by
  refine (dats m 0 d).arrAt_eq_of_covers 12 _ (by decide +kernel) fun t hf y => ?_
  blk_simp
  rw [after0_12, out_V, ld_whole _ _ (by decide), ld_whole _ _ (by decide), ld_whole _ _ (by decide), ld_whole _ _ (by decide),
    ld_whole _ _ (by decide)]
  idx_vars y
  have h0 : y0 = 0 := by omega
  subst h0
  have e : (win0_12.blk t).view.emb (ix4 0 y1 y2 y3) = ix4 (tb t) y1 y2 y3 := by
    funext a
    refine Fin.ext ?_
    fin_cases a <;> blk_simp [i12] <;> simp [tb]
  refine Eq.trans ?_ (congrArg (Ref.vA (aP m d) (akn m d) (awk m d)) e).symm
  rw [Ref.vA_at]
  refine View.canon_ofFn_unit_eq_of_forall (S := S1x8x80x256) (fun k : Fin 8 => ![0, (hd k.val).val, 0, 0]) S1x1x80x256.size
    (fun k => inbV (hd k.val)) _ _ _ ?_ fun k => ?_
  · refine ⟨pc y1, ?_⟩
    rw [hd_pc]
    intro a
    fin_cases a <;> simp
  · tile_intro z h
    idx_vars z
    have hz : z0 = 0 := by omega
    subst hz
    have hz1 : z1 = 0 := by omega
    subst hz1
    have q1 : y1.val = (hd k.val).val := h1
    refine (v_pt m d t (hd k.val) z2 z3).trans ?_
    rw [show y2 = z2 from Fin.ext h2, show y1 = hd k.val from Fin.ext q1, show y3 = z3 from Fin.ext h3]

end Ctx

end
-- ==== Proof.Ctx.Claim.lean ====
/- The fourth call's claims: the frames, the named constant, and the value claim against the plain reference. -/
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Ctx.Final
public import Idealize.ShloMosaic.Lib.Quiescent

@[expose] public section

set_option maxRecDepth 16384

noncomputable section

namespace Ctx

open Idealize.ShloMosaic Idealize.ShloMosaic.TcCoe Idealize.SL.Sem

theorem frame_k : Cert.quiescent_Kernel4 := fun m ρ _ => Cert.Kernel4.Gen.frame m ρ
theorem frame_ki : Cert.quiescent_Kernel4Ideal := fun m ρ _ => Cert.Kernel4Ideal.Gen.frame m ρ

/-- The reference's run read at its arguments; it has no semaphore. -/
theorem frame_ri : Cert.quiescent_Reference4Ideal := fun m ρ _ =>
  (θ_run Cert.Reference4Ideal.defs _ _).mono (fun r h => ⟨fun c => (h c).2.2,
      Idealize.ShloMosaic.sem_eq_zero_of_no_sems (by decide) r.2⟩)
    (Cert.Reference4Ideal.Value.run (F := Ideal) m ρ)

/-- The named constant is the number that its name says. -/
theorem preserves : Cert.preserves_Kernel4_Kernel4Ideal :=
  IdealRules.named_const.statement Cert.Kernel4Ideal.κ "inv_head" .f32 0x3C2AAAAB#32 ((1 / 96 : ℝ) : EReal) rfl

/-- The value claim, of both results: it needs nothing of the arguments. -/
theorem algebraic : Cert.algebraic_Kernel4Ideal_Reference4Ideal := by
  intro m ρ m' ρ' _ hagree
  refine ⟨fun c => Ref.kA (aP m c) (akn m c) (awk m c) (akg m c), fun c => Ref.vA (aP m c) (akn m c) (awk m c), ?_, ?_⟩
  · refine (θ_run Cert.Kernel4Ideal.defs _ _).mono (fun r h c => ?_) (Cert.Kernel4Ideal.Value.run_blocks (F := Ideal) m ρ)
    exact ⟨(h c).1.trans (final_K m c), (h c).2.1.trans (final_V m c), (h c).2.2⟩
  · refine (θ_run Cert.Reference4Ideal.defs _ _).mono (fun r h c => ?_) (Cert.Reference4Ideal.Value.run (F := Ideal) m' ρ')
    obtain ⟨a0, a1, a2, a3, a4, a5, a6⟩ := hagree c
    obtain ⟨hk, hv, hrest⟩ := h c
    have e0 : Ref.ux m' c = ax m c := a0
    have e1 : Ref.umo m' c = amo m c := a1
    have e2 : Ref.un m' c = an m c := a2
    have e3 : Ref.uw m' c = aw m c := a3
    have e4 : Ref.ukn m' c = akn m c := a4
    have e5 : Ref.uwk m' c = awk m c := a5
    have e6 : Ref.ukg m' c = akg m c := a6
    have e : Ref.uP m' c = aP m c := by
      unfold Ref.uP aP
      rw [e0, e1, e2, e3]
    have tk := Ref.resK_eq m' c
    have tv := Ref.resV_eq m' c
    rw [e, e4, e5, e6] at tk
    rw [e, e4, e5] at tv
    exact ⟨hk.trans tk, hv.trans tv, hrest⟩

end Ctx

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Pre_finite
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Att.Claim
public import proofs.«01_k».proof.Proof.Post.Claim
public import proofs.«01_k».proof.Proof.Proj.Claim
public import proofs.«01_k».proof.Proof.Ctx.Claim

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.Gen.facts,
  Att.frame_k, Att.frame_ki, Att.frame_kip, Att.frame_ri, Att.frame_rip, Post.frame_k, Post.frame_ki, Post.frame_ri,
  Proj.frame_k, Proj.frame_ki, Proj.frame_ri, Ctx.frame_k, Ctx.frame_ki, Ctx.frame_ri,
  trivial, Att.algebraic, trivial, Post.algebraic, Proj.preserves, Proj.algebraic,
  Ctx.preserves, Ctx.algebraic⟩

end Cert.Proof

end
